-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_ones [hPre_finite_and_ones : Cert.Pre_finite_and_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_ones [hPre_finite_and_ones : Cert.Pre_finite_and_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gate [hPre_finite_gate : Cert.Pre_finite_gate.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gate [hPre_finite_gate : Cert.Pre_finite_gate.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_ones [hKernelIdeal : Cert.KernelIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_ones [hReferenceIdeal : Cert.ReferenceIdeal.Facts] [hPre_finite_and_ones : Cert.Pre_finite_and_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite_gate [hKernel2Ideal : Cert.Kernel2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gate m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite_gate [hReference2Ideal : Cert.Reference2Ideal.Facts] [hPre_finite_gate : Cert.Pre_finite_gate.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gate m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_pre_finite_and_ones [hKernelIdeal : Cert.KernelIdeal.Facts] [hReferenceIdeal : Cert.ReferenceIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "cubic" .f32 0x3E922279#32 ((80338380498831 / 281474976710656 : ℝ) : EReal)

def algebraic_Kernel2Ideal_Reference2Ideal_pre_finite_gate [hKernel2Ideal : Cert.Kernel2Ideal.Facts] [hReference2Ideal : Cert.Reference2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gate m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v57_0)) (v1 : (c : Dev Cert.Kernel4Ideal.nD) → Buf (Elt Ideal) ((c.tc : Thread Cert.Kernel4Ideal.nD Cert.Kernel4Ideal.τ).loc Cert.Kernel4Ideal.main_v57_1)) (v2 : (c : Dev Cert.Kernel4Ideal.nD) → Buf (Elt Ideal) ((c.tc : Thread Cert.Kernel4Ideal.nD Cert.Kernel4Ideal.τ).loc Cert.Kernel4Ideal.main_v57_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v57_0) = v0 c
          ∧ r.2.mem ((c.tc : Thread Cert.Kernel4Ideal.nD Cert.Kernel4Ideal.τ).loc Cert.Kernel4Ideal.main_v57_1) = v1 c
          ∧ r.2.mem ((c.tc : Thread Cert.Kernel4Ideal.nD Cert.Kernel4Ideal.τ).loc Cert.Kernel4Ideal.main_v57_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v112) = v0 c
          ∧ r.2.mem ((c.tc : Thread Cert.Reference4Ideal.nD Cert.Reference4Ideal.τ).loc Cert.Reference4Ideal.main_v115) = v1 c
          ∧ r.2.mem ((c.tc : Thread Cert.Reference4Ideal.nD Cert.Reference4Ideal.τ).loc Cert.Reference4Ideal.main_v109) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_and_ones : Cert.Pre_finite_and_ones.Facts) (hPre_finite_gate : Cert.Pre_finite_gate.Facts),
    quiescent_Kernel (hKernel := hKernel)
    ∧ quiescent_KernelIdeal (hKernelIdeal := hKernelIdeal)
    ∧ quiescent_KernelIdeal_pre_finite_and_ones (hKernelIdeal := hKernelIdeal) (hPre_finite_and_ones := hPre_finite_and_ones)
    ∧ quiescent_ReferenceIdeal (hReferenceIdeal := hReferenceIdeal)
    ∧ quiescent_ReferenceIdeal_pre_finite_and_ones (hReferenceIdeal := hReferenceIdeal) (hPre_finite_and_ones := hPre_finite_and_ones)
    ∧ quiescent_Kernel2 (hKernel2 := hKernel2)
    ∧ quiescent_Kernel2Ideal (hKernel2Ideal := hKernel2Ideal)
    ∧ quiescent_Kernel2Ideal_pre_finite_gate (hKernel2Ideal := hKernel2Ideal) (hPre_finite_gate := hPre_finite_gate)
    ∧ quiescent_Reference2Ideal (hReference2Ideal := hReference2Ideal)
    ∧ quiescent_Reference2Ideal_pre_finite_gate (hReference2Ideal := hReference2Ideal) (hPre_finite_gate := hPre_finite_gate)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_and_ones (hKernelIdeal := hKernelIdeal) (hReferenceIdeal := hReferenceIdeal) (hPre_finite_and_ones := hPre_finite_and_ones)
    ∧ preserves_Kernel2_Kernel2Ideal
    ∧ algebraic_Kernel2Ideal_Reference2Ideal_pre_finite_gate (hKernel2Ideal := hKernel2Ideal) (hReference2Ideal := hReference2Ideal) (hPre_finite_gate := hPre_finite_gate)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_and_ones.lean ====
abbrev S16384x2048 : Shape := ⟨2, ![16384, 2048]⟩
abbrev S16384x8x2x128 : Shape := ⟨4, ![16384, 8, 2, 128]⟩
abbrev S_ : Shape := ⟨0, ![]⟩
abbrev S16384x8x1x1 : Shape := ⟨4, ![16384, 8, 1, 1]⟩
abbrev S16384x8 : Shape := ⟨2, ![16384, 8]⟩

class Facts : Prop where
  bitsLt_bf16_f32 : FTy.bits .bf16 < FTy.bits .f32
  shapeCasts_S16384x2048_S16384x8x2x128 : S16384x2048.ShapeCasts S16384x8x2x128
  bcast_S_S16384x2048 : S_.BroadcastsInDim S16384x2048 (![] : Fin 0 → Fin S16384x2048.rank)
  slices_S16384x8x2x128_S16384x8x1x1_0_0_0_64 : S16384x8x2x128.Slices ![0, 0, 0, 64] S16384x8x1x1
  shapeCasts_S16384x8x1x1_S16384x8 : S16384x8x1x1.ShapeCasts S16384x8
  bcast_S_S16384x8 : S_.BroadcastsInDim S16384x8 (![] : Fin 0 → Fin S16384x8.rank)
  slices_S16384x8x2x128_S16384x8x1x1_0_0_1_0 : S16384x8x2x128.Slices ![0, 0, 1, 0] S16384x8x1x1

variable [Facts]

def fn {F : FTy → Type} [FloatOps F] (main_arg0 : FVec F S16384x2048 .bf16) (main_arg1 : FVec F S16384x2048 .bf16) (main_arg2 : FVec F S16384x2048 .bf16) : IVec S16384x2048 1 × IVec S16384x2048 1 × IVec S16384x8 1 × IVec S16384x8 1 :=
  let main_v0 : FVec F S16384x2048 .f32 := (extf .f32 · bitsLt_bf16_f32) main_arg2
  let main_v1 : FVec F S16384x8x2x128 .f32 := shapeCast S16384x8x2x128 main_v0 shapeCasts_S16384x2048_S16384x8x2x128
  let main_v2 : FVec F S16384x2048 .f32 := (extf .f32 · bitsLt_bf16_f32) main_arg0
  let main_v3 : FVec F S16384x2048 .f32 := Host.absf main_v2
  let main_cst : FVec F S_ .f32 := constant S_ .f32 0x7F800000#32
  let main_v4 : FVec F S16384x2048 .f32 := broadcastInDim S16384x2048 ![] bcast_S_S16384x2048 main_cst
  let main_v5 : IVec S16384x2048 1 := cmpf .olt main_v3 main_v4
  let main_v6 : FVec F S16384x2048 .f32 := (extf .f32 · bitsLt_bf16_f32) main_arg1
  let main_v7 : FVec F S16384x2048 .f32 := Host.absf main_v6
  let main_cst_0 : FVec F S_ .f32 := constant S_ .f32 0x7F800000#32
  let main_v8 : FVec F S16384x2048 .f32 := broadcastInDim S16384x2048 ![] bcast_S_S16384x2048 main_cst_0
  let main_v9 : IVec S16384x2048 1 := cmpf .olt main_v7 main_v8
  let main_v10 : FVec F S16384x8x1x1 .f32 := (extractStridedSlice S16384x8x1x1 ![0, 0, 0, 64] · slices_S16384x8x2x128_S16384x8x1x1_0_0_0_64) main_v1
  let main_v11 : FVec F S16384x8 .f32 := shapeCast S16384x8 main_v10 shapeCasts_S16384x8x1x1_S16384x8
  let main_cst_1 : FVec F S_ .f32 := constant S_ .f32 0x3F800000#32
  let main_v12 : FVec F S16384x8 .f32 := broadcastInDim S16384x8 ![] bcast_S_S16384x8 main_cst_1
  let main_v13 : IVec S16384x8 1 := cmpf .oeq main_v11 main_v12
  let main_v14 : FVec F S16384x8x1x1 .f32 := (extractStridedSlice S16384x8x1x1 ![0, 0, 1, 0] · slices_S16384x8x2x128_S16384x8x1x1_0_0_1_0) main_v1
  let main_v15 : FVec F S16384x8 .f32 := shapeCast S16384x8 main_v14 shapeCasts_S16384x8x1x1_S16384x8
  let main_cst_2 : FVec F S_ .f32 := constant S_ .f32 0x3F800000#32
  let main_v16 : FVec F S16384x8 .f32 := broadcastInDim S16384x8 ![] bcast_S_S16384x8 main_cst_2
  let main_v17 : IVec S16384x8 1 := cmpf .oeq main_v15 main_v16
  (main_v5, main_v9, main_v13, main_v17)
-- ==== Pre_finite_gate.lean ====
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S_ : Shape := ⟨0, ![]⟩
abbrev S1024x2816 : Shape := ⟨2, ![1024, 2816]⟩
abbrev S3x2816 : Shape := ⟨2, ![3, 2816]⟩
abbrev S2816 : Shape := ⟨1, ![2816]⟩

class Facts : Prop where
  bcast_S_S16384x1024 : S_.BroadcastsInDim S16384x1024 (![] : Fin 0 → Fin S16384x1024.rank)
  slices_S1024x5632_S1024x2816_0_0 : S1024x5632.Slices ![0, 0] S1024x2816
  bcast_S_S1024x2816 : S_.BroadcastsInDim S1024x2816 (![] : Fin 0 → Fin S1024x2816.rank)
  slices_S3x5632_S3x2816_0_0 : S3x5632.Slices ![0, 0] S3x2816
  bcast_S_S3x2816 : S_.BroadcastsInDim S3x2816 (![] : Fin 0 → Fin S3x2816.rank)
  slices_S5632_S2816_0 : S5632.Slices ![0] S2816
  bcast_S_S2816 : S_.BroadcastsInDim S2816 (![] : Fin 0 → Fin S2816.rank)

variable [Facts]

def fn {F : FTy → Type} [FloatOps F] (main_arg0 : FVec F S16384x1024 .f32) (main_arg1 : FVec F S1024x5632 .f32) (main_arg2 : FVec F S3x5632 .f32) (main_arg3 : FVec F S5632 .f32) (main_arg4 : FVec F S2816x1024 .f32) (main_arg5 : FVec F S1024 .f32) (main_arg6 : FVec F S1024 .f32) : IVec S16384x1024 1 × IVec S1024x2816 1 × IVec S3x2816 1 × IVec S2816 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024x2816 .f32 := (extractStridedSlice S1024x2816 ![0, 0] · slices_S1024x5632_S1024x2816_0_0) main_arg1
  let main_v4 : FVec F S1024x2816 .f32 := Host.absf main_v3
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_v7 : FVec F S3x2816 .f32 := (extractStridedSlice S3x2816 ![0, 0] · slices_S3x5632_S3x2816_0_0) main_arg2
  let main_v8 : FVec F S3x2816 .f32 := Host.absf main_v7
  let main_cst_1 : FVec F S_ .f32 := constant S_ .f32 0x7F800000#32
  let main_v9 : FVec F S3x2816 .f32 := broadcastInDim S3x2816 ![] bcast_S_S3x2816 main_cst_1
  let main_v10 : IVec S3x2816 1 := cmpf .olt main_v8 main_v9
  let main_v11 : FVec F S2816 .f32 := (extractStridedSlice S2816 ![0] · slices_S5632_S2816_0) main_arg3
  let main_v12 : FVec F S2816 .f32 := Host.absf main_v11
  let main_cst_2 : FVec F S_ .f32 := constant S_ .f32 0x7F800000#32
  let main_v13 : FVec F S2816 .f32 := broadcastInDim S2816 ![] bcast_S_S2816 main_cst_2
  let main_v14 : IVec S2816 1 := cmpf .olt main_v12 main_v13
  (main_v2, main_v6, main_v10, main_v14)
-- ==== Kernel.lean ====
abbrev S16384x2048 : Shape := ⟨2, ![16384, 2048]⟩
abbrev S16384x1024 : Shape := ⟨2, ![16384, 1024]⟩
abbrev S1024x256 : Shape := ⟨2, ![1024, 256]⟩
abbrev S16384x256 : Shape := ⟨2, ![16384, 256]⟩
abbrev S1024x128 : Shape := ⟨2, ![1024, 128]⟩
abbrev S2x1024x128 : Shape := ⟨3, ![2, 1024, 128]⟩
abbrev S1024x1024 : Shape := ⟨2, ![1024, 1024]⟩
abbrev S1x1024x128 : Shape := ⟨3, ![1, 1024, 128]⟩
abbrev S1024 : Shape := ⟨1, ![1024]⟩
abbrev S1024x1 : Shape := ⟨2, ![1024, 1]⟩

abbrev nBuf : Space → Nat
  | .hbm => 4
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x1024, .bf16⟩
  | .local _ .vmem, ⟨0, _⟩ => ⟨S1024x256, .bf16⟩
  | .local _ .vmem, ⟨1, _⟩ => ⟨S1024x256, .bf16⟩
  | .local _ .vmem, ⟨2, _⟩ => ⟨S16384x256, .bf16⟩
  | .local _ .vmem, ⟨3, _⟩ => ⟨S16384x256, .bf16⟩
  | .local _ .vmem, ⟨4, _⟩ => ⟨S16384x256, .bf16⟩
  | .local _ .vmem, ⟨5, _⟩ => ⟨S16384x256, .bf16⟩
  | .local _ .vmem, ⟨6, _⟩ => ⟨S1024x128, .bf16⟩
  | .local _ .vmem, ⟨7, _⟩ => ⟨S1024x128, .bf16⟩
  | .local _ .vmem, ⟨8, _⟩ => ⟨S2x1024x128, .f32⟩
  | .local _ .vmem, ⟨9, _⟩ => ⟨S2x1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c2_i32 : BitVec 32 := 2#32
  let c0_i32_7 : BitVec 32 := 0#32
  let v15 : BitVec 1 := Scalar.cmpi .sgt c2_i32 c0_i32_7
  let v16 : BitVec 32 := Scalar.extui v15
  let c0_i32_8 : BitVec 32 := 0#32
  let v17 : BitVec 1 := Scalar.cmpi .slt c2_i32 c0_i32_8
  let v18 : BitVec 32 := Scalar.extui v17
  let v19 : BitVec 32 := Scalar.subi v16 v18
  let v20 : BitVec 1 := Scalar.cmpi .ne v14 v19
  let v21 : BitVec 32 := Scalar.remsi v8 c2_i32
  let c0_i32_9 : BitVec 32 := 0#32
  let v22 : BitVec 1 := Scalar.cmpi .ne v21 c0_i32_9
  let v23 : BitVec 1 := Scalar.andi v20 v22
  let v9 : BitVec 32 := Scalar.divsi v8 c2_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_14 : BitVec 32 := 1#32
  ⟨c0_i32_12, v30, c1_i32_14⟩
def k0_mult1 (i : grid0.Coords) (k0_t1 : Fin (k0_t1_loop i).trips) : BitVec 32 :=
  let c2_i32_102 : BitVec 32 := 2#32
  let c0_i32_12 : BitVec 32 := 0#32
  let c1_i32_14 : BitVec 32 := 1#32
  let arg8 : BitVec 32 := Scf.iv c0_i32_12 c1_i32_14 k0_t1
  let v232 : BitVec 32 := Scalar.muli c2_i32_102 arg8
  let c1024_i32_103 : BitVec 32 := 1024#32
  let v233 : BitVec 32 := Scalar.muli v232 c1024_i32_103
  v233
def k0_off1 (i : grid0.Coords) (k0_t1 : Fin (k0_t1_loop i).trips) : Fin 2 → Nat :=
  let c2_i32_102 : BitVec 32 := 2#32
  let c0_i32_12 : BitVec 32 := 0#32
  let c1_i32_14 : BitVec 32 := 1#32
  let arg8 : BitVec 32 := Scf.iv c0_i32_12 c1_i32_14 k0_t1
  let v232 : BitVec 32 := Scalar.muli c2_i32_102 arg8
  let c1024_i32_103 : BitVec 32 := 1024#32
  let v233 : BitVec 32 := Scalar.muli v232 c1024_i32_103
  let v234 : BitVec 32 := v233
  let v236 : Index := Scalar.indexCast v234
  let c0_106 : Index := 0#32
  ![v236.toNat, 0]
def k0_off2 (i : grid0.Coords) (k0_t1 : Fin (k0_t1_loop i).trips) : Fin 2 → Nat :=
  let c2_i32_102 : BitVec 32 := 2#32
  let c0_i32_12 : BitVec 32 := 0#32
  let c1_i32_14 : BitVec 32 := 1#32
  let arg8 : BitVec 32 := Scf.iv c0_i32_12 c1_i32_14 k0_t1
  let v232 : BitVec 32 := Scalar.muli c2_i32_102 arg8
  let c1024_i32_103 : BitVec 32 := 1024#32
  let v233 : BitVec 32 := Scalar.muli v232 c1024_i32_103
  let v234 : BitVec 32 := v233
  let v265 : Index := Scalar.indexCast v234
  let c128_125 : Index := 128#32
  ![v265.toNat, 128]
def k0_mult2 (i : grid0.Coords) (k0_t1 : Fin (k0_t1_loop i).trips) : BitVec 32 :=
  let c2_i32_142 : BitVec 32 := 2#32
  let c0_i32_12 : BitVec 32 := 0#32
  let c1_i32_14 : BitVec 32 := 1#32
  let arg8 : BitVec 32 := Scf.iv c0_i32_12 c1_i32_14 k0_t1
  let v293 : BitVec 32 := Scalar.muli c2_i32_142 arg8
  let c1_i32_143 : BitVec 32 := 1#32
  let v294 : BitVec 32 := Scalar.addi v293 c1_i32_143
  let c1024_i32_144 : BitVec 32 := 1024#32
  let v295 : BitVec 32 := Scalar.muli v294 c1024_i32_144
  v295
def k0_off3 (i : grid0.Coords) (k0_t1 : Fin (k0_t1_loop i).trips) : Fin 2 → Nat :=
  let c2_i32_142 : BitVec 32 := 2#32
  let c0_i32_12 : BitVec 32 := 0#32
  let c1_i32_14 : BitVec 32 := 1#32
  let arg8 : BitVec 32 := Scf.iv c0_i32_12 c1_i32_14 k0_t1
  let v293 : BitVec 32 := Scalar.muli c2_i32_142 arg8
  let c1_i32_143 : BitVec 32 := 1#32
  let v294 : BitVec 32 := Scalar.addi v293 c1_i32_143
  let c1024_i32_144 : BitVec 32 := 1024#32
  let v295 : BitVec 32 := Scalar.muli v294 c1024_i32_144
  let v296 : BitVec 32 := v295
  let v298 : Index := Scalar.indexCast v296
  let c0_147 : Index := 0#32
  ![v298.toNat, 0]
def k0_off4 (i : grid0.Coords) (k0_t1 : Fin (k0_t1_loop i).trips) : Fin 2 → Nat :=
  let c2_i32_142 : BitVec 32 := 2#32
  let c0_i32_12 : BitVec 32 := 0#32
  let c1_i32_14 : BitVec 32 := 1#32
  let arg8 : BitVec 32 := Scf.iv c0_i32_12 c1_i32_14 k0_t1
  let v293 : BitVec 32 := Scalar.muli c2_i32_142 arg8
  let c1_i32_143 : BitVec 32 := 1#32
  let v294 : BitVec 32 := Scalar.addi v293 c1_i32_143
  let c1024_i32_144 : BitVec 32 := 1024#32
  let v295 : BitVec 32 := Scalar.muli v294 c1024_i32_144
  let v296 : BitVec 32 := v295
  let v327 : Index := Scalar.indexCast v296
  let c128_166 : Index := 128#32
  ![v327.toNat, 128]
@[reducible] def k0_t2_loop (i : grid0.Coords) : Scf.Loop 32 :=
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c2_i32 : BitVec 32 := 2#32
  let c0_i32_7 : BitVec 32 := 0#32
  let v15 : BitVec 1 := Scalar.cmpi .sgt c2_i32 c0_i32_7
  let v16 : BitVec 32 := Scalar.extui v15
  let c0_i32_8 : BitVec 32 := 0#32
  let v17 : BitVec 1 := Scalar.cmpi .slt c2_i32 c0_i32_8
  let v18 : BitVec 32 := Scalar.extui v17
  let v19 : BitVec 32 := Scalar.subi v16 v18
  let v20 : BitVec 1 := Scalar.cmpi .ne v14 v19
  let v21 : BitVec 32 := Scalar.remsi v8 c2_i32
  let c0_i32_9 : BitVec 32 := 0#32
  let v22 : BitVec 1 := Scalar.cmpi .ne v21 c0_i32_9
  let v23 : BitVec 1 := Scalar.andi v20 v22
  let v9 : BitVec 32 := Scalar.divsi v8 c2_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let v27 : BitVec 32 := Scalar.addi c0_i32_12 v26
  let c1_i32_15 : BitVec 32 := 1#32
  ⟨v30, v27, c1_i32_15⟩
def k0_mult3 (i : grid0.Coords) (k0_t2 : Fin (k0_t2_loop i).trips) : BitVec 32 :=
  let c2_i32_102 : BitVec 32 := 2#32
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c2_i32 : BitVec 32 := 2#32
  let c0_i32_7 : BitVec 32 := 0#32
  let v15 : BitVec 1 := Scalar.cmpi .sgt c2_i32 c0_i32_7
  let v16 : BitVec 32 := Scalar.extui v15
  let c0_i32_8 : BitVec 32 := 0#32
  let v17 : BitVec 1 := Scalar.cmpi .slt c2_i32 c0_i32_8
  let v18 : BitVec 32 := Scalar.extui v17
  let v19 : BitVec 32 := Scalar.subi v16 v18
  let v20 : BitVec 1 := Scalar.cmpi .ne v14 v19
  let v21 : BitVec 32 := Scalar.remsi v8 c2_i32
  let c0_i32_9 : BitVec 32 := 0#32
  let v22 : BitVec 1 := Scalar.cmpi .ne v21 c0_i32_9
  let v23 : BitVec 1 := Scalar.andi v20 v22
  let v9 : BitVec 32 := Scalar.divsi v8 c2_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_15 : BitVec 32 := 1#32
  let arg8 : BitVec 32 := Scf.iv v30 c1_i32_15 k0_t2
  let v232 : BitVec 32 := Scalar.muli c2_i32_102 arg8
  let c1024_i32_103 : BitVec 32 := 1024#32
  let v233 : BitVec 32 := Scalar.muli v232 c1024_i32_103
  v233
def k0_off5 (i : grid0.Coords) (k0_t2 : Fin (k0_t2_loop i).trips) : Fin 2 → Nat :=
  let c2_i32_102 : BitVec 32 := 2#32
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c2_i32 : BitVec 32 := 2#32
  let c0_i32_7 : BitVec 32 := 0#32
  let v15 : BitVec 1 := Scalar.cmpi .sgt c2_i32 c0_i32_7
  let v16 : BitVec 32 := Scalar.extui v15
  let c0_i32_8 : BitVec 32 := 0#32
  let v17 : BitVec 1 := Scalar.cmpi .slt c2_i32 c0_i32_8
  let v18 : BitVec 32 := Scalar.extui v17
  let v19 : BitVec 32 := Scalar.subi v16 v18
  let v20 : BitVec 1 := Scalar.cmpi .ne v14 v19
  let v21 : BitVec 32 := Scalar.remsi v8 c2_i32
  let c0_i32_9 : BitVec 32 := 0#32
  let v22 : BitVec 1 := Scalar.cmpi .ne v21 c0_i32_9
  let v23 : BitVec 1 := Scalar.andi v20 v22
  let v9 : BitVec 32 := Scalar.divsi v8 c2_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_15 : BitVec 32 := 1#32
  let arg8 : BitVec 32 := Scf.iv v30 c1_i32_15 k0_t2
  let v232 : BitVec 32 := Scalar.muli c2_i32_102 arg8
  let c1024_i32_103 : BitVec 32 := 1024#32
  let v233 : BitVec 32 := Scalar.muli v232 c1024_i32_103
  let v234 : BitVec 32 := v233
  let v236 : Index := Scalar.indexCast v234
  let c0_106 : Index := 0#32
  ![v236.toNat, 0]
def k0_off6 (i : grid0.Coords) (k0_t2 : Fin (k0_t2_loop i).trips) : Fin 2 → Nat :=
  let c2_i32_102 : BitVec 32 := 2#32
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c2_i32 : BitVec 32 := 2#32
  let c0_i32_7 : BitVec 32 := 0#32
  let v15 : BitVec 1 := Scalar.cmpi .sgt c2_i32 c0_i32_7
  let v16 : BitVec 32 := Scalar.extui v15
  let c0_i32_8 : BitVec 32 := 0#32
  let v17 : BitVec 1 := Scalar.cmpi .slt c2_i32 c0_i32_8
  let v18 : BitVec 32 := Scalar.extui v17
  let v19 : BitVec 32 := Scalar.subi v16 v18
  let v20 : BitVec 1 := Scalar.cmpi .ne v14 v19
  let v21 : BitVec 32 := Scalar.remsi v8 c2_i32
  let c0_i32_9 : BitVec 32 := 0#32
  let v22 : BitVec 1 := Scalar.cmpi .ne v21 c0_i32_9
  let v23 : BitVec 1 := Scalar.andi v20 v22
  let v9 : BitVec 32 := Scalar.divsi v8 c2_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_15 : BitVec 32 := 1#32
  let arg8 : BitVec 32 := Scf.iv v30 c1_i32_15 k0_t2
  let v232 : BitVec 32 := Scalar.muli c2_i32_102 arg8
  let c1024_i32_103 : BitVec 32 := 1024#32
  let v233 : BitVec 32 := Scalar.muli v232 c1024_i32_103
  let v234 : BitVec 32 := v233
  let v265 : Index := Scalar.indexCast v234
  let c128_125 : Index := 128#32
  ![v265.toNat, 128]
def k0_mult4 (i : grid0.Coords) (k0_t2 : Fin (k0_t2_loop i).trips) : BitVec 32 :=
  let c2_i32_142 : BitVec 32 := 2#32
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c2_i32 : BitVec 32 := 2#32
  let c0_i32_7 : BitVec 32 := 0#32
  let v15 : BitVec 1 := Scalar.cmpi .sgt c2_i32 c0_i32_7
  let v16 : BitVec 32 := Scalar.extui v15
  let c0_i32_8 : BitVec 32 := 0#32
  let v17 : BitVec 1 := Scalar.cmpi .slt c2_i32 c0_i32_8
  let v18 : BitVec 32 := Scalar.extui v17
  let v19 : BitVec 32 := Scalar.subi v16 v18
  let v20 : BitVec 1 := Scalar.cmpi .ne v14 v19
  let v21 : BitVec 32 := Scalar.remsi v8 c2_i32
  let c0_i32_9 : BitVec 32 := 0#32
  let v22 : BitVec 1 := Scalar.cmpi .ne v21 c0_i32_9
  let v23 : BitVec 1 := Scalar.andi v20 v22
  let v9 : BitVec 32 := Scalar.divsi v8 c2_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_15 : BitVec 32 := 1#32
  let arg8 : BitVec 32 := Scf.iv v30 c1_i32_15 k0_t2
  let v293 : BitVec 32 := Scalar.muli c2_i32_142 arg8
  let c1_i32_143 : BitVec 32 := 1#32
  let v294 : BitVec 32 := Scalar.addi v293 c1_i32_143
  let c1024_i32_144 : BitVec 32 := 1024#32
  let v295 : BitVec 32 := Scalar.muli v294 c1024_i32_144
  v295
def k0_off7 (i : grid0.Coords) (k0_t2 : Fin (k0_t2_loop i).trips) : Fin 2 → Nat :=
  let c2_i32_142 : BitVec 32 := 2#32
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c2_i32 : BitVec 32 := 2#32
  let c0_i32_7 : BitVec 32 := 0#32
  let v15 : BitVec 1 := Scalar.cmpi .sgt c2_i32 c0_i32_7
  let v16 : BitVec 32 := Scalar.extui v15
  let c0_i32_8 : BitVec 32 := 0#32
  let v17 : BitVec 1 := Scalar.cmpi .slt c2_i32 c0_i32_8
  let v18 : BitVec 32 := Scalar.extui v17
  let v19 : BitVec 32 := Scalar.subi v16 v18
  let v20 : BitVec 1 := Scalar.cmpi .ne v14 v19
  let v21 : BitVec 32 := Scalar.remsi v8 c2_i32
  let c0_i32_9 : BitVec 32 := 0#32
  let v22 : BitVec 1 := Scalar.cmpi .ne v21 c0_i32_9
  let v23 : BitVec 1 := Scalar.andi v20 v22
  let v9 : BitVec 32 := Scalar.divsi v8 c2_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_15 : BitVec 32 := 1#32
  let arg8 : BitVec 32 := Scf.iv v30 c1_i32_15 k0_t2
  let v293 : BitVec 32 := Scalar.muli c2_i32_142 arg8
  let c1_i32_143 : BitVec 32 := 1#32
  let v294 : BitVec 32 := Scalar.addi v293 c1_i32_143
  let c1024_i32_144 : BitVec 32 := 1024#32
  let v295 : BitVec 32 := Scalar.muli v294 c1024_i32_144
  let v296 : BitVec 32 := v295
  let v298 : Index := Scalar.indexCast v296
  let c0_147 : Index := 0#32
  ![v298.toNat, 0]
def k0_off8 (i : grid0.Coords) (k0_t2 : Fin (k0_t2_loop i).trips) : Fin 2 → Nat :=
  let c2_i32_142 : BitVec 32 := 2#32
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c2_i32 : BitVec 32 := 2#32
  let c0_i32_7 : BitVec 32 := 0#32
  let v15 : BitVec 1 := Scalar.cmpi .sgt c2_i32 c0_i32_7
  let v16 : BitVec 32 := Scalar.extui v15
  let c0_i32_8 : BitVec 32 := 0#32
  let v17 : BitVec 1 := Scalar.cmpi .slt c2_i32 c0_i32_8
  let v18 : BitVec 32 := Scalar.extui v17
  let v19 : BitVec 32 := Scalar.subi v16 v18
  let v20 : BitVec 1 := Scalar.cmpi .ne v14 v19
  let v21 : BitVec 32 := Scalar.remsi v8 c2_i32
  let c0_i32_9 : BitVec 32 := 0#32
  let v22 : BitVec 1 := Scalar.cmpi .ne v21 c0_i32_9
  let v23 : BitVec 1 := Scalar.andi v20 v22
  let v9 : BitVec 32 := Scalar.divsi v8 c2_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_15 : BitVec 32 := 1#32
  let arg8 : BitVec 32 := Scf.iv v30 c1_i32_15 k0_t2
  let v293 : BitVec 32 := Scalar.muli c2_i32_142 arg8
  let c1_i32_143 : BitVec 32 := 1#32
  let v294 : BitVec 32 := Scalar.addi v293 c1_i32_143
  let c1024_i32_144 : BitVec 32 := 1024#32
  let v295 : BitVec 32 := Scalar.muli v294 c1024_i32_144
  let v296 : BitVec 32 := v295
  let v327 : Index := Scalar.indexCast v296
  let c128_166 : Index := 128#32
  ![v327.toNat, 128]
def k0_cond1 (i : grid0.Coords) : BitVec 1 :=
  let arg1 : BitVec 32 := BitVec.ofNat 32 (i 1).val
  let c1_i32 : BitVec 32 := 1#32
  let v8 : BitVec 32 := Scalar.muli arg1 c1_i32
  let c2_i32_16 : BitVec 32 := 2#32
  let c0_i32_17 : BitVec 32 := 0#32
  let v31 : BitVec 1 := Scalar.cmpi .eq c2_i32_16 c0_i32_17
  let c1_i32_18 : BitVec 32 := 1#32
  let v32 : BitVec 32 := Scalar.select v31 c1_i32_18 c2_i32_16
  let v33 : BitVec 32 := Scalar.remsi v8 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c1_i32_22 : BitVec 32 := 1#32
  let v41 : BitVec 1 := Scalar.cmpi .eq v40 c1_i32_22
  let v42 : BitVec 32 := Scalar.extui v41
  let c0_i32_23 : BitVec 32 := 0#32
  let v43 : BitVec 1 := Scalar.cmpi .ne v42 c0_i32_23
  v43

def k0_mult5 (i : grid0.Coords) : BitVec 32 :=
  let arg1 : BitVec 32 := BitVec.ofNat 32 (i 1).val
  let c1_i32 : BitVec 32 := 1#32
  let v8 : BitVec 32 := Scalar.muli arg1 c1_i32
  let c1_i32_102 : BitVec 32 := 1#32
  let v232 : BitVec 32 := Scalar.subi v8 c1_i32_102
  let c1024_i32_103 : BitVec 32 := 1024#32
  let v233 : BitVec 32 := Scalar.muli v232 c1024_i32_103
  v233
def k0_off9 (i : grid0.Coords) : Fin 2 → Nat :=
  let arg1 : BitVec 32 := BitVec.ofNat 32 (i 1).val
  let c1_i32 : BitVec 32 := 1#32
  let v8 : BitVec 32 := Scalar.muli arg1 c1_i32
  let c1_i32_102 : BitVec 32 := 1#32
  let v232 : BitVec 32 := Scalar.subi v8 c1_i32_102
  let c1024_i32_103 : BitVec 32 := 1024#32
  let v233 : BitVec 32 := Scalar.muli v232 c1024_i32_103
  let v234 : BitVec 32 := v233
  let v236 : Index := Scalar.indexCast v234
  let c0_106 : Index := 0#32
  ![v236.toNat, 0]
def k0_off10 (i : grid0.Coords) : Fin 2 → Nat :=
  let arg1 : BitVec 32 := BitVec.ofNat 32 (i 1).val
  let c1_i32 : BitVec 32 := 1#32
  let v8 : BitVec 32 := Scalar.muli arg1 c1_i32
  let c1_i32_102 : BitVec 32 := 1#32
  let v232 : BitVec 32 := Scalar.subi v8 c1_i32_102
  let c1024_i32_103 : BitVec 32 := 1024#32
  let v233 : BitVec 32 := Scalar.muli v232 c1024_i32_103
  let v234 : BitVec 32 := v233
  let v265 : Index := Scalar.indexCast v234
  let c128_125 : Index := 128#32
  ![v265.toNat, 128]
def k0_mult6 (i : grid0.Coords) : BitVec 32 :=
  let arg1 : BitVec 32 := BitVec.ofNat 32 (i 1).val
  let c1_i32_24 : BitVec 32 := 1#32
  let v44 : BitVec 32 := Scalar.muli arg1 c1_i32_24
  let c0_i32_25 : BitVec 32 := 0#32
  let v45 : BitVec 32 := Scalar.addi v44 c0_i32_25
  let c1024_i32 : BitVec 32 := 1024#32
  let v46 : BitVec 32 := Scalar.muli v45 c1024_i32
  v46
def k0_off11 (i : grid0.Coords) : Fin 2 → Nat :=
  let arg1 : BitVec 32 := BitVec.ofNat 32 (i 1).val
  let c1_i32_24 : BitVec 32 := 1#32
  let v44 : BitVec 32 := Scalar.muli arg1 c1_i32_24
  let c0_i32_25 : BitVec 32 := 0#32
  let v45 : BitVec 32 := Scalar.addi v44 c0_i32_25
  let c1024_i32 : BitVec 32 := 1024#32
  let v46 : BitVec 32 := Scalar.muli v45 c1024_i32
  let v47 : BitVec 32 := v46
  let v49 : Index := Scalar.indexCast v47
  let c0_28 : Index := 0#32
  ![v49.toNat, 0]
def k0_off12 (i : grid0.Coords) : Fin 2 → Nat :=
  let arg1 : BitVec 32 := BitVec.ofNat 32 (i 1).val
  let c1_i32_24 : BitVec 32 := 1#32
  let v44 : BitVec 32 := Scalar.muli arg1 c1_i32_24
  let c0_i32_25 : BitVec 32 := 0#32
  let v45 : BitVec 32 := Scalar.addi v44 c0_i32_25
  let c1024_i32 : BitVec 32 := 1024#32
  let v46 : BitVec 32 := Scalar.muli v45 c1024_i32
  let v47 : BitVec 32 := v46
  let v133 : Index := Scalar.indexCast v47
  let c128_61 : Index := 128#32
  ![v133.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16384x2048 : Shape := ⟨2, ![16384, 2048]⟩
abbrev S16384x16x128 : Shape := ⟨3, ![16384, 16, 128]⟩
abbrev S16384x8x2x128 : Shape := ⟨4, ![16384, 8, 2, 128]⟩
abbrev S16384x8x1x64 : Shape := ⟨4, ![16384, 8, 1, 64]⟩
abbrev S16384x8x64 : Shape := ⟨3, ![16384, 8, 64]⟩
abbrev S16384x8x2x64 : Shape := ⟨4, ![16384, 8, 2, 64]⟩
abbrev S16384x16x64 : Shape := ⟨3, ![16384, 16, 64]⟩
abbrev S16x16384x16384 : Shape := ⟨3, ![16, 16384, 16384]⟩
abbrev S16384 : Shape := ⟨1, ![16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S16x16384 : Shape := ⟨2, ![16, 16384]⟩
abbrev S16x16384x1 : Shape := ⟨3, ![16, 16384, 1]⟩
abbrev S16x64x16384 : Shape := ⟨3, ![16, 64, 16384]⟩
abbrev S16384x1024 : Shape := ⟨2, ![16384, 1024]⟩

abbrev nBuf : Space → Nat
  | .hbm => 65
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x2048, .f32⟩
  | .hbm, ⟨4, _⟩ => ⟨S16384x16x128, .f32⟩
  | .hbm, ⟨5, _⟩ => ⟨S16384x2048, .f32⟩
  | .hbm, ⟨6, _⟩ => ⟨S16384x16x128, .f32⟩
  | .hbm, ⟨7, _⟩ => ⟨S16384x2048, .f32⟩
  | .hbm, ⟨8, _⟩ => ⟨S16384x8x2x128, .f32⟩
  | .hbm, ⟨9, _⟩ => ⟨S16384x8x1x64, .f32⟩
  | .hbm, ⟨10, _⟩ => ⟨S16384x8x64, .f32⟩
  | .hbm, ⟨11, _⟩ => ⟨S16384x8x1x64, .f32⟩
  | .hbm, ⟨12, _⟩ => ⟨S16384x8x64, .f32⟩
  | .hbm, ⟨13, _⟩ => ⟨S16384x8x1x64, .f32⟩
  | .hbm, ⟨14, _⟩ => ⟨S16384x8x1x64, .f32⟩
  | .hbm, ⟨15, _⟩ => ⟨S16384x8x2x64, .f32⟩
  | .hbm, ⟨16, _⟩ => ⟨S16384x16x64, .f32⟩
  | .hbm, ⟨17, _⟩ => ⟨S16x16384x16384, .f32⟩
  | .hbm, ⟨18, _⟩ => ⟨S16384, .i32⟩
  | .hbm, ⟨19, _⟩ => ⟨S_, .i32⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S16384, .i32⟩
  | .hbm, ⟨28, _⟩ => ⟨S16384, .i32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S1x16384, .i32⟩
  | .hbm, ⟨38, _⟩ => ⟨S16384x1, .i32⟩
  | .hbm, ⟨39, _⟩ => ⟨S16384x16384, .i32⟩
  | .hbm, ⟨40, _⟩ => ⟨S16384x16384, .i32⟩
  | .hbm, ⟨41, _⟩ => ⟨S16384x16384, .i1⟩
  | .hbm, ⟨42, _⟩ => ⟨S1x16384x16384, .i1⟩
  | .hbm, ⟨43, _⟩ => ⟨S_, .f32⟩
  | .hbm, ⟨44, _⟩ => ⟨S_, .f32⟩
  | .hbm, ⟨45, _⟩ => ⟨S16x16384x16384, .i1⟩
  | .hbm, ⟨46, _⟩ => ⟨S16x16384x16384, .f32⟩
  | .hbm, ⟨47, _⟩ => ⟨S16x16384x16384, .f32⟩
  | .hbm, ⟨48, _⟩ => ⟨S_, .f32⟩
  | .hbm, ⟨49, _⟩ => ⟨S16x16384, .f32⟩
  | .hbm, ⟨50, _⟩ => ⟨S16x16384x1, .f32⟩
  | .hbm, ⟨51, _⟩ => ⟨S_, .f32⟩
  | .hbm, ⟨52, _⟩ => ⟨S16x16384x16384, .f32⟩
  | .hbm, ⟨53, _⟩ => ⟨S16x16384x16384, .f32⟩
  | .hbm, ⟨54, _⟩ => ⟨S16x16384x16384, .f32⟩
  | .hbm, ⟨55, _⟩ => ⟨S16x16384x16384, .f32⟩
  | .hbm, ⟨56, _⟩ => ⟨S_, .f32⟩
  | .hbm, ⟨57, _⟩ => ⟨S16x16384, .f32⟩
  | .hbm, ⟨58, _⟩ => ⟨S16x16384x1, .f32⟩
  | .hbm, ⟨59, _⟩ => ⟨S16x16384x16384, .f32⟩
  | .hbm, ⟨60, _⟩ => ⟨S16x16384x16384, .f32⟩
  | .hbm, ⟨61, _⟩ => ⟨S16x64x16384, .f32⟩
  | .hbm, ⟨62, _⟩ => ⟨S16384x16x64, .f32⟩
  | .hbm, ⟨63, _⟩ => ⟨S16384x1024, .f32⟩
  | .hbm, ⟨64, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v23 : Ref sig .tc := ⟨.hbm, 47, rfl⟩
abbrev main_cst_0 : Ref sig .tc := ⟨.hbm, 48, rfl⟩
abbrev main_v24 : Ref sig .tc := ⟨.hbm, 49, rfl⟩
abbrev main_v25 : Ref sig .tc := ⟨.hbm, 50, rfl⟩
abbrev main_cst_1 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩

abbrev nD : Nat := 1
abbrev τ : Topo := Topo.v7x

variable {F : FTy → Type} [FloatOps F]
-- ==== Kernel2.lean ====
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1024x2816 : Shape := ⟨2, ![1024, 2816]⟩
abbrev S1x5632 : Shape := ⟨2, ![1, 5632]⟩
abbrev S1x1024 : Shape := ⟨2, ![1, 1024]⟩
abbrev S512x1024 : Shape := ⟨2, ![512, 1024]⟩
abbrev S11x16x256 : Shape := ⟨3, ![11, 16, 256]⟩
abbrev S2x528x256 : Shape := ⟨3, ![2, 528, 256]⟩
abbrev S512x2816 : Shape := ⟨2, ![512, 2816]⟩
abbrev S8x64x1024 : Shape := ⟨3, ![8, 64, 1024]⟩
abbrev S64x8x1024 : Shape := ⟨3, ![64, 8, 1024]⟩
abbrev S8x256 : Shape := ⟨2, ![8, 256]⟩
abbrev S1024x256 : Shape := ⟨2, ![1024, 256]⟩
abbrev S512x256 : Shape := ⟨2, ![512, 256]⟩
abbrev S1x512x256 : Shape := ⟨3, ![1, 512, 256]⟩
abbrev S1x16x256 : Shape := ⟨3, ![1, 16, 256]⟩
abbrev S16x256 : Shape := ⟨2, ![16, 256]⟩
abbrev S1x8x256 : Shape := ⟨3, ![1, 8, 256]⟩
abbrev S1x256 : Shape := ⟨2, ![1, 256]⟩
abbrev S512x1536 : Shape := ⟨2, ![512, 1536]⟩
abbrev S1536x1024 : Shape := ⟨2, ![1536, 1024]⟩
abbrev S256x1024 : Shape := ⟨2, ![256, 1024]⟩
abbrev S256x1280 : Shape := ⟨2, ![256, 1280]⟩
abbrev S1280x1024 : Shape := ⟨2, ![1280, 1024]⟩
abbrev S32x8x1024 : Shape := ⟨3, ![32, 8, 1024]⟩
abbrev S8x32x1024 : Shape := ⟨3, ![8, 32, 1024]⟩
abbrev S32x1024 : Shape := ⟨2, ![32, 1024]⟩
abbrev S256 : Shape := ⟨1, ![256]⟩
abbrev S256x1 : Shape := ⟨2, ![256, 1]⟩

abbrev nBuf : Space → Nat
  | .hbm => 16
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S1x5632, .f32⟩
  | .hbm, ⟨12, _⟩ => ⟨S2816x1024, .bf16⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S11x16x256, .f32⟩
  | .local _ .vmem, ⟨12, _⟩ => ⟨S11x16x256, .f32⟩
  | .local _ .vmem, ⟨13, _⟩ => ⟨S2x528x256, .f32⟩
  | .local _ .vmem, ⟨14, _⟩ => ⟨S2x528x256, .f32⟩
  | .local _ .vmem, ⟨15, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel2Ideal.lean ====
variable {F : FTy → Type} [FloatOps F] [Named F]
def κ : String → Option EReal := fun
  | "cubic" => some ((80338380498831 / 281474976710656 : ℝ) : EReal)
  | _ => none
-- ==== Reference2Ideal.lean ====
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S16384x5632 : Shape := ⟨2, ![16384, 5632]⟩
abbrev S_ : Shape := ⟨0, ![]⟩
abbrev S16386x5632 : Shape := ⟨2, ![16386, 5632]⟩
abbrev S1x5632 : Shape := ⟨2, ![1, 5632]⟩
abbrev S16384x2816 : Shape := ⟨2, ![16384, 2816]⟩
abbrev S16384 : Shape := ⟨1, ![16384]⟩
abbrev S16384x1 : Shape := ⟨2, ![16384, 1]⟩
abbrev S1x1024 : Shape := ⟨2, ![1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S16384x5632, .f32⟩
  | .hbm, ⟨8, _⟩ => ⟨S_, .i32⟩
  | .hbm, ⟨9, _⟩ => ⟨S_, .f32⟩
  | .hbm, ⟨10, _⟩ => ⟨S16386x5632, .f32⟩
  | .hbm, ⟨11, _⟩ => ⟨S16384x5632, .f32⟩
  | .hbm, ⟨12, _⟩ => ⟨S1x5632, .f32⟩
  | .hbm, ⟨13, _⟩ => ⟨S5632, .f32⟩
  | .hbm, ⟨14, _⟩ => ⟨S1x5632, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S1x5632, .f32⟩
  | .hbm, ⟨19, _⟩ => ⟨S5632, .f32⟩
  | .hbm, ⟨20, _⟩ => ⟨S1x5632, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S16384x5632, .f32⟩
  | .hbm, ⟨25, _⟩ => ⟨S1x5632, .f32⟩
  | .hbm, ⟨26, _⟩ => ⟨S5632, .f32⟩
  | .hbm, ⟨27, _⟩ => ⟨S1x5632, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S1x5632, .f32⟩
  | .hbm, ⟨32, _⟩ => ⟨S16384x5632, .f32⟩
  | .hbm, ⟨33, _⟩ => ⟨S16384x5632, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S_, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S_, .f32⟩
  | .hbm, ⟨50, _⟩ => ⟨S16384x2816, .f32⟩
  | .hbm, ⟨51, _⟩ => ⟨S16384x2816, .f32⟩
  | .hbm, ⟨52, _⟩ => ⟨S_, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x1, .f32⟩
  | .hbm, ⟨80, _⟩ => ⟨S16384x1024, .f32⟩
  | .hbm, ⟨81, _⟩ => ⟨S16384x1024, .f32⟩
  | .hbm, ⟨82, _⟩ => ⟨S1x1024, .f32⟩
  | .hbm, ⟨83, _⟩ => ⟨S16384x1024, .f32⟩
  | .hbm, ⟨84, _⟩ => ⟨S16384x1024, .f32⟩
  | .hbm, ⟨85, _⟩ => ⟨S1x1024, .f32⟩
  | .hbm, ⟨86, _⟩ => ⟨S16384x1024, .f32⟩
  | .hbm, ⟨87, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Kernel3.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel4.lean ====
abbrev S16384x1024 : Shape := ⟨2, ![16384, 1024]⟩
abbrev S16384x1 : Shape := ⟨2, ![16384, 1]⟩
abbrev S1024x1056 : Shape := ⟨2, ![1024, 1056]⟩
abbrev S768 : Shape := ⟨1, ![768]⟩
abbrev S256 : Shape := ⟨1, ![256]⟩
abbrev S768x1536 : Shape := ⟨2, ![768, 1536]⟩
abbrev S256x2048 : Shape := ⟨2, ![256, 2048]⟩
abbrev S1024x768 : Shape := ⟨2, ![1024, 768]⟩
abbrev S1024x256 : Shape := ⟨2, ![1024, 256]⟩
abbrev S1024x32 : Shape := ⟨2, ![1024, 32]⟩
abbrev S_ : Shape := ⟨0, ![]⟩
abbrev S1024x128 : Shape := ⟨2, ![1024, 128]⟩
abbrev S768x16x96 : Shape := ⟨3, ![768, 16, 96]⟩
abbrev S768x16x128 : Shape := ⟨3, ![768, 16, 128]⟩
abbrev S768x2048 : Shape := ⟨2, ![768, 2048]⟩
abbrev S256x16x128 : Shape := ⟨3, ![256, 16, 128]⟩
abbrev S256x16x64 : Shape := ⟨3, ![256, 16, 64]⟩
abbrev S256x8x2x64 : Shape := ⟨4, ![256, 8, 2, 64]⟩
abbrev S256x8x1x64 : Shape := ⟨4, ![256, 8, 1, 64]⟩
abbrev S256x8x64 : Shape := ⟨3, ![256, 8, 64]⟩
abbrev S256x8x4x64 : Shape := ⟨4, ![256, 8, 4, 64]⟩
abbrev S1 : Shape := ⟨1, ![1]⟩
abbrev S1x256 : Shape := ⟨2, ![1, 256]⟩
abbrev S8x256 : Shape := ⟨2, ![8, 256]⟩
abbrev S2048 : Shape := ⟨1, ![2048]⟩
abbrev S1x2048 : Shape := ⟨2, ![1, 2048]⟩
abbrev S16 : Shape := ⟨1, ![16]⟩
abbrev S64 : Shape := ⟨1, ![64]⟩
abbrev S32 : Shape := ⟨1, ![32]⟩
abbrev S128 : Shape := ⟨1, ![128]⟩
abbrev S1x128 : Shape := ⟨2, ![1, 128]⟩
abbrev S1x768 : Shape := ⟨2, ![1, 768]⟩
abbrev S16384x2048 : Shape := ⟨2, ![16384, 2048]⟩
abbrev S512x1024 : Shape := ⟨2, ![512, 1024]⟩
abbrev S512x1 : Shape := ⟨2, ![512, 1]⟩
abbrev S512x2048 : Shape := ⟨2, ![512, 2048]⟩
abbrev S512x768 : Shape := ⟨2, ![512, 768]⟩
abbrev S512x256 : Shape := ⟨2, ![512, 256]⟩
abbrev S512x128 : Shape := ⟨2, ![512, 128]⟩
abbrev S512 : Shape := ⟨1, ![512]⟩
abbrev S768x256 : Shape := ⟨2, ![768, 256]⟩
abbrev S256x256 : Shape := ⟨2, ![256, 256]⟩

abbrev nBuf : Space → Nat
  | .hbm => 85
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1, .f32⟩
  | .hbm, ⟨2, _⟩ => ⟨S1024x1056, .f32⟩
  | .hbm, ⟨3, _⟩ => ⟨S768, .f32⟩
  | .hbm, ⟨4, _⟩ => ⟨S256, .f32⟩
  | .hbm, ⟨5, _⟩ => ⟨S768x1536, .f32⟩
  | .hbm, ⟨6, _⟩ => ⟨S256x2048, .f32⟩
  | .hbm, ⟨7, _⟩ => ⟨S1024x768, .f32⟩
  | .hbm, ⟨8, _⟩ => ⟨S1024x768, .bf16⟩
  | .hbm, ⟨9, _⟩ => ⟨S1024x256, .f32⟩
  | .hbm, ⟨10, _⟩ => ⟨S1024x256, .bf16⟩
  | .hbm, ⟨11, _⟩ => ⟨S1024x32, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S768x16x96, .f32⟩
  | .hbm, ⟨17, _⟩ => ⟨S_, .i32⟩
  | .hbm, ⟨18, _⟩ => ⟨S_, .f32⟩
  | .hbm, ⟨19, _⟩ => ⟨S768x16x128, .f32⟩
  | .hbm, ⟨20, _⟩ => ⟨S768x2048, .f32⟩
  | .hbm, ⟨21, _⟩ => ⟨S768x2048, .bf16⟩
  | .hbm, ⟨22, _⟩ => ⟨S256x16x128, .f32⟩
  | .hbm, ⟨23, _⟩ => ⟨S256x16x64, .f32⟩
  | .hbm, ⟨24, _⟩ => ⟨S_, .i32⟩
  | .hbm, ⟨25, _⟩ => ⟨S_, .f32⟩
  | .hbm, ⟨26, _⟩ => ⟨S256x16x128, .f32⟩
  | .hbm, ⟨27, _⟩ => ⟨S256x2048, .f32⟩
  | .hbm, ⟨28, _⟩ => ⟨S256x2048, .bf16⟩
  | .hbm, ⟨29, _⟩ => ⟨S256x16x64, .f32⟩
  | .hbm, ⟨30, _⟩ => ⟨S256x8x2x64, .f32⟩
  | .hbm, ⟨31, _⟩ => ⟨S256x8x1x64, .f32⟩
  | .hbm, ⟨32, _⟩ => ⟨S256x8x64, .f32⟩
  | .hbm, ⟨33, _⟩ => ⟨S_, .f32⟩
  | .hbm, ⟨34, _⟩ => ⟨S256x8x64, .f32⟩
  | .hbm, ⟨35, _⟩ => ⟨S256x8x1x64, .f32⟩
  | .hbm, ⟨36, _⟩ => ⟨S256x8x64, .f32⟩
  | .hbm, ⟨37, _⟩ => ⟨S256x8x1x64, .f32⟩
  | .hbm, ⟨38, _⟩ => ⟨S256x8x64, .f32⟩
  | .hbm, ⟨39, _⟩ => ⟨S256x8x1x64, .f32⟩
  | .hbm, ⟨40, _⟩ => ⟨S256x8x1x64, .f32⟩
  | .hbm, ⟨41, _⟩ => ⟨S256x8x1x64, .f32⟩
  | .hbm, ⟨42, _⟩ => ⟨S256x8x1x64, .f32⟩
  | .hbm, ⟨43, _⟩ => ⟨S256x8x4x64, .f32⟩
  | .hbm, ⟨44, _⟩ => ⟨S256x2048, .f32⟩
  | .hbm, ⟨45, _⟩ => ⟨S256x2048, .bf16⟩
  | .hbm, ⟨46, _⟩ => ⟨S_, .f32⟩
  | .hbm, ⟨47, _⟩ => ⟨S256, .f32⟩
  | .hbm, ⟨48, _⟩ => ⟨S_, .i32⟩
  | .hbm, ⟨49, _⟩ => ⟨S1, .i32⟩
  | .hbm, ⟨50, _⟩ => ⟨S_, .f32⟩
  | .hbm, ⟨51, _⟩ => ⟨S256, .f32⟩
  | .hbm, ⟨52, _⟩ => ⟨S_, .i32⟩
  | .hbm, ⟨53, _⟩ => ⟨S1, .i32⟩
  | .hbm, ⟨54, _⟩ => ⟨S_, .f32⟩
  | .hbm, ⟨55, _⟩ => ⟨S256, .f32⟩
  | .hbm, ⟨56, _⟩ => ⟨S1x256, .f32⟩
  | .hbm, ⟨57, _⟩ => ⟨S8x256, .f32⟩
  | .hbm, ⟨58, _⟩ => ⟨S2048, .f32⟩
  | .hbm, ⟨59, _⟩ => ⟨S1x2048, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S_, .f32⟩
  | .hbm, ⟨75, _⟩ => ⟨S64, .f32⟩
  | .hbm, ⟨76, _⟩ => ⟨S_, .f32⟩
  | .hbm, ⟨77, _⟩ => ⟨S32, .f32⟩
  | .hbm, ⟨78, _⟩ => ⟨S128, .f32⟩
  | .hbm, ⟨79, _⟩ => ⟨S1x128, .f32⟩
  | .hbm, ⟨80, _⟩ => ⟨S1x768, .f32⟩
  | .hbm, ⟨81, _⟩ => ⟨S1x256, .f32⟩
  | .hbm, ⟨82, _⟩ => ⟨S16384x2048, .bf16⟩
  | .hbm, ⟨83, _⟩ => ⟨S16384x2048, .bf16⟩
  | .hbm, ⟨84, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S512x1, .f32⟩
  | .local _ .vmem, ⟨3, _⟩ => ⟨S512x1, .f32⟩
  | .local _ .vmem, ⟨4, _⟩ => ⟨S1x128, .f32⟩
  | .local _ .vmem, ⟨5, _⟩ => ⟨S1024x768, .bf16⟩
  | .local _ .vmem, ⟨6, _⟩ => ⟨S1024x256, .bf16⟩
  | .local _ .vmem, ⟨7, _⟩ => ⟨S1024x128, .bf16⟩
  | .local _ .vmem, ⟨8, _⟩ => ⟨S1x768, .f32⟩
  | .local _ .vmem, ⟨9, _⟩ => ⟨S1x256, .f32⟩
  | .local _ .vmem, ⟨10, _⟩ => ⟨S768x2048, .bf16⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_call2_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_c_3 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57_0 : Ref sig .tc := ⟨.hbm, 82, rfl⟩
abbrev main_v57_1 : Ref sig .tc := ⟨.hbm, 83, rfl⟩
abbrev main_v57_2 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S16384x1024 : Shape := ⟨2, ![16384, 1024]⟩
abbrev S16384x1 : Shape := ⟨2, ![16384, 1]⟩
abbrev S1024x1056 : Shape := ⟨2, ![1024, 1056]⟩
abbrev S768 : Shape := ⟨1, ![768]⟩
abbrev S256 : Shape := ⟨1, ![256]⟩
abbrev S768x1536 : Shape := ⟨2, ![768, 1536]⟩
abbrev S256x2048 : Shape := ⟨2, ![256, 2048]⟩
abbrev S16384x1056 : Shape := ⟨2, ![16384, 1056]⟩
abbrev S16384x768 : Shape := ⟨2, ![16384, 768]⟩
abbrev S_ : Shape := ⟨0, ![]⟩
abbrev S16384 : Shape := ⟨1, ![16384]⟩
abbrev S1x768 : Shape := ⟨2, ![1, 768]⟩
abbrev S16384x1536 : Shape := ⟨2, ![16384, 1536]⟩
abbrev S16384x16x96 : Shape := ⟨3, ![16384, 16, 96]⟩
abbrev S16384x256 : Shape := ⟨2, ![16384, 256]⟩
abbrev S1x256 : Shape := ⟨2, ![1, 256]⟩
abbrev S16384x2048 : Shape := ⟨2, ![16384, 2048]⟩
abbrev S16384x16x128 : Shape := ⟨3, ![16384, 16, 128]⟩
abbrev S16384x16x64 : Shape := ⟨3, ![16384, 16, 64]⟩
abbrev S16384x16x32 : Shape := ⟨3, ![16384, 16, 32]⟩
abbrev S16384x1x1 : Shape := ⟨3, ![16384, 1, 1]⟩
abbrev S16 : Shape := ⟨1, ![16]⟩
abbrev S1x1x16 : Shape := ⟨3, ![1, 1, 16]⟩
abbrev S16384x1x16 : Shape := ⟨3, ![16384, 1, 16]⟩
abbrev S16384x16x16 : Shape := ⟨3, ![16384, 16, 16]⟩
abbrev S16384x32 : Shape := ⟨2, ![16384, 32]⟩
abbrev S16384x1x32 : Shape := ⟨3, ![16384, 1, 32]⟩
abbrev S16384x8x2x64 : Shape := ⟨4, ![16384, 8, 2, 64]⟩
abbrev S16384x8x1 : Shape := ⟨3, ![16384, 8, 1]⟩
abbrev S16384x8x63 : Shape := ⟨3, ![16384, 8, 63]⟩
abbrev S16384x8x1x64 : Shape := ⟨4, ![16384, 8, 1, 64]⟩
abbrev S16384x8x64 : Shape := ⟨3, ![16384, 8, 64]⟩
abbrev S16384x8x256 : Shape := ⟨3, ![16384, 8, 256]⟩

abbrev nBuf : Space → Nat
  | .hbm => 144
  | .vmem => 0
  | .smem => 0
  | _ => 0

abbrev hbmTy0_0 (i : Nat) : BufTy := match i % 128 with
  | 0 => ⟨S16384x1024, .f32⟩
  | 1 => ⟨S16384x1, .f32⟩
  | 2 => ⟨S1024x1056, .f32⟩
  | 3 => ⟨S768, .f32⟩
  | 4 => ⟨S256, .f32⟩
  | 5 => ⟨S768x1536, .f32⟩
  | 6 => ⟨S256x2048, .f32⟩
  | 7 => ⟨S16384x1056, .f32⟩
  | 8 => ⟨S16384x768, .f32⟩
  | 9 => ⟨S16384x768, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x768, .f32⟩
  | 21 => ⟨S16384x768, .f32⟩
  | 22 => ⟨S1x768, .f32⟩
  | 23 => ⟨S16384x768, .f32⟩
  | 24 => ⟨S16384x768, .f32⟩
  | 25 => ⟨S16384x1536, .f32⟩
  | 26 => ⟨S16384x16x96, .f32⟩
  | 27 => ⟨S16384x256, .f32⟩
  | 28 => ⟨S16384x256, .f32⟩
  | 29 => ⟨S_, .f32⟩
  | 30 => ⟨S16384, .f32⟩
  | 31 => ⟨S16384x1, .f32⟩
  | 32 => ⟨S_, .f32⟩
  | 33 => ⟨S16384x1, .f32⟩
  | 34 => ⟨S16384x1, .f32⟩
  | 35 => ⟨S_, .f32⟩
  | 36 => ⟨S16384x1, .f32⟩
  | 37 => ⟨S16384x1, .f32⟩
  | 38 => ⟨S16384x1, .f32⟩
  | 39 => ⟨S16384x256, .f32⟩
  | 40 => ⟨S16384x256, .f32⟩
  | 41 => ⟨S1x256, .f32⟩
  | 42 => ⟨S16384x256, .f32⟩
  | 43 => ⟨S16384x256, .f32⟩
  | 44 => ⟨S16384x2048, .f32⟩
  | 45 => ⟨S16384x16x128, .f32⟩
  | 46 => ⟨S16384x16x64, .f32⟩
  | 47 => ⟨S16384x16x32, .f32⟩
  | 48 => ⟨S16384x1x1, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S1x1x16, .f32⟩
  | 64 => ⟨S16384x1x16, .f32⟩
  | 65 => ⟨S16384x1x16, .f32⟩
  | 66 => ⟨S16384x1x16, .f32⟩
  | 67 => ⟨S16384x1x16, .f32⟩
  | 68 => ⟨S16384x1x16, .f32⟩
  | 69 => ⟨S16384x16x16, .f32⟩
  | 70 => ⟨S16384x16x16, .f32⟩
  | 71 => ⟨S16384x16x16, .f32⟩
  | 72 => ⟨S16384x16x16, .f32⟩
  | 73 => ⟨S16384x16x16, .f32⟩
  | 74 => ⟨S16384x16x16, .f32⟩
  | 75 => ⟨S16384x16x16, .f32⟩
  | 76 => ⟨S16384x16x16, .f32⟩
  | 77 => ⟨S16384x16x16, .f32⟩
  | 78 => ⟨S16384x16x16, .f32⟩
  | 79 => ⟨S16384x16x16, .f32⟩
  | 80 => ⟨S16384x16x16, .f32⟩
  | 81 => ⟨S16384x16x32, .f32⟩
  | 82 => ⟨S16384x16x96, .f32⟩
  | 83 => ⟨S_, .f32⟩
  | 84 => ⟨S16384x16x96, .f32⟩
  | 85 => ⟨S16384x16x96, .f32⟩
  | 86 => ⟨S16384x32, .f32⟩
  | 87 => ⟨S16384x1x32, .f32⟩
  | 88 => ⟨S16384x1x1, .f32⟩
  | 89 => ⟨S16, .f32⟩
  | 90 => ⟨S_, .f32⟩
  | 91 => ⟨S16, .f32⟩
  | 92 => ⟨S16, .f32⟩
  | 93 => ⟨S_, .f32⟩
  | 94 => ⟨S16, .f32⟩
  | 95 => ⟨S16, .f32⟩
  | 96 => ⟨S16, .f32⟩
  | 97 => ⟨S_, .f32⟩
  | 98 => ⟨S16, .f32⟩
  | 99 => ⟨S16, .f32⟩
  | 100 => ⟨S_, .f32⟩
  | 101 => ⟨S16, .f32⟩
  | 102 => ⟨S16, .f32⟩
  | 103 => ⟨S1x1x16, .f32⟩
  | 104 => ⟨S16384x1x16, .f32⟩
  | 105 => ⟨S16384x1x16, .f32⟩
  | 106 => ⟨S16384x1x16, .f32⟩
  | 107 => ⟨S16384x1x16, .f32⟩
  | 108 => ⟨S16384x1x16, .f32⟩
  | 109 => ⟨S16384x1x16, .f32⟩
  | 110 => ⟨S16384x1x16, .f32⟩
  | 111 => ⟨S16384x1x16, .f32⟩
  | 112 => ⟨S16384x1x16, .f32⟩
  | 113 => ⟨S16384x1x16, .f32⟩
  | 114 => ⟨S16384x1x16, .f32⟩
  | 115 => ⟨S16384x1x16, .f32⟩
  | 116 => ⟨S16384x1x16, .f32⟩
  | 117 => ⟨S16384x1x32, .f32⟩
  | 118 => ⟨S16384x16x64, .f32⟩
  | 119 => ⟨S16384x16x32, .f32⟩
  | 120 => ⟨S16384x16x96, .f32⟩
  | 121 => ⟨S16384x16x64, .f32⟩
  | 122 => ⟨S16384x8x2x64, .f32⟩
  | 123 => ⟨S_, .f32⟩
  | 124 => ⟨S16384x8x1, .f32⟩
  | 125 => ⟨S_, .f32⟩
  | 126 => ⟨S16384x8x63, .f32⟩
  | 127 => ⟨S16384x8x1x64, .f32⟩
  | _ => ⟨S16384x1024, .f32⟩

abbrev hbmTy0_1 (i : Nat) : BufTy := match i % 128 with
  | 0 => ⟨S16384x8x64, .f32⟩
  | 1 => ⟨S16384x8x1x64, .f32⟩
  | 2 => ⟨S16384x8x64, .f32⟩
  | 3 => ⟨S16384x8x256, .f32⟩
  | 4 => ⟨S16384x2048, .f32⟩
  | 5 => ⟨S16384x2048, .bf16⟩
  | 6 => ⟨S_, .i32⟩
  | 7 => ⟨S_, .f32⟩
  | 8 => ⟨S16384x16x128, .f32⟩
  | 9 => ⟨S16384x2048, .f32⟩
  | 10 => ⟨S16384x2048, .bf16⟩
  | 11 => ⟨S_, .i32⟩
  | 12 => ⟨S_, .f32⟩
  | 13 => ⟨S16384x16x128, .f32⟩
  | 14 => ⟨S16384x2048, .f32⟩
  | 15 => ⟨S16384x2048, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_10 : Ref sig .tc := ⟨.hbm, 90, rfl⟩
abbrev main_v72 : Ref sig .tc := ⟨.hbm, 91, rfl⟩
abbrev main_v73 : Ref sig .tc := ⟨.hbm, 92, rfl⟩
abbrev main_cst_11 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_12 : Ref sig .tc := ⟨.hbm, 97, rfl⟩
abbrev main_v77 : Ref sig .tc := ⟨.hbm, 98, rfl⟩
abbrev main_v78 : Ref sig .tc := ⟨.hbm, 99, rfl⟩
abbrev main_cst_13 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_14 : Ref sig .tc := ⟨.hbm, 123, rfl⟩
abbrev main_v101 : Ref sig .tc := ⟨.hbm, 124, rfl⟩
abbrev main_cst_15 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_c : Ref sig .tc := ⟨.hbm, 134, rfl⟩
abbrev main_call0_v0 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_c_16 : Ref sig .tc := ⟨.hbm, 139, rfl⟩
abbrev main_call1_v0 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩

abbrev nD : Nat := 1
abbrev τ : Topo := Topo.v7x

variable {F : FTy → Type} [FloatOps F]
-- ==== Proof.FfnChunk.lean ====
/- The feed-forward kernel's operations named: what one chunk of columns computes from its blocks. -/
module

public import proofs.«01_k».proof.Proof.Gen.Kernel2Ideal.Skeleton

@[expose] public section

set_option maxRecDepth 16384

noncomputable section

namespace Cert.Kernel2Ideal.Chunk

open Idealize.ShloMosaic Idealize.ShloMosaic.TcCoe
open Idealize.SL Idealize.SL.Sem
open Cert.Kernel2Ideal.Gen

variable {F : FTy → Type} [FloatOps F] [Named F]

/-- Chunk `c`'s columns of an up-projection matrix lie inside it. -/
theorem inbW : ∀ c : Fin 11, ∀ a, (![0, c.val * 256] : Fin 2 → ℕ) a + S1024x256.size a ≤ S1024x2816.size a := by decide
theorem inbS16 : ∀ c : Fin 11, ∀ a, (![c.val % 2, 16, 0] : Fin 3 → ℕ) a + S1x512x256.size a ≤ S2x528x256.size a := by decide
theorem inbS8 : ∀ c : Fin 11, ∀ a, (![c.val % 2, 8, 0] : Fin 3 → ℕ) a + S1x512x256.size a ≤ S2x528x256.size a := by decide
theorem inbS0 : ∀ c : Fin 11, ∀ a, (![c.val % 2, 0, 0] : Fin 3 → ℕ) a + S1x512x256.size a ≤ S2x528x256.size a := by decide
theorem inbP0 : ∀ c : Fin 11, ∀ a, (![c.val % 2, 0, 0] : Fin 3 → ℕ) a + S1x8x256.size a ≤ S2x528x256.size a := by decide
theorem inbP8 : ∀ c : Fin 11, ∀ a, (![c.val % 2, 8, 0] : Fin 3 → ℕ) a + S1x8x256.size a ≤ S2x528x256.size a := by decide
theorem inbT : ∀ c : Fin 11, ∀ a, (![c.val, 0, 0] : Fin 3 → ℕ) a + S1x16x256.size a ≤ S11x16x256.size a := by decide
theorem inbCW : ∀ (c : Fin 11) (k : Fin 3) (o : Fin 2), ∀ a, (![k.val, o.val * 2816 + c.val * 256] : Fin 2 → ℕ) a + S1x256.size a ≤ S3x5632.size a := by decide
theorem inbCB : ∀ (c : Fin 11) (o : Fin 2), ∀ a, (![0, o.val * 2816 + c.val * 256] : Fin 2 → ℕ) a + S1x256.size a ≤ S1x5632.size a := by decide
theorem inbG : ∀ c : Fin 11, ∀ a, (![0, c.val * 256] : Fin 2 → ℕ) a + S512x256.size a ≤ S512x2816.size a := by decide
theorem packG : ∀ c : Fin 11, (Rect.unit (s := S512x2816) ![0, c.val * 256] S512x256.size (inbG c)).PackedRows (EltTy.packing .bf16) := by decide +kernel
theorem inbX : ∀ (r : Fin 2) (s : Fin 8), ∀ a, (![s.val * 64 + r.val * 32, 0] : Fin 2 → ℕ) a + S32x1024.size a ≤ S512x1024.size a := by decide
theorem inbR : ∀ r : Fin 2, ∀ a, (![r.val * 256, 1536] : Fin 2 → ℕ) a + S256x1280.size a ≤ S512x2816.size a := by decide

/-- The rows held over from the point before, of chunk `c`. -/
abbrev tailAt (T : Memref sig .tc .vmem S11x16x256 .f32) (c : Fin 11) : Memref sig .tc .vmem S16x256 .f32 :=
  (T.slice (Rect.unit (s := S11x16x256) ![c.val, 0, 0] S1x16x256.size (inbT c)) (fun _ => rfl)).squeeze S16x256 squeezes_S1x16x256_S16x256

/-- The tile before the first: the held-over tile's last sublane moved in front, then the current tile's. -/
def shifted (v8 : IVec S8x256 32) (prev cur : FVec F S8x256 .f32) : FVec F S8x256 .f32 :=
  select (cmpi .eq v8 (broadcast S8x256 0#32)) (dynamicRotate 0 1#32 none prev rotates_S8x256_d0) (dynamicRotate 0 1#32 none cur rotates_S8x256_d0)

/-- A chunk's columns of the up-projected rows. -/
def upH (v7 : FVec F S512x1024 .bf16) (w : Vec F S1024x256 .bf16) : FVec F S512x256 .f32 :=
  matmul dot_S512x1024_S1024x256_S512x256_1_0_0_1_n_n none v7 (shapeCast S1024x256 w shapeCasts_S1024x256_S1024x256) (constant S512x256 .f32 0x00000000#32)

def last2 (h : FVec F S512x256 .f32) : FVec F S8x256 .f32 := extractStridedSlice S8x256 ![496, 0] h slices_S512x256_o496_0_S8x256
def last1 (h : FVec F S512x256 .f32) : FVec F S8x256 .f32 := extractStridedSlice S8x256 ![504, 0] h slices_S512x256_o504_0_S8x256

/-- One half (gate or up) of chunk `c`'s up-projection: its product, then the two tiles before it. -/
def up (W : Memref sig .tc .vmem S1024x2816 .bf16) (T : Memref sig .tc .vmem S11x16x256 .f32) (D : Memref sig .tc .vmem S2x528x256 .f32)
    (v7 : FVec F S512x1024 .bf16) (v8 : IVec S8x256 32) (c : Fin 11) : Prog (TpuEff nD τ sig (Elt F) Λ₀ .tc) PUnit := do
  let w : Vec F S1024x256 .bf16 ← Prog.lift (.load W (Rect.unit (s := S1024x2816) ![0, c.val * 256] S1024x256.size (inbW c)).toLoadRect (View.loadsAt_vmem h_S1024x256))
  let _ : Vec F S1x512x256 .f32 ← Prog.lift (.load D (Rect.unit (s := S2x528x256) ![c.val % 2, 16, 0] S1x512x256.size (inbS16 c)).toLoadRect (View.loadsAt_vmem h_S1x512x256))
  Prog.lift (.store D (Rect.unit (s := S2x528x256) ![c.val % 2, 16, 0] S1x512x256.size (inbS16 c)) (shapeCast S1x512x256 (upH v7 w) shapeCasts_S512x256_S1x512x256) Finset.univ (View.stores_vmem_bits_univ h_S1x512x256 rfl) (.inl rfl))
  let p2 : Vec F S8x256 .f32 ← Prog.lift (.load (tailAt T c) (Rect.unit (s := S16x256) ![8, 0] S8x256.size inb_S16x256_S8x256_8_0).toLoadRect (View.loadsAt_vmem h_S8x256))
  let _ : Vec F S8x256 .f32 ← Prog.lift (.load (tailAt T c) (Rect.unit (s := S16x256) ![8, 0] S8x256.size inb_S16x256_S8x256_8_0).toLoadRect (View.loadsAt_vmem h_S8x256))
  Prog.lift (.store (tailAt T c) (Rect.unit (s := S16x256) ![8, 0] S8x256.size inb_S16x256_S8x256_8_0) (shapeCast S8x256 (last2 (upH v7 w)) shapeCasts_S8x256_S8x256) Finset.univ (View.stores_vmem_bits_univ h_S8x256 rfl) (.inl rfl))
  let p1 : Vec F S8x256 .f32 ← Prog.lift (.load (tailAt T c) (Rect.unit (s := S16x256) ![0, 0] S8x256.size inb_S16x256_S8x256_0_0).toLoadRect (View.loadsAt_vmem h_S8x256))
  let _ : Vec F S8x256 .f32 ← Prog.lift (.load (tailAt T c) (Rect.unit (s := S16x256) ![0, 0] S8x256.size inb_S16x256_S8x256_0_0).toLoadRect (View.loadsAt_vmem h_S8x256))
  Prog.lift (.store (tailAt T c) (Rect.unit (s := S16x256) ![0, 0] S8x256.size inb_S16x256_S8x256_0_0) (shapeCast S8x256 (last1 (upH v7 w)) shapeCasts_S8x256_S8x256) Finset.univ (View.stores_vmem_bits_univ h_S8x256 rfl) (.inl rfl))
  let _ : Vec F S1x8x256 .f32 ← Prog.lift (.load D (Rect.unit (s := S2x528x256) ![c.val % 2, 0, 0] S1x8x256.size (inbP0 c)).toLoadRect (View.loadsAt_vmem h_S1x8x256))
  Prog.lift (.store D (Rect.unit (s := S2x528x256) ![c.val % 2, 0, 0] S1x8x256.size (inbP0 c)) (shapeCast S1x8x256 (shifted v8 p2 (last2 (upH v7 w))) shapeCasts_S8x256_S1x8x256) Finset.univ (View.stores_vmem_bits_univ h_S1x8x256 rfl) (.inl rfl))
  let _ : Vec F S1x8x256 .f32 ← Prog.lift (.load D (Rect.unit (s := S2x528x256) ![c.val % 2, 8, 0] S1x8x256.size (inbP8 c)).toLoadRect (View.loadsAt_vmem h_S1x8x256))
  Prog.lift (.store D (Rect.unit (s := S2x528x256) ![c.val % 2, 8, 0] S1x8x256.size (inbP8 c)) (shapeCast S1x8x256 (shifted v8 p1 (last1 (upH v7 w))) shapeCasts_S8x256_S1x8x256) Finset.univ (View.stores_vmem_bits_univ h_S1x8x256 rfl) (.inl rfl))

/-- Both halves of chunk `c`. -/
def ups (arg2 arg3 : Memref sig .tc .vmem S1024x2816 .bf16) (arg10 arg11 : Memref sig .tc .vmem S11x16x256 .f32) (arg12 arg13 : Memref sig .tc .vmem S2x528x256 .f32)
    (v7 : FVec F S512x1024 .bf16) (v8 : IVec S8x256 32) (c : Fin 11) : Prog (TpuEff nD τ sig (Elt F) Λ₀ .tc) PUnit := do
  up arg2 arg10 arg12 v7 v8 c
  up arg3 arg11 arg13 v7 v8 c

/-- One tap of the convolution added to the running sum. -/
def tap (sc : BitVec 32) (y : FVec F S512x256 .f32) (w : Vec F S1x256 .f32) (h : Vec F S1x512x256 .f32) : FVec F S512x256 .f32 :=
  addf y (mulf (broadcastTo S512x256 (mulf w (broadcast S1x256 (Scalar.ofBits .f32 sc))) broadcasts_S1x256_S512x256) (shapeCast S512x256 h shapeCasts_S1x512x256_S512x256))

def bias (sc : BitVec 32) (b : Vec F S1x256 .f32) : FVec F S512x256 .f32 :=
  broadcastTo S512x256 (mulf (shapeCast S1x256 b shapeCasts_S1x256_S1x256) (broadcast S1x256 (Scalar.ofBits .f32 sc))) broadcasts_S1x256_S512x256

/-- One half of chunk `c`'s convolution. -/
def conv (CW : Memref sig .tc .vmem S3x5632 .f32) (CB : Memref sig .tc .vmem S1x5632 .f32) (D : Memref sig .tc .vmem S2x528x256 .f32) (sc : BitVec 32) (o : Fin 2) (c : Fin 11) :
    Prog (TpuEff nD τ sig (Elt F) Λ₀ .tc) (FVec F S512x256 .f32) := do
  let b : Vec F S1x256 .f32 ← Prog.lift (.load CB (Rect.unit (s := S1x5632) ![0, o.val * 2816 + c.val * 256] S1x256.size (inbCB c o)).toLoadRect (View.loadsAt_vmem h_S1x256))
  let w0 : Vec F S1x256 .f32 ← Prog.lift (.load CW (Rect.unit (s := S3x5632) ![0, o.val * 2816 + c.val * 256] S1x256.size (inbCW c 0 o)).toLoadRect (View.loadsAt_vmem h_S1x256))
  let h0 : Vec F S1x512x256 .f32 ← Prog.lift (.load D (Rect.unit (s := S2x528x256) ![c.val % 2, 0, 0] S1x512x256.size (inbS0 c)).toLoadRect (View.loadsAt_vmem h_S1x512x256))
  let w1 : Vec F S1x256 .f32 ← Prog.lift (.load CW (Rect.unit (s := S3x5632) ![1, o.val * 2816 + c.val * 256] S1x256.size (inbCW c 1 o)).toLoadRect (View.loadsAt_vmem h_S1x256))
  let h1 : Vec F S1x512x256 .f32 ← Prog.lift (.load D (Rect.unit (s := S2x528x256) ![c.val % 2, 8, 0] S1x512x256.size (inbS8 c)).toLoadRect (View.loadsAt_vmem h_S1x512x256))
  let w2 : Vec F S1x256 .f32 ← Prog.lift (.load CW (Rect.unit (s := S3x5632) ![2, o.val * 2816 + c.val * 256] S1x256.size (inbCW c 2 o)).toLoadRect (View.loadsAt_vmem h_S1x256))
  let h2 : Vec F S1x512x256 .f32 ← Prog.lift (.load D (Rect.unit (s := S2x528x256) ![c.val % 2, 16, 0] S1x512x256.size (inbS16 c)).toLoadRect (View.loadsAt_vmem h_S1x512x256))
  pure (tap sc (tap sc (tap sc (bias sc b) w0 h0) w1 h1) w2 h2)

/-- The gated product of the two convolved halves. -/
def gated (y u : FVec F S512x256 .f32) : FVec F S512x256 .bf16 :=
  truncf .bf16 (mulf (addf y (mulf y (tanh (mulf y (addf (mulf (broadcast S512x256 (Named.named κ "cubic" 0x3E922279#32)) (mulf y y)) (broadcast S512x256 (Scalar.ofBits .f32 0x3FCC422A#32))))))) u) bitsLt_bf16_f32

/-- Chunk `c`'s gated columns. -/
def gate (CW : Memref sig .tc .vmem S3x5632 .f32) (CB : Memref sig .tc .vmem S1x5632 .f32) (Dg Du : Memref sig .tc .vmem S2x528x256 .f32) (G : Memref sig .tc .vmem S512x2816 .bf16) (hG : G.IsWhole) (c : Fin 11) :
    Prog (TpuEff nD τ sig (Elt F) Λ₀ .tc) PUnit := do
  let y ← conv CW CB Dg 0x3F000000#32 0 c
  let u ← conv CW CB Du 0x3F800000#32 1 c
  let _ : Vec F S512x256 .bf16 ← Prog.lift (.load G (Rect.unit (s := S512x2816) ![0, c.val * 256] S512x256.size (inbG c)).toLoadRect (View.loadsAt_vmem h_S512x256))
  Prog.lift (.store G (Rect.unit (s := S512x2816) ![0, c.val * 256] S512x256.size (inbG c)) (shapeCast S512x256 (gated y u) shapeCasts_S512x256_S512x256) Finset.univ (View.stores_vmem h_S512x256 (hG.storeExact_slice rfl _ (packG c)) (fun _ => rfl)) (.inl rfl))

/-- The rows of the residual stream, in segments. -/
def seg (x : Vec F S512x1024 .f32) : FVec F S512x1024 .bf16 :=
  truncf .bf16 (shapeCast S512x1024 (transpose S64x8x1024 [1, 0, 2] (shapeCast S8x64x1024 x shapeCasts_S512x1024_S8x64x1024) transposes_S8x64x1024_p1_0_2_S64x8x1024) shapeCasts_S64x8x1024_S512x1024) bitsLt_bf16_f32

def headMM (g : Vec F S512x1536 .bf16) (w : Vec F S1536x1024 .bf16) : FVec F S512x1024 .f32 :=
  matmul dot_S512x1536_S1536x1024_S512x1024_1_0_0_1_n_n none g (shapeCast S1536x1024 w shapeCasts_S1536x1024_S1536x1024) (constant S512x1024 .f32 0x00000000#32)

def restMM (g : Vec F S256x1280 .bf16) (w : Vec F S1280x1024 .bf16) : FVec F S256x1024 .f32 :=
  matmul dot_S256x1280_S1280x1024_S256x1024_1_0_0_1_n_n none g (shapeCast S1280x1024 w shapeCasts_S1280x1024_S1280x1024) (constant S256x1024 .f32 0x00000000#32)

/-- The normalised sum of residual and branch, of one run of rows. -/
def ln (p : FVec F S256x1024 .f32) (x0 x1 x2 x3 x4 x5 x6 x7 : Vec F S32x1024 .f32) (g b : FVec F S1x1024 .f32) : FVec F S256x1024 .f32 :=
  have y : FVec F S256x1024 .f32 := addf (mulf (broadcast S256x1024 (Scalar.ofBits .f32 0x3FD744FD#32)) (concatenate S256x1024 0 [⟨S32x1024, x0⟩, ⟨S32x1024, x1⟩, ⟨S32x1024, x2⟩, ⟨S32x1024, x3⟩, ⟨S32x1024, x4⟩, ⟨S32x1024, x5⟩, ⟨S32x1024, x6⟩, ⟨S32x1024, x7⟩] concatenates_S32x1024_S32x1024_S32x1024_S32x1024_S32x1024_S32x1024_S32x1024_S32x1024_S256x1024_d0))
    (shapeCast S256x1024 (transpose S8x32x1024 [1, 0, 2] (shapeCast S32x8x1024 p shapeCasts_S256x1024_S32x8x1024) transposes_S32x8x1024_p1_0_2_S8x32x1024) shapeCasts_S8x32x1024_S256x1024)
  have d : FVec F S256x1024 .f32 := subf y (broadcastTo S256x1024 (divf (shapeCast S256x1 (multiReduction .add [1] S256 y 0x00000000#32 reduces_S256x1024_S256 (.inl rfl) rfl) shapeCasts_S256_S256x1) (broadcast S256x1 (Scalar.ofBits .f32 0x44800000#32))) broadcasts_S256x1_S256x1024)
  have v : FVec F S256x1 .f32 := divf (shapeCast S256x1 (multiReduction .add [1] S256 (mulf d d) 0x00000000#32 reduces_S256x1024_S256 (.inl rfl) rfl) shapeCasts_S256_S256x1) (broadcast S256x1 (Scalar.ofBits .f32 0x44800000#32))
  addf (mulf (mulf d (broadcastTo S256x1024 (rsqrt (addf v (broadcast S256x1 (Scalar.ofBits .f32 0x3727C5AC#32)))) broadcasts_S256x1_S256x1024)) (broadcastTo S256x1024 g broadcasts_S1x1024_S256x1024)) (broadcastTo S256x1024 b broadcasts_S1x1024_S256x1024)

def ldX (X : Memref sig .tc .vmem S512x1024 .f32) (r : Fin 2) (s : Fin 8) : Prog (TpuEff nD τ sig (Elt F) Λ₀ .tc) (Vec F S32x1024 .f32) :=
  Prog.lift (.load X (Rect.unit (s := S512x1024) ![s.val * 64 + r.val * 32, 0] S32x1024.size (inbX r s)).toLoadRect (View.loadsAt_vmem h_S32x1024))

def stO (O : Memref sig .tc .vmem S512x1024 .f32) (r : Fin 2) (s : Fin 8) (v : FVec F S32x1024 .f32) : Prog (TpuEff nD τ sig (Elt F) Λ₀ .tc) PUnit := do
  let _ : Vec F S32x1024 .f32 ← Prog.lift (.load O (Rect.unit (s := S512x1024) ![s.val * 64 + r.val * 32, 0] S32x1024.size (inbX r s)).toLoadRect (View.loadsAt_vmem h_S32x1024))
  Prog.lift (.store O (Rect.unit (s := S512x1024) ![s.val * 64 + r.val * 32, 0] S32x1024.size (inbX r s)) v Finset.univ (View.stores_vmem_bits_univ h_S32x1024 rfl) (.inl rfl))

/-- The output's rows of run `r`. -/
def half (X O : Memref sig .tc .vmem S512x1024 .f32) (p : FVec F S256x1024 .f32) (g b : FVec F S1x1024 .f32) (r : Fin 2) : Prog (TpuEff nD τ sig (Elt F) Λ₀ .tc) PUnit := do
  let x0 ← ldX X r 0
  let x1 ← ldX X r 1
  let x2 ← ldX X r 2
  let x3 ← ldX X r 3
  let x4 ← ldX X r 4
  let x5 ← ldX X r 5
  let x6 ← ldX X r 6
  let x7 ← ldX X r 7
  stO O r 0 (extractStridedSlice S32x1024 ![0, 0] (ln p x0 x1 x2 x3 x4 x5 x6 x7 g b) slices_S256x1024_o0_0_S32x1024)
  stO O r 1 (extractStridedSlice S32x1024 ![32, 0] (ln p x0 x1 x2 x3 x4 x5 x6 x7 g b) slices_S256x1024_o32_0_S32x1024)
  stO O r 2 (extractStridedSlice S32x1024 ![64, 0] (ln p x0 x1 x2 x3 x4 x5 x6 x7 g b) slices_S256x1024_o64_0_S32x1024)
  stO O r 3 (extractStridedSlice S32x1024 ![96, 0] (ln p x0 x1 x2 x3 x4 x5 x6 x7 g b) slices_S256x1024_o96_0_S32x1024)
  stO O r 4 (extractStridedSlice S32x1024 ![128, 0] (ln p x0 x1 x2 x3 x4 x5 x6 x7 g b) slices_S256x1024_o128_0_S32x1024)
  stO O r 5 (extractStridedSlice S32x1024 ![160, 0] (ln p x0 x1 x2 x3 x4 x5 x6 x7 g b) slices_S256x1024_o160_0_S32x1024)
  stO O r 6 (extractStridedSlice S32x1024 ![192, 0] (ln p x0 x1 x2 x3 x4 x5 x6 x7 g b) slices_S256x1024_o192_0_S32x1024)
  stO O r 7 (extractStridedSlice S32x1024 ![224, 0] (ln p x0 x1 x2 x3 x4 x5 x6 x7 g b) slices_S256x1024_o224_0_S32x1024)

/-- The second down-projection, added to the first, and the normalised output. -/
def down (X O : Memref sig .tc .vmem S512x1024 .f32) (G : Memref sig .tc .vmem S512x2816 .bf16) (Wd : Memref sig .tc .vmem S2816x1024 .bf16) (Lg Lb : Memref sig .tc .vmem S1x1024 .f32) (hd : FVec F S512x1024 .f32) : Prog (TpuEff nD τ sig (Elt F) Λ₀ .tc) PUnit := do
  let g0 : Vec F S256x1280 .bf16 ← Prog.lift (.load G (Rect.unit (s := S512x2816) ![0, 1536] S256x1280.size inb_S512x2816_S256x1280_0_1536).toLoadRect (View.loadsAt_vmem h_S256x1280))
  let w0 : Vec F S1280x1024 .bf16 ← Prog.lift (.load Wd (Rect.unit (s := S2816x1024) ![1536, 0] S1280x1024.size inb_S2816x1024_S1280x1024_1536_0).toLoadRect (View.loadsAt_vmem h_S1280x1024))
  let g1 : Vec F S256x1280 .bf16 ← Prog.lift (.load G (Rect.unit (s := S512x2816) ![256, 1536] S256x1280.size inb_S512x2816_S256x1280_256_1536).toLoadRect (View.loadsAt_vmem h_S256x1280))
  let w1 : Vec F S1280x1024 .bf16 ← Prog.lift (.load Wd (Rect.unit (s := S2816x1024) ![1536, 0] S1280x1024.size inb_S2816x1024_S1280x1024_1536_0).toLoadRect (View.loadsAt_vmem h_S1280x1024))
  let lg : Vec F S1x1024 .f32 ← Prog.lift (.load Lg (Rect.unit (s := S1x1024) ![0, 0] S1x1024.size inb_S1x1024_S1x1024_0_0).toLoadRect (View.loadsAt_vmem h_S1x1024))
  let lb : Vec F S1x1024 .f32 ← Prog.lift (.load Lb (Rect.unit (s := S1x1024) ![0, 0] S1x1024.size inb_S1x1024_S1x1024_0_0).toLoadRect (View.loadsAt_vmem h_S1x1024))
  half X O (addf (extractStridedSlice S256x1024 ![0, 0] hd slices_S512x1024_o0_0_S256x1024) (restMM g0 w0)) (shapeCast S1x1024 lg shapeCasts_S1x1024_S1x1024) (shapeCast S1x1024 lb shapeCasts_S1x1024_S1x1024) 0
  half X O (addf (extractStridedSlice S256x1024 ![256, 0] hd slices_S512x1024_o256_0_S256x1024) (restMM g1 w1)) (shapeCast S1x1024 lg shapeCasts_S1x1024_S1x1024) (shapeCast S1x1024 lb shapeCasts_S1x1024_S1x1024) 1

/-- The body after the first point's zeroing. -/
def rest (i : grid0.Coords) (arg1 : Memref sig .tc .vmem S512x1024 .f32) (harg1 : arg1.IsWhole) (arg2 : Memref sig .tc .vmem S1024x2816 .bf16) (harg2 : arg2.IsWhole) (arg3 : Memref sig .tc .vmem S1024x2816 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S11x16x256 .f32) (harg10 : arg10.IsWhole) (arg11 : Memref sig .tc .vmem S11x16x256 .f32) (harg11 : arg11.IsWhole) (arg12 : Memref sig .tc .vmem S2x528x256 .f32) (harg12 : arg12.IsWhole) (arg13 : Memref sig .tc .vmem S2x528x256 .f32) (harg13 : arg13.IsWhole) (arg14 : Memref sig .tc .vmem S512x2816 .bf16) (harg14 : arg14.IsWhole) : Prog (TpuEff nD τ sig (Elt F) Λ₀ .tc) PUnit := do
  let x : Vec F S512x1024 .f32 ← Prog.lift (.load arg1 (Rect.unit (s := S512x1024) ![0, 0] S512x1024.size inb_S512x1024_S512x1024_0_0).toLoadRect (View.loadsAt_vmem h_S512x1024))
  let U := ups arg2 arg3 arg10 arg11 arg12 arg13 (seg x) (iota .tc S8x256 32 [0] iota_S8x256_d0_w32)
  let C := gate (F := F) arg4 arg5 arg12 arg13 arg14 harg14
  U 0
  U 1; C 0
  U 2; C 1
  U 3; C 2
  U 4; C 3
  U 5; C 4
  U 6; C 5
  let g : Vec F S512x1536 .bf16 ← Prog.lift (.load arg14 (Rect.unit (s := S512x2816) ![0, 0] S512x1536.size inb_S512x2816_S512x1536_0_0).toLoadRect (View.loadsAt_vmem h_S512x1536))
  let w : Vec F S1536x1024 .bf16 ← Prog.lift (.load arg6 (Rect.unit (s := S2816x1024) ![0, 0] S1536x1024.size inb_S2816x1024_S1536x1024_0_0).toLoadRect (View.loadsAt_vmem h_S1536x1024))
  U 7; C 6
  U 8; C 7
  U 9; C 8
  U 10; C 9
  C 10
  down arg1 arg9 arg14 arg6 arg7 arg8 (headMM g w)

/-- The first point's zeroing of the held-over rows. -/
def zero (T : Memref sig .tc .vmem S11x16x256 .f32) : Prog (TpuEff nD τ sig (Elt F) Λ₀ .tc) PUnit := do
  let _ : Vec F S11x16x256 .f32 ← Prog.lift (.load T (Rect.unit (s := S11x16x256) ![0, 0, 0] S11x16x256.size inb_S11x16x256_S11x16x256_0_0_0).toLoadRect (View.loadsAt_vmem h_S11x16x256))
  Prog.lift (.store T (Rect.unit (s := S11x16x256) ![0, 0, 0] S11x16x256.size inb_S11x16x256_S11x16x256_0_0_0) (shapeCast S11x16x256 (broadcast S11x16x256 (Scalar.ofBits .f32 0x00000000#32)) shapeCasts_S11x16x256_S11x16x256) Finset.univ (View.stores_vmem_bits_univ h_S11x16x256 rfl) (.inl rfl))

/-- Is this the first point? -/
abbrev isFirst (i : grid0.Coords) : Prop := (Scalar.cmpi .ne (Scalar.extui (Scalar.cmpi .eq (BitVec.ofNat 32 (i 0).val) 0#32) : BitVec 32) 0#32) = 1#1

set_option maxHeartbeats 2000000 in
/-- At a later point the body is its chunks in order. -/
theorem body_later (i : grid0.Coords) (arg1 : Memref sig .tc .vmem S512x1024 .f32) (harg1 : arg1.IsWhole) (arg2 : Memref sig .tc .vmem S1024x2816 .bf16) (harg2 : arg2.IsWhole) (arg3 : Memref sig .tc .vmem S1024x2816 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S11x16x256 .f32) (harg10 : arg10.IsWhole) (arg11 : Memref sig .tc .vmem S11x16x256 .f32) (harg11 : arg11.IsWhole) (arg12 : Memref sig .tc .vmem S2x528x256 .f32) (harg12 : arg12.IsWhole) (arg13 : Memref sig .tc .vmem S2x528x256 .f32) (harg13 : arg13.IsWhole) (arg14 : Memref sig .tc .vmem S512x2816 .bf16) (harg14 : arg14.IsWhole) (h : ¬ isFirst i) :
    cc0_ffn_ln (F := F) i arg1 harg1 arg2 harg2 arg3 harg3 arg4 harg4 arg5 harg5 arg6 harg6 arg7 harg7 arg8 harg8 arg9 harg9 arg10 harg10 arg11 harg11 arg12 harg12 arg13 harg13 arg14 harg14 = rest i arg1 harg1 arg2 harg2 arg3 harg3 arg4 harg4 arg5 harg5 arg6 harg6 arg7 harg7 arg8 harg8 arg9 harg9 arg10 harg10 arg11 harg11 arg12 harg12 arg13 harg13 arg14 harg14 := by
  unfold cc0_ffn_ln k0_part57 k0_part1
  simp only [isFirst] at h
  simp only [dif_neg h]
  rfl

set_option maxHeartbeats 2000000 in
/-- At the first point the held-over rows are zeroed before. -/
theorem body_first (i : grid0.Coords) (arg1 : Memref sig .tc .vmem S512x1024 .f32) (harg1 : arg1.IsWhole) (arg2 : Memref sig .tc .vmem S1024x2816 .bf16) (harg2 : arg2.IsWhole) (arg3 : Memref sig .tc .vmem S1024x2816 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S11x16x256 .f32) (harg10 : arg10.IsWhole) (arg11 : Memref sig .tc .vmem S11x16x256 .f32) (harg11 : arg11.IsWhole) (arg12 : Memref sig .tc .vmem S2x528x256 .f32) (harg12 : arg12.IsWhole) (arg13 : Memref sig .tc .vmem S2x528x256 .f32) (harg13 : arg13.IsWhole) (arg14 : Memref sig .tc .vmem S512x2816 .bf16) (harg14 : arg14.IsWhole) (h : isFirst i) :
    cc0_ffn_ln (F := F) i arg1 harg1 arg2 harg2 arg3 harg3 arg4 harg4 arg5 harg5 arg6 harg6 arg7 harg7 arg8 harg8 arg9 harg9 arg10 harg10 arg11 harg11 arg12 harg12 arg13 harg13 arg14 harg14 = (do zero arg10; zero arg11; rest i arg1 harg1 arg2 harg2 arg3 harg3 arg4 harg4 arg5 harg5 arg6 harg6 arg7 harg7 arg8 harg8 arg9 harg9 arg10 harg10 arg11 harg11 arg12 harg12 arg13 harg13 arg14 harg14) := by
  unfold cc0_ffn_ln k0_part57 k0_part1
  simp only [isFirst] at h
  simp only [dif_pos h]
  rfl

end Cert.Kernel2Ideal.Chunk

end
-- ==== Proof.FfnSteps.lean ====
/- Single steps of the feed-forward kernel's body: loads, stores and the first point's branch. -/
module

public import proofs.«01_k».proof.Proof.FfnChunk
public import Idealize.ShloMosaic.Lib.VecWindow
public import Idealize.ShloMosaic.Lib.ValueLayout
public import Idealize.ShloMosaic.Lib.ValueIdx
public import Idealize.ShloMosaic.Lib.Tactic

@[expose] public section

set_option maxRecDepth 16384

noncomputable section

namespace Cert.Kernel2Ideal.Chunk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen
open Idealize.ShloMosaic.ValueIdx (ix2 ix3)
open Idealize.ShloMosaic.VecWindow (window put)
open Idealize.ShloMosaic.ValueIdx (reshapeEquiv_ix2_1ab)

variable {F : FTy → Type} [FloatOps F] [Named F]

local notation "𝕄" => MT nD τ sig Unit (Elt F) ℕ (UR sig nD τ) ℕ

/-- A load of a box: the program goes on with the window of what the buffer holds. -/
theorem load_box {s : Shape} {e : EltTy} {α : Type} (c : Dev nD) (E : Set ℕ) (M : Memref sig .tc .vmem s e) (q : PosShare TreeShare) (x : s.Idx → Elt F e)
    (off size : Fin s.rank → ℕ) (inb : ∀ a, off a + size a ≤ s.size a) (hl : M.view.LoadsAt (Rect.unit off size inb).toLoadRect)
    (k : ((Rect.unit off size inb).shape.Idx → Elt F e) → Prog (TpuEff nD τ sig (Elt F) Λ₀ .tc) α) (K : α → sProp 𝕄) :
    iprop(owns (c : Thread nD τ) M q x ∗ (owns (c : Thread nD τ) M q x -∗ wp frame (wpE (defs₀ (F := F)) Variants.none (c : Thread nD τ) none) E (k (window x off size inb)) K))
      ⊢ wp frame (wpE (defs₀ (F := F)) Variants.none (c : Thread nD τ) none) E (Prog.lift (.load M (Rect.unit off size inb).toLoadRect hl) >>= k) K := by
  show _ ⊢ wp frame _ E (Prog.op (.load M (Rect.unit off size inb).toLoadRect hl) k) K
  unfold owns
  iintro ⟨⟨%f, %hf, H⟩, Hk⟩
  subst hf
  iapply (wp_load Variants.none (c : Thread nD τ) none E (defs := defs₀ (F := F)) (m := M) (r := (Rect.unit off size inb).toLoadRect) (hl := hl) (k := k) (Q := K) (q := q) (f := f)
    (View.setOn_subset_set _ _)) $$ [H]
  · iexact H
  iintro H
  iapply Hk
  iexists f
  isplitr
  · ipureintro; rfl
  iexact H

/-- A store of a box: the buffer is left with the payload put there. -/
theorem store_box {s : Shape} {e : EltTy} {α : Type} (c : Dev nD) (E : Set ℕ) (M : Memref sig .tc .vmem s e) (x : s.Idx → Elt F e)
    (off size : Fin s.rank → ℕ) (inb : ∀ a, off a + size a ≤ s.size a) (w : (Rect.unit off size inb).shape.Idx → Elt F e) (hx : (M.access (Rect.unit off size inb)).Stores Finset.univ)
    (hm : Finset.univ = Finset.univ ∨ ∀ a, (Rect.unit off size inb).stride a = 1)
    (k : PUnit → Prog (TpuEff nD τ sig (Elt F) Λ₀ .tc) α) (K : α → sProp 𝕄) :
    iprop(owns (c : Thread nD τ) M fullShare x ∗ (owns (c : Thread nD τ) M fullShare (put x off size w) -∗ wp frame (wpE (defs₀ (F := F)) Variants.none (c : Thread nD τ) none) E (k ⟨⟩) K))
      ⊢ wp frame (wpE (defs₀ (F := F)) Variants.none (c : Thread nD τ) none) E (Prog.lift (.store M (Rect.unit off size inb) w Finset.univ hx hm) >>= k) K := by
  show _ ⊢ wp frame _ E (Prog.op (.store M (Rect.unit off size inb) w Finset.univ hx hm) k) K
  unfold owns
  iintro ⟨⟨%f, %hf, H⟩, Hk⟩
  subst hf
  iapply (wp_store Variants.none (c : Thread nD τ) none E (defs := defs₀ (F := F)) (m := M) (r := Rect.unit off size inb) (w := w) (hx := hx) (hm := hm) (k := k) (Q := K) (f := f) (S := M.view.set)
    (View.set_slice_subset M.view _)) $$ [H]
  · iexact H
  iintro H
  iapply Hk
  iexists _
  isplitr
  rotate_left
  · iexact H
  ipureintro
  exact View.read_writes_cons_put M.view f inb w [] rfl

/-- The held-over rows of one chunk lie in the buffer. -/
theorem tail_set (T : Memref sig .tc .vmem S11x16x256 .f32) (n : Fin 11) : (tailAt T n).view.set ⊆ T.view.set := by
  show ((T.view.slice _).reshape _ _).set ⊆ _
  rw [View.set_reshape]
  exact View.set_slice_subset _ _

/-- Where the squeezed slice of chunk `c` places its box at row `o`. -/
theorem tail_place (c : Fin 11) (o : ℕ) (ho : ∀ a, (![o, 0] : Fin 2 → ℕ) a + S8x256.size a ≤ S16x256.size a) (z : S8x256.Idx) :
    (Rect.unit (s := S11x16x256) ![c.val, 0, 0] S1x16x256.size (inbT c)).emb (Shape.reshapeEquiv squeezes_S1x16x256_S16x256.numel_eq ((Rect.unit (s := S16x256) ![o, 0] S8x256.size ho).emb z))
      = (ix3 c ⟨o + (z 0).val, by have h := ho 0; have := (z 0).isLt; simp at h this; omega⟩ (z 1) : S11x16x256.Idx) := by
  have hz : (Rect.unit (s := S16x256) ![o, 0] S8x256.size ho).emb z = (ix2 ⟨o + (z 0).val, by have h := ho 0; have := (z 0).isLt; simp at h this; omega⟩ (z 1) : S16x256.Idx) := by
    funext a; apply Fin.ext
    show (![o, 0] : Fin 2 → ℕ) a + 1 * (z a).val = _
    fin_cases a
    · show o + 1 * (z 0).val = o + (z 0).val; omega
    · show 0 + 1 * (z 1).val = (z 1).val; omega
  rw [hz]
  refine (congrArg (Rect.unit (s := S11x16x256) ![c.val, 0, 0] S1x16x256.size (inbT c)).emb (reshapeEquiv_ix2_1ab squeezes_S1x16x256_S16x256.numel_eq _ _)).trans ?_
  funext a; apply Fin.ext
  show (![c.val, 0, 0] : Fin 3 → ℕ) a + 1 * ((ix3 (⟨0, Nat.one_pos⟩ : Fin 1) _ _ : S1x16x256.Idx) a).val = _
  fin_cases a
  · show c.val + 1 * 0 = c.val; omega
  · show 0 + 1 * (o + (z 0).val) = o + (z 0).val; omega
  · show 0 + 1 * (z 1).val = (z 1).val; omega

/-- The held-over tile at row `o` of chunk `c`. -/
def tile (t : Vec F S11x16x256 .f32) (c : Fin 11) (o : ℕ) : Vec F S8x256 .f32 :=
  fun z => if h : o + (z 0).val < 16 then t (ix3 c ⟨o + (z 0).val, h⟩ (z 1)) else t (ix3 c 0 (z 1))

/-- The held-over rows with a tile put at row `o` of chunk `c`. -/
def putTile (t : Vec F S11x16x256 .f32) (c : Fin 11) (o : ℕ) (w : Vec F S8x256 .f32) : Vec F S11x16x256 .f32 :=
  fun y => if h : (y 0).val = c.val ∧ o ≤ (y 1).val ∧ (y 1).val < o + 8 then w (ix2 ⟨(y 1).val - o, by omega⟩ (y 2)) else t y

/-- A load of a held-over tile. -/
theorem load_tile {α : Type} (c : Dev nD) (E : Set ℕ) (T : Memref sig .tc .vmem S11x16x256 .f32) (t : Vec F S11x16x256 .f32) (n : Fin 11) (o : ℕ)
    (ho : ∀ a, (![o, 0] : Fin 2 → ℕ) a + S8x256.size a ≤ S16x256.size a) (hl : (tailAt T n).view.LoadsAt (Rect.unit (s := S16x256) ![o, 0] S8x256.size ho).toLoadRect)
    (k : Vec F S8x256 .f32 → Prog (TpuEff nD τ sig (Elt F) Λ₀ .tc) α) (K : α → sProp 𝕄) :
    iprop(owns (c : Thread nD τ) T fullShare t ∗ (owns (c : Thread nD τ) T fullShare t -∗ wp frame (wpE (defs₀ (F := F)) Variants.none (c : Thread nD τ) none) E (k (tile t n o)) K))
      ⊢ wp frame (wpE (defs₀ (F := F)) Variants.none (c : Thread nD τ) none) E (Prog.lift (.load (tailAt T n) (Rect.unit (s := S16x256) ![o, 0] S8x256.size ho).toLoadRect hl) >>= k) K := by
  show _ ⊢ wp frame _ E (Prog.op (.load (tailAt T n) (Rect.unit (s := S16x256) ![o, 0] S8x256.size ho).toLoadRect hl) k) K
  unfold owns
  iintro ⟨⟨%f, %hf, H⟩, Hk⟩
  subst hf
  have e : tile (T.view.read (Elt F) f) n o = (tailAt T n).view.readAt (Elt F) (Rect.unit (s := S16x256) ![o, 0] S8x256.size ho).toLoadRect f := by
    funext z
    have h : o + (z 0).val < 16 := by have h := ho 0; have := (z 0).isLt; simp at h this; omega
    rw [tile, dif_pos h]
    exact congrArg (T.view.read (Elt F) f) (tail_place n o ho z).symm
  rw [e]
  iapply (wp_load Variants.none (c : Thread nD τ) none E (defs := defs₀ (F := F)) (m := tailAt T n) (r := (Rect.unit (s := S16x256) ![o, 0] S8x256.size ho).toLoadRect) (hl := hl) (k := k) (Q := K) (q := fullShare) (f := f) (S := T.view.set)
    ((View.setOn_subset_set _ _).trans (tail_set T n))) $$ [H]
  · iexact H
  iintro H
  iapply Hk
  iexists f
  isplitr
  · ipureintro; rfl
  iexact H

/-- A store of a held-over tile. -/
theorem store_tile {α : Type} (c : Dev nD) (E : Set ℕ) (T : Memref sig .tc .vmem S11x16x256 .f32) (t : Vec F S11x16x256 .f32) (n : Fin 11) (o : ℕ)
    (ho : ∀ a, (![o, 0] : Fin 2 → ℕ) a + S8x256.size a ≤ S16x256.size a) (w : Vec F S8x256 .f32) (hx : ((tailAt T n).access (Rect.unit (s := S16x256) ![o, 0] S8x256.size ho)).Stores Finset.univ)
    (hm : Finset.univ = Finset.univ ∨ ∀ a, (Rect.unit (s := S16x256) ![o, 0] S8x256.size ho).stride a = 1)
    (k : PUnit → Prog (TpuEff nD τ sig (Elt F) Λ₀ .tc) α) (K : α → sProp 𝕄) :
    iprop(owns (c : Thread nD τ) T fullShare t ∗ (owns (c : Thread nD τ) T fullShare (putTile t n o w) -∗ wp frame (wpE (defs₀ (F := F)) Variants.none (c : Thread nD τ) none) E (k ⟨⟩) K))
      ⊢ wp frame (wpE (defs₀ (F := F)) Variants.none (c : Thread nD τ) none) E (Prog.lift (.store (tailAt T n) (Rect.unit (s := S16x256) ![o, 0] S8x256.size ho) w Finset.univ hx hm) >>= k) K := by
  show _ ⊢ wp frame _ E (Prog.op (.store (tailAt T n) (Rect.unit (s := S16x256) ![o, 0] S8x256.size ho) w Finset.univ hx hm) k) K
  unfold owns
  iintro ⟨⟨%f, %hf, H⟩, Hk⟩
  subst hf
  have e : putTile (T.view.read (Elt F) f) n o w = T.view.read (Elt F) (((tailAt T n).access (Rect.unit (s := S16x256) ![o, 0] S8x256.size ho)).write (Elt F) f w Finset.univ) := by
    funext y
    by_cases h : (y 0).val = n.val ∧ o ≤ (y 1).val ∧ (y 1).val < o + 8
    · rw [putTile, dif_pos h]
      have hy : y = (Rect.unit (s := S11x16x256) ![n.val, 0, 0] S1x16x256.size (inbT n)).emb (Shape.reshapeEquiv squeezes_S1x16x256_S16x256.numel_eq ((Rect.unit (s := S16x256) ![o, 0] S8x256.size ho).emb (ix2 ⟨(y 1).val - o, by omega⟩ (y 2)))) := by
        rw [tail_place]
        funext a; apply Fin.ext
        fin_cases a
        · exact h.1
        · show (y 1).val = o + ((y 1).val - o); omega
        · rfl
      conv_rhs => rw [hy]
      exact (congrFun (View.read_write_univ (v := (tailAt T n).access (Rect.unit (s := S16x256) ![o, 0] S8x256.size ho)) f w) (ix2 ⟨(y 1).val - o, by omega⟩ (y 2))).symm
    · rw [putTile, dif_neg h]
      refine (View.read_congr_at (v := T.view) y ?_).symm
      refine View.write_of_not_mem (v := (tailAt T n).access (Rect.unit (s := S16x256) ![o, 0] S8x256.size ho)) f w Finset.univ ?_
      intro hmem
      obtain ⟨z, -, hz⟩ := Finset.mem_map.mp hmem
      have hy := T.view.emb.injective hz
      have hp := (tail_place n o ho z).symm.trans hy
      refine h ⟨?_, ?_, ?_⟩
      · rw [← hp]
      · rw [← hp]; show o ≤ o + (z 0).val; omega
      · rw [← hp]; show o + (z 0).val < o + 8; have := (z 0).isLt; simp at this; omega
  rw [e]
  iapply (wp_store Variants.none (c : Thread nD τ) none E (defs := defs₀ (F := F)) (m := tailAt T n) (r := Rect.unit (s := S16x256) ![o, 0] S8x256.size ho) (w := w) (hx := hx) (hm := hm) (k := k) (Q := K) (f := f) (S := T.view.set)
    ((View.set_slice_subset _ _).trans (tail_set T n))) $$ [H]
  · iexact H
  iintro H
  iapply Hk
  iexists _
  isplitr
  rotate_left
  · iexact H
  ipureintro
  rfl

end Cert.Kernel2Ideal.Chunk

end
-- ==== Proof.FfnUps.lean ====
/- The up-projections of the feed-forward kernel's body. -/
module

public import proofs.«01_k».proof.Proof.FfnSteps

@[expose] public section

set_option maxRecDepth 16384

noncomputable section

namespace Cert.Kernel2Ideal.Chunk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen
open Idealize.ShloMosaic.ValueIdx (ix2 ix3 shapeCast_ab_1ab_apply eq_ix2 eq_ix3)
open Idealize.ShloMosaic.VecWindow (window put)

variable {F : FTy → Type} [FloatOps F] [Named F]

local notation "𝕄" => MT nD τ sig Unit (Elt F) ℕ (UR sig nD τ) ℕ

/-- Chunk `c`'s columns of an up-projection matrix. -/
def wcol (w : Vec F S1024x2816 .bf16) (c : Fin 11) : Vec F S1024x256 .bf16 := window w ![0, c.val * 256] S1024x256.size (inbW c)

/-- The slot of chunk `c` in the work rows. -/
def slot (d : Vec F S2x528x256 .f32) (c : Fin 11) (i : Fin 528) (j : Fin 256) : F .f32 := d (ix3 ⟨c.val % 2, by omega⟩ i j)

/-- What a chunk leaves in its slot: the two tiles before its rows, then its rows. -/
def fill (v8 : IVec S8x256 32) (h : FVec F S512x256 .f32) (p2 p1 : FVec F S8x256 .f32) (i : Fin 528) (j : Fin 256) : F .f32 :=
  if h0 : i.val < 8 then shifted v8 p2 (last2 h) (ix2 ⟨i.val, h0⟩ j)
  else if h1 : i.val < 16 then shifted v8 p1 (last1 h) (ix2 ⟨i.val - 8, by omega⟩ j)
  else h (ix2 ⟨i.val - 16, by omega⟩ j)

/-- The work rows with a slot filled. -/
def putSlot (d : Vec F S2x528x256 .f32) (c : Fin 11) (f : Fin 528 → Fin 256 → F .f32) : Vec F S2x528x256 .f32 :=
  fun y => if (y 0).val = c.val % 2 then f (y 1) (y 2) else d y

theorem slot_putSlot (d : Vec F S2x528x256 .f32) (c : Fin 11) (f : Fin 528 → Fin 256 → F .f32) : slot (putSlot d c f) c = f := by
  funext i j; exact if_pos rfl

theorem slot_putSlot_ne (d : Vec F S2x528x256 .f32) (c c' : Fin 11) (f : Fin 528 → Fin 256 → F .f32) (h : c.val % 2 ≠ c'.val % 2) : slot (putSlot d c' f) c = slot d c := by
  funext i j; exact if_neg h

/-- A put of whole rows of one slot, at an index. -/
theorem put_slot (d : Vec F S2x528x256 .f32) (a b n : ℕ) (w : (⟨3, ![1, n, 256]⟩ : Shape).Idx → F .f32) (y : S2x528x256.Idx) :
    put (s := S2x528x256) d ![a, b, 0] ![1, n, 256] w y
      = if h : (y 0).val = a ∧ b ≤ (y 1).val ∧ (y 1).val < b + n then w (ix3 (0 : Fin 1) (⟨(y 1).val - b, by omega⟩ : Fin n) (y 2)) else d y := by
  unfold put
  by_cases h : (y 0).val = a ∧ b ≤ (y 1).val ∧ (y 1).val < b + n
  · have h2 : ((y 2 : Fin 256) : ℕ) < 256 := (y 2).isLt
    rw [dif_pos h, dif_pos (by
      intro k
      fin_cases k
      · exact ⟨h.1.ge, by show (y 0).val < a + 1; omega⟩
      · exact h.2
      · exact ⟨Nat.zero_le _, by show (y 2).val < 0 + 256; omega⟩)]
    refine congrArg w (funext fun k => Fin.ext ?_)
    fin_cases k
    · show (y 0).val - a = 0; omega
    · rfl
    · show (y 2).val - 0 = (y 2).val; omega
  · rw [dif_neg h, dif_neg fun hall => h ⟨by have := hall 0; simp at this; omega, by have := hall 1; simpa using this.1, by have := hall 1; simpa using this.2⟩]

/-- The three puts of a chunk fill its slot. -/
theorem puts_eq (d : Vec F S2x528x256 .f32) (c : Fin 11) (v8 : IVec S8x256 32) (h : FVec F S512x256 .f32) (p2 p1 : FVec F S8x256 .f32) :
    put (s := S2x528x256) (put (s := S2x528x256) (put (s := S2x528x256) d ![c.val % 2, 16, 0] S1x512x256.size (shapeCast S1x512x256 h shapeCasts_S512x256_S1x512x256))
      ![c.val % 2, 0, 0] S1x8x256.size (shapeCast S1x8x256 (shifted v8 p2 (last2 h)) shapeCasts_S8x256_S1x8x256))
      ![c.val % 2, 8, 0] S1x8x256.size (shapeCast S1x8x256 (shifted v8 p1 (last1 h)) shapeCasts_S8x256_S1x8x256)
      = putSlot d c (fill v8 h p2 p1) := by
  funext y
  have h1 : ((y 1 : Fin 528) : ℕ) < 528 := (y 1).isLt
  refine (put_slot _ _ 8 8 _ y).trans ?_
  unfold putSlot fill
  by_cases ha : (y 0).val = c.val % 2
  · rw [if_pos ha]
    by_cases hb : (y 1).val < 8
    · rw [dif_neg (by omega), dif_pos hb]
      refine (put_slot _ _ 0 8 _ y).trans ?_
      rw [dif_pos ⟨ha, by omega, by omega⟩]
      exact shapeCast_ab_1ab_apply _ _ _ _ _
    · by_cases hc : (y 1).val < 16
      · rw [dif_pos ⟨ha, by omega, by omega⟩, dif_neg hb, dif_pos hc]
        exact shapeCast_ab_1ab_apply _ _ _ _ _
      · rw [dif_neg (by omega), dif_neg hb, dif_neg hc]
        refine (put_slot _ _ 0 8 _ y).trans ?_
        rw [dif_neg (by omega)]
        refine (put_slot _ _ 16 512 _ y).trans ?_
        rw [dif_pos ⟨ha, by omega, by omega⟩]
        exact shapeCast_ab_1ab_apply _ _ _ _ _
  · rw [if_neg ha, dif_neg (by omega)]
    refine (put_slot _ _ 0 8 _ y).trans ?_
    rw [dif_neg (by omega)]
    refine (put_slot _ _ 16 512 _ y).trans ?_
    rw [dif_neg (by omega)]

/-- The held-over rows all chunks leave. -/
def newTail (h : Fin 11 → FVec F S512x256 .f32) : Vec F S11x16x256 .f32 :=
  fun y => if h0 : (y 1).val < 8 then last1 (h (y 0)) (ix2 ⟨(y 1).val, h0⟩ (y 2)) else last2 (h (y 0)) (ix2 ⟨(y 1).val - 8, by have := (y 1).isLt; simp at this; omega⟩ (y 2))

/-- The held-over rows after the first `n` chunks. -/
def tails (t : Vec F S11x16x256 .f32) (h : Fin 11 → FVec F S512x256 .f32) (n : ℕ) : Vec F S11x16x256 .f32 :=
  fun y => if (y 0).val < n then newTail h y else t y

theorem tails_zero (t : Vec F S11x16x256 .f32) (h : Fin 11 → FVec F S512x256 .f32) : tails t h 0 = t := by
  funext y; exact if_neg (Nat.not_lt_zero _)

theorem tails_all (t : Vec F S11x16x256 .f32) (h : Fin 11 → FVec F S512x256 .f32) : tails t h 11 = newTail h := by
  funext y; exact if_pos (y 0).isLt

theorem tile_tails (t : Vec F S11x16x256 .f32) (h : Fin 11 → FVec F S512x256 .f32) (c : Fin 11) (o : ℕ) : tile (tails t h c.val) c o = tile t c o := by
  funext z
  unfold tile tails
  split
  · exact if_neg (lt_irrefl c.val)
  · exact if_neg (lt_irrefl c.val)

theorem tile_putTile (t : Vec F S11x16x256 .f32) (c : Fin 11) (w : Vec F S8x256 .f32) : tile (putTile t c 8 w) c 0 = tile t c 0 := by
  funext z
  have hz : (z 0).val < 8 := (z 0).isLt
  have hz' : 0 + (z 0).val < 16 := by omega
  unfold tile
  rw [dif_pos hz', dif_pos hz']
  exact dif_neg fun hh => by
    have h8 : 8 ≤ 0 + (z 0).val := hh.2.1
    omega

theorem tails_succ (t : Vec F S11x16x256 .f32) (h : Fin 11 → FVec F S512x256 .f32) (c : Fin 11) :
    putTile (putTile (tails t h c.val) c 8 (last2 (h c))) c 0 (last1 (h c)) = tails t h (c.val + 1) := by
  funext y
  have h1 : ((y 1 : Fin 16) : ℕ) < 16 := (y 1).isLt
  unfold putTile tails newTail
  by_cases ha : (y 0).val = c.val
  · have e : y 0 = c := Fin.ext ha
    by_cases hb : (y 1).val < 8
    · rw [dif_pos ⟨ha, by omega, by omega⟩, if_pos (by omega), dif_pos hb]
      exact congrArg (fun m => last1 (h m) (ix2 ⟨(y 1).val, hb⟩ (y 2))) e.symm
    · rw [dif_neg (by omega), dif_pos ⟨ha, by omega, by omega⟩, if_pos (by omega), dif_neg hb]
      exact congrArg (fun m => last2 (h m) (ix2 ⟨(y 1).val - 8, by omega⟩ (y 2))) e.symm
  · rw [dif_neg (by omega), dif_neg (by omega)]
    by_cases hc : (y 0).val < c.val
    · rw [if_pos hc, if_pos (by omega)]
    · rw [if_neg hc, if_neg (by omega)]

set_option maxHeartbeats 1000000 in
/-- One half of a chunk's up-projection. -/
theorem up_run {α : Type} (c : Dev nD) (E : Set ℕ) (W : Memref sig .tc .vmem S1024x2816 .bf16) (T : Memref sig .tc .vmem S11x16x256 .f32) (D : Memref sig .tc .vmem S2x528x256 .f32)
    (v7 : FVec F S512x1024 .bf16) (v8 : IVec S8x256 32) (n : Fin 11) (w : Vec F S1024x2816 .bf16) (t : Vec F S11x16x256 .f32) (d : Vec F S2x528x256 .f32)
    (k : PUnit → Prog (TpuEff nD τ sig (Elt F) Λ₀ .tc) α) (K : α → sProp 𝕄) :
    iprop(owns (c : Thread nD τ) W fullShare w ∗ owns (c : Thread nD τ) T fullShare (tails t (fun n => upH v7 (wcol w n)) n.val) ∗ owns (c : Thread nD τ) D fullShare d
        ∗ (iprop(owns (c : Thread nD τ) W fullShare w ∗ owns (c : Thread nD τ) T fullShare (tails t (fun n => upH v7 (wcol w n)) (n.val + 1))
            ∗ owns (c : Thread nD τ) D fullShare (putSlot d n (fill v8 (upH v7 (wcol w n)) (tile t n 8) (tile t n 0))))
          -∗ wp frame (wpE (defs₀ (F := F)) Variants.none (c : Thread nD τ) none) E (k ⟨⟩) K))
      ⊢ wp frame (wpE (defs₀ (F := F)) Variants.none (c : Thread nD τ) none) E (up W T D v7 v8 n >>= k) K := by
  unfold up
  simp only [bind_assoc]
  iintro ⟨HW, HT, HD, Hk⟩
  iapply (load_box c E W fullShare w)
  isplitl [HW]; · iexact HW
  iintro HW
  iapply (load_box c E D fullShare d)
  isplitl [HD]; · iexact HD
  iintro HD
  iapply (store_box c E D d)
  isplitl [HD]; · iexact HD
  iintro HD
  iapply (load_tile c E T)
  isplitl [HT]; · iexact HT
  iintro HT
  iapply (load_tile c E T)
  isplitl [HT]; · iexact HT
  iintro HT
  iapply (store_tile c E T)
  isplitl [HT]; · iexact HT
  iintro HT
  iapply (load_tile c E T)
  isplitl [HT]; · iexact HT
  iintro HT
  iapply (load_tile c E T)
  isplitl [HT]; · iexact HT
  iintro HT
  iapply (store_tile c E T)
  isplitl [HT]; · iexact HT
  iintro HT
  iapply (load_box c E D)
  isplitl [HD]; · iexact HD
  iintro HD
  iapply (store_box c E D)
  isplitl [HD]; · iexact HD
  iintro HD
  iapply (load_box c E D)
  isplitl [HD]; · iexact HD
  iintro HD
  iapply (store_box c E D)
  isplitl [HD]; · iexact HD
  iintro HD
  have ew : window w ![0, n.val * 256] S1024x256.size (inbW n) = wcol w n := rfl
  simp only [ew, shapeCast_self, tile_putTile, tile_tails]
  rw [puts_eq, tails_succ t (fun n => upH v7 (wcol w n)) n]
  iapply Hk
  isplitl [HW]; · iexact HW
  isplitl [HT]; · iexact HT
  iexact HD

end Cert.Kernel2Ideal.Chunk

end
-- ==== Proof.FfnGates.lean ====
/- The stages of a chunk in the feed-forward kernel, one after the other. -/
module

public import proofs.«01_k».proof.Proof.FfnUps

@[expose] public section

set_option maxRecDepth 16384

noncomputable section

namespace Cert.Kernel2Ideal.Chunk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen
open Idealize.ShloMosaic.ValueIdx (ix2 ix3 shapeCast_ab_1ab_apply eq_ix2 eq_ix3)
open Idealize.ShloMosaic.VecWindow (window put)

variable {F : FTy → Type} [FloatOps F] [Named F]

local notation "𝕄" => MT nD τ sig Unit (Elt F) ℕ (UR sig nD τ) ℕ

/-- The convolution's weights of tap `k`, half `o`, chunk `n`. -/
def crow (cw : Vec F S3x5632 .f32) (k : Fin 3) (o : Fin 2) (n : Fin 11) : Vec F S1x256 .f32 := window cw ![k.val, o.val * 2816 + n.val * 256] S1x256.size (inbCW n k o)

/-- The convolution's bias of half `o`, chunk `n`. -/
def brow (cb : Vec F S1x5632 .f32) (o : Fin 2) (n : Fin 11) : Vec F S1x256 .f32 := window cb ![0, o.val * 2816 + n.val * 256] S1x256.size (inbCB n o)

/-- The slot's rows from row `o` on. -/
def rows (f : Fin 528 → Fin 256 → F .f32) (o : Fin 17) : Vec F S1x512x256 .f32 :=
  fun z => f ⟨o.val + (z 1).val, by have := (z 1).isLt; simp at this; omega⟩ (z 2)

theorem rows_slot (d : Vec F S2x528x256 .f32) (n : Fin 11) (o : Fin 17) (inb : ∀ a, (![n.val % 2, o.val, 0] : Fin 3 → ℕ) a + S1x512x256.size a ≤ S2x528x256.size a) :
    window d ![n.val % 2, o.val, 0] S1x512x256.size inb = rows (slot d n) o := by
  funext z
  refine congrArg d (funext fun a => Fin.ext ?_)
  have h0 : ((z 0 : Fin 1) : ℕ) < 1 := (z 0).isLt
  show (![n.val % 2, o.val, 0] : Fin 3 → ℕ) a + 1 * (z a).val = _
  fin_cases a
  · show n.val % 2 + 1 * (z 0).val = n.val % 2; omega
  · show o.val + 1 * (z 1).val = o.val + (z 1).val; omega
  · show 0 + 1 * (z 2).val = (z 2).val; omega

/-- One half of a chunk's convolution, of its slot. -/
def convV (cw : Vec F S3x5632 .f32) (cb : Vec F S1x5632 .f32) (sc : BitVec 32) (o : Fin 2) (n : Fin 11) (f : Fin 528 → Fin 256 → F .f32) : FVec F S512x256 .f32 :=
  tap sc (tap sc (tap sc (bias sc (brow cb o n)) (crow cw 0 o n) (rows f 0)) (crow cw 1 o n) (rows f 8)) (crow cw 2 o n) (rows f 16)

theorem conv_run {α : Type} (c : Dev nD) (E : Set ℕ) (CW : Memref sig .tc .vmem S3x5632 .f32) (CB : Memref sig .tc .vmem S1x5632 .f32) (D : Memref sig .tc .vmem S2x528x256 .f32) (sc : BitVec 32) (o : Fin 2) (n : Fin 11)
    (cw : Vec F S3x5632 .f32) (cb : Vec F S1x5632 .f32) (d : Vec F S2x528x256 .f32)
    (k : FVec F S512x256 .f32 → Prog (TpuEff nD τ sig (Elt F) Λ₀ .tc) α) (K : α → sProp 𝕄) :
    iprop(owns (c : Thread nD τ) CW fullShare cw ∗ owns (c : Thread nD τ) CB fullShare cb ∗ owns (c : Thread nD τ) D fullShare d
        ∗ (iprop(owns (c : Thread nD τ) CW fullShare cw ∗ owns (c : Thread nD τ) CB fullShare cb ∗ owns (c : Thread nD τ) D fullShare d)
          -∗ wp frame (wpE (defs₀ (F := F)) Variants.none (c : Thread nD τ) none) E (k (convV cw cb sc o n (slot d n))) K))
      ⊢ wp frame (wpE (defs₀ (F := F)) Variants.none (c : Thread nD τ) none) E (conv CW CB D sc o n >>= k) K := by
  unfold conv
  simp only [bind_assoc, pure_bind]
  iintro ⟨HW, HB, HD, Hk⟩
  iapply (load_box c E CB fullShare cb)
  isplitl [HB]; · iexact HB
  iintro HB
  iapply (load_box c E CW fullShare cw)
  isplitl [HW]; · iexact HW
  iintro HW
  iapply (load_box c E D fullShare d)
  isplitl [HD]; · iexact HD
  iintro HD
  iapply (load_box c E CW fullShare cw)
  isplitl [HW]; · iexact HW
  iintro HW
  iapply (load_box c E D fullShare d)
  isplitl [HD]; · iexact HD
  iintro HD
  iapply (load_box c E CW fullShare cw)
  isplitl [HW]; · iexact HW
  iintro HW
  iapply (load_box c E D fullShare d)
  isplitl [HD]; · iexact HD
  iintro HD
  have e0 : window d ![n.val % 2, 0, 0] S1x512x256.size (inbS0 n) = rows (slot d n) 0 := rows_slot d n 0 (inbS0 n)
  have e8 : window d ![n.val % 2, 8, 0] S1x512x256.size (inbS8 n) = rows (slot d n) 8 := rows_slot d n 8 (inbS8 n)
  have e16 : window d ![n.val % 2, 16, 0] S1x512x256.size (inbS16 n) = rows (slot d n) 16 := rows_slot d n 16 (inbS16 n)
  rw [e0, e8, e16]
  iapply Hk
  isplitl [HW]; · iexact HW
  isplitl [HB]; · iexact HB
  iexact HD

/-- The gated columns with the first `n` chunks' put. -/
def gcols (blk : Fin 11 → FVec F S512x256 .bf16) (g : Vec F S512x2816 .bf16) (n : ℕ) : Vec F S512x2816 .bf16 :=
  fun y => if (y 1).val < n * 256 then blk ⟨(y 1).val / 256, by have := (y 1).isLt; simp at this; omega⟩ (ix2 (y 0) ⟨(y 1).val % 256, Nat.mod_lt _ (by decide)⟩) else g y

theorem gcols_zero (blk : Fin 11 → FVec F S512x256 .bf16) (g : Vec F S512x2816 .bf16) : gcols blk g 0 = g := by
  funext y; exact if_neg (by omega)

theorem gcols_succ (blk : Fin 11 → FVec F S512x256 .bf16) (g : Vec F S512x2816 .bf16) (n : Fin 11) :
    put (s := S512x2816) (gcols blk g n.val) ![0, n.val * 256] S512x256.size (blk n) = gcols blk g (n.val + 1) := by
  funext y
  have h0 : ((y 0 : Fin 512) : ℕ) < 512 := (y 0).isLt
  unfold put
  by_cases h : n.val * 256 ≤ (y 1).val ∧ (y 1).val < n.val * 256 + 256
  · rw [dif_pos (by
      intro k
      fin_cases k
      · exact ⟨Nat.zero_le _, by show (y 0).val < 0 + 512; omega⟩
      · exact h)]
    unfold gcols
    rw [if_pos (by omega)]
    have e : (⟨(y 1).val / 256, by omega⟩ : Fin 11) = n := Fin.ext (by show (y 1).val / 256 = n.val; omega)
    rw [e]
    refine congrArg (blk n) (funext fun k => Fin.ext ?_)
    fin_cases k
    · show (y 0).val - 0 = (y 0).val; omega
    · show (y 1).val - n.val * 256 = (y 1).val % 256; omega
  · rw [dif_neg fun hall => h (hall 1)]
    unfold gcols
    by_cases h2 : (y 1).val < n.val * 256
    · rw [if_pos h2, if_pos (by omega)]
    · rw [if_neg h2, if_neg (by omega)]

theorem gate_run {α : Type} (c : Dev nD) (E : Set ℕ) (CW : Memref sig .tc .vmem S3x5632 .f32) (CB : Memref sig .tc .vmem S1x5632 .f32) (Dg Du : Memref sig .tc .vmem S2x528x256 .f32) (G : Memref sig .tc .vmem S512x2816 .bf16) (hG : G.IsWhole) (n : Fin 11)
    (cw : Vec F S3x5632 .f32) (cb : Vec F S1x5632 .f32) (dg du : Vec F S2x528x256 .f32) (blk : Fin 11 → FVec F S512x256 .bf16) (g : Vec F S512x2816 .bf16)
    (hb : blk n = gated (convV cw cb 0x3F000000#32 0 n (slot dg n)) (convV cw cb 0x3F800000#32 1 n (slot du n)))
    (k : PUnit → Prog (TpuEff nD τ sig (Elt F) Λ₀ .tc) α) (K : α → sProp 𝕄) :
    iprop(owns (c : Thread nD τ) CW fullShare cw ∗ owns (c : Thread nD τ) CB fullShare cb ∗ owns (c : Thread nD τ) Dg fullShare dg ∗ owns (c : Thread nD τ) Du fullShare du ∗ owns (c : Thread nD τ) G fullShare (gcols blk g n.val)
        ∗ (iprop(owns (c : Thread nD τ) CW fullShare cw ∗ owns (c : Thread nD τ) CB fullShare cb ∗ owns (c : Thread nD τ) Dg fullShare dg ∗ owns (c : Thread nD τ) Du fullShare du ∗ owns (c : Thread nD τ) G fullShare (gcols blk g (n.val + 1)))
          -∗ wp frame (wpE (defs₀ (F := F)) Variants.none (c : Thread nD τ) none) E (k ⟨⟩) K))
      ⊢ wp frame (wpE (defs₀ (F := F)) Variants.none (c : Thread nD τ) none) E (gate CW CB Dg Du G hG n >>= k) K := by
  unfold gate
  simp only [bind_assoc]
  iintro ⟨HW, HB, HDg, HDu, HG, Hk⟩
  iapply (conv_run c E CW CB Dg _ _ _ cw cb dg)
  isplitl [HW]; · iexact HW
  isplitl [HB]; · iexact HB
  isplitl [HDg]; · iexact HDg
  iintro ⟨HW, HB, HDg⟩
  iapply (conv_run c E CW CB Du _ _ _ cw cb du)
  isplitl [HW]; · iexact HW
  isplitl [HB]; · iexact HB
  isplitl [HDu]; · iexact HDu
  iintro ⟨HW, HB, HDu⟩
  iapply (load_box c E G fullShare)
  isplitl [HG]; · iexact HG
  iintro HG
  iapply (store_box c E G)
  isplitl [HG]; · iexact HG
  iintro HG
  rw [shapeCast_self, ← hb, gcols_succ]
  iapply Hk
  isplitl [HW]; · iexact HW
  isplitl [HB]; · iexact HB
  isplitl [HDg]; · iexact HDg
  isplitl [HDu]; · iexact HDu
  iexact HG

/-- The block's rows of run `r`, segment `s`. -/
def xrow (x : Vec F S512x1024 .f32) (r : Fin 2) (s : Fin 8) : Vec F S32x1024 .f32 := window x ![s.val * 64 + r.val * 32, 0] S32x1024.size (inbX r s)

/-- The output with run `r` of the first `n` segments written. -/
def runs (o : Vec F S512x1024 .f32) (r : Fin 2) (v : FVec F S256x1024 .f32) (n : ℕ) : Vec F S512x1024 .f32 :=
  fun y => if (y 0).val % 64 / 32 = r.val ∧ (y 0).val / 64 < n then v (ix2 ⟨(y 0).val / 64 * 32 + (y 0).val % 32, by have := (y 0).isLt; simp at this; omega⟩ (y 1)) else o y

theorem runs_zero (o : Vec F S512x1024 .f32) (r : Fin 2) (v : FVec F S256x1024 .f32) : runs o r v 0 = o := by
  funext y; exact if_neg (by omega)

theorem runs_succ (o : Vec F S512x1024 .f32) (r : Fin 2) (s : Fin 8) (v : FVec F S256x1024 .f32) (h : S256x1024.Slices ![s.val * 32, 0] S32x1024) :
    put (s := S512x1024) (runs o r v s.val) ![s.val * 64 + r.val * 32, 0] S32x1024.size (extractStridedSlice S32x1024 ![s.val * 32, 0] v h) = runs o r v (s.val + 1) := by
  funext y
  have h1 : ((y 1 : Fin 1024) : ℕ) < 1024 := (y 1).isLt
  have h0 : ((y 0 : Fin 512) : ℕ) < 512 := (y 0).isLt
  unfold put
  by_cases h : s.val * 64 + r.val * 32 ≤ (y 0).val ∧ (y 0).val < s.val * 64 + r.val * 32 + 32
  · rw [dif_pos (by
      intro k
      fin_cases k
      · exact h
      · exact ⟨Nat.zero_le _, by show (y 1).val < 0 + 1024; omega⟩)]
    unfold runs
    rw [if_pos (by omega)]
    refine congrArg v (funext fun k => Fin.ext ?_)
    fin_cases k
    · show s.val * 32 + ((y 0).val - (s.val * 64 + r.val * 32)) = (y 0).val / 64 * 32 + (y 0).val % 32; omega
    · show 0 + ((y 1).val - 0) = (y 1).val; omega
  · rw [dif_neg fun hall => h (hall 0)]
    unfold runs
    by_cases h2 : (y 0).val % 64 / 32 = r.val ∧ (y 0).val / 64 < s.val
    · rw [if_pos h2, if_pos (by omega)]
    · rw [if_neg h2, if_neg (by omega)]

theorem stO_run {α : Type} (c : Dev nD) (E : Set ℕ) (O : Memref sig .tc .vmem S512x1024 .f32) (r : Fin 2) (s : Fin 8) (o : Vec F S512x1024 .f32) (v : FVec F S256x1024 .f32) (h : S256x1024.Slices ![s.val * 32, 0] S32x1024)
    (k : PUnit → Prog (TpuEff nD τ sig (Elt F) Λ₀ .tc) α) (K : α → sProp 𝕄) :
    iprop(owns (c : Thread nD τ) O fullShare (runs o r v s.val) ∗ (owns (c : Thread nD τ) O fullShare (runs o r v (s.val + 1))
          -∗ wp frame (wpE (defs₀ (F := F)) Variants.none (c : Thread nD τ) none) E (k ⟨⟩) K))
      ⊢ wp frame (wpE (defs₀ (F := F)) Variants.none (c : Thread nD τ) none) E (stO O r s (extractStridedSlice S32x1024 ![s.val * 32, 0] v h) >>= k) K := by
  unfold stO
  simp only [bind_assoc]
  iintro ⟨HO, Hk⟩
  iapply (load_box c E O fullShare)
  isplitl [HO]; · iexact HO
  iintro HO
  iapply (store_box c E O)
  isplitl [HO]; · iexact HO
  iintro HO
  rw [runs_succ]
  iapply Hk
  iexact HO

/-- One run's normalised rows. -/
def lnV (x : Vec F S512x1024 .f32) (p : FVec F S256x1024 .f32) (g b : FVec F S1x1024 .f32) (r : Fin 2) : FVec F S256x1024 .f32 :=
  ln p (xrow x r 0) (xrow x r 1) (xrow x r 2) (xrow x r 3) (xrow x r 4) (xrow x r 5) (xrow x r 6) (xrow x r 7) g b

theorem ldX_run {α : Type} (c : Dev nD) (E : Set ℕ) (X : Memref sig .tc .vmem S512x1024 .f32) (r : Fin 2) (s : Fin 8) (x : Vec F S512x1024 .f32)
    (k : Vec F S32x1024 .f32 → Prog (TpuEff nD τ sig (Elt F) Λ₀ .tc) α) (K : α → sProp 𝕄) :
    iprop(owns (c : Thread nD τ) X fullShare x ∗ (owns (c : Thread nD τ) X fullShare x
          -∗ wp frame (wpE (defs₀ (F := F)) Variants.none (c : Thread nD τ) none) E (k (xrow x r s)) K))
      ⊢ wp frame (wpE (defs₀ (F := F)) Variants.none (c : Thread nD τ) none) E (ldX X r s >>= k) K :=
  load_box c E X fullShare x _ _ _ _ k K

set_option maxHeartbeats 1000000 in
theorem half_run {α : Type} (c : Dev nD) (E : Set ℕ) (X O : Memref sig .tc .vmem S512x1024 .f32) (p : FVec F S256x1024 .f32) (g b : FVec F S1x1024 .f32) (r : Fin 2) (x o : Vec F S512x1024 .f32)
    (k : PUnit → Prog (TpuEff nD τ sig (Elt F) Λ₀ .tc) α) (K : α → sProp 𝕄) :
    iprop(owns (c : Thread nD τ) X fullShare x ∗ owns (c : Thread nD τ) O fullShare o
        ∗ (iprop(owns (c : Thread nD τ) X fullShare x ∗ owns (c : Thread nD τ) O fullShare (runs o r (lnV x p g b r) 8))
          -∗ wp frame (wpE (defs₀ (F := F)) Variants.none (c : Thread nD τ) none) E (k ⟨⟩) K))
      ⊢ wp frame (wpE (defs₀ (F := F)) Variants.none (c : Thread nD τ) none) E (half X O p g b r >>= k) K := by
  unfold half
  simp only [bind_assoc]
  rw [← runs_zero o r (lnV x p g b r)]
  iintro ⟨HX, HO, Hk⟩
  iapply (ldX_run c E X r 0 x)
  isplitl [HX]; · iexact HX
  iintro HX
  iapply (ldX_run c E X r 1 x)
  isplitl [HX]; · iexact HX
  iintro HX
  iapply (ldX_run c E X r 2 x)
  isplitl [HX]; · iexact HX
  iintro HX
  iapply (ldX_run c E X r 3 x)
  isplitl [HX]; · iexact HX
  iintro HX
  iapply (ldX_run c E X r 4 x)
  isplitl [HX]; · iexact HX
  iintro HX
  iapply (ldX_run c E X r 5 x)
  isplitl [HX]; · iexact HX
  iintro HX
  iapply (ldX_run c E X r 6 x)
  isplitl [HX]; · iexact HX
  iintro HX
  iapply (ldX_run c E X r 7 x)
  isplitl [HX]; · iexact HX
  iintro HX
  iapply (stO_run c E O r 0 o (lnV x p g b r))
  isplitl [HO]; · iexact HO
  iintro HO
  iapply (stO_run c E O r 1 o (lnV x p g b r))
  isplitl [HO]; · iexact HO
  iintro HO
  iapply (stO_run c E O r 2 o (lnV x p g b r))
  isplitl [HO]; · iexact HO
  iintro HO
  iapply (stO_run c E O r 3 o (lnV x p g b r))
  isplitl [HO]; · iexact HO
  iintro HO
  iapply (stO_run c E O r 4 o (lnV x p g b r))
  isplitl [HO]; · iexact HO
  iintro HO
  iapply (stO_run c E O r 5 o (lnV x p g b r))
  isplitl [HO]; · iexact HO
  iintro HO
  iapply (stO_run c E O r 6 o (lnV x p g b r))
  isplitl [HO]; · iexact HO
  iintro HO
  iapply (stO_run c E O r 7 o (lnV x p g b r))
  isplitl [HO]; · iexact HO
  iintro HO
  iapply Hk
  isplitl [HX]; · iexact HX
  rw [runs_zero]
  iexact HO

end Cert.Kernel2Ideal.Chunk

end
-- ==== Proof.FfnBody.lean ====
/- The feed-forward kernel's whole body as one weakest precondition. -/
module

public import proofs.«01_k».proof.Proof.FfnGates

@[expose] public section

set_option maxRecDepth 16384

noncomputable section

namespace Cert.Kernel2Ideal.Chunk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen
open Idealize.ShloMosaic.ValueIdx (ix2 ix3 shapeCast_ab_1ab_apply eq_ix2 eq_ix3)
open Idealize.ShloMosaic.VecWindow (window put)

variable {F : FTy → Type} [FloatOps F] [Named F]

local notation "𝕄" => MT nD τ sig Unit (Elt F) ℕ (UR sig nD τ) ℕ

/-- The sublane numbers of a tile. -/
abbrev lanes : IVec S8x256 32 := iota .tc S8x256 32 [0] iota_S8x256_d0_w32

/-- Chunk `n`'s up-projected rows, of a block. -/
def hcol (x : Vec F S512x1024 .f32) (w : Vec F S1024x2816 .bf16) (n : Fin 11) : FVec F S512x256 .f32 := upH (seg x) (wcol w n)

/-- Chunk `n`'s slot: its rows behind the two tiles before them. -/
def slotV (x : Vec F S512x1024 .f32) (w : Vec F S1024x2816 .bf16) (t : Vec F S11x16x256 .f32) (n : Fin 11) : Fin 528 → Fin 256 → F .f32 :=
  fill lanes (hcol x w n) (tile t n 8) (tile t n 0)

/-- Chunk `n`'s gated columns. -/
def blk (x : Vec F S512x1024 .f32) (wg wu : Vec F S1024x2816 .bf16) (cw : Vec F S3x5632 .f32) (cb : Vec F S1x5632 .f32) (tg tu : Vec F S11x16x256 .f32) (n : Fin 11) : FVec F S512x256 .bf16 :=
  gated (convV cw cb 0x3F000000#32 0 n (slotV x wg tg n)) (convV cw cb 0x3F800000#32 1 n (slotV x wu tu n))

/-- The gated columns of all chunks. -/
def gfull (b : Fin 11 → FVec F S512x256 .bf16) : Vec F S512x2816 .bf16 :=
  fun y => b ⟨(y 1).val / 256, by have := (y 1).isLt; simp at this; omega⟩ (ix2 (y 0) ⟨(y 1).val % 256, Nat.mod_lt _ (by decide)⟩)

theorem gcols_all (b : Fin 11 → FVec F S512x256 .bf16) (g : Vec F S512x2816 .bf16) : gcols b g 11 = gfull b := by
  funext y; exact if_pos (by have := (y 1).isLt; simp at this; omega)

theorem head_cols (b : Fin 11 → FVec F S512x256 .bf16) (g : Vec F S512x2816 .bf16) :
    window (gcols b g 6) ![0, 0] S512x1536.size inb_S512x2816_S512x1536_0_0 = window (gfull b) ![0, 0] S512x1536.size inb_S512x2816_S512x1536_0_0 := by
  funext z
  have h : ((z 1 : Fin 1536) : ℕ) < 1536 := (z 1).isLt
  exact if_pos (show 0 + 1 * (z 1).val < 6 * 256 by omega)

/-- The two halves of the second down-projection's rows, added to the first's. -/
def pre0 (hd : FVec F S512x1024 .f32) (g : Vec F S512x2816 .bf16) (wd : Vec F S2816x1024 .bf16) : FVec F S256x1024 .f32 :=
  addf (extractStridedSlice S256x1024 ![0, 0] hd slices_S512x1024_o0_0_S256x1024) (restMM (window g ![0, 1536] S256x1280.size inb_S512x2816_S256x1280_0_1536) (window wd ![1536, 0] S1280x1024.size inb_S2816x1024_S1280x1024_1536_0))

def pre1 (hd : FVec F S512x1024 .f32) (g : Vec F S512x2816 .bf16) (wd : Vec F S2816x1024 .bf16) : FVec F S256x1024 .f32 :=
  addf (extractStridedSlice S256x1024 ![256, 0] hd slices_S512x1024_o256_0_S256x1024) (restMM (window g ![256, 1536] S256x1280.size inb_S512x2816_S256x1280_256_1536) (window wd ![1536, 0] S1280x1024.size inb_S2816x1024_S1280x1024_1536_0))

/-- The first down-projection. -/
def headV (g : Vec F S512x2816 .bf16) (wd : Vec F S2816x1024 .bf16) : FVec F S512x1024 .f32 :=
  headMM (window g ![0, 0] S512x1536.size inb_S512x2816_S512x1536_0_0) (window wd ![0, 0] S1536x1024.size inb_S2816x1024_S1536x1024_0_0)

/-- The output's rows from the two runs. -/
def outRows (v0 v1 : FVec F S256x1024 .f32) : Vec F S512x1024 .f32 :=
  fun y => (if (y 0).val % 64 / 32 = 1 then v1 else v0) (ix2 ⟨(y 0).val / 64 * 32 + (y 0).val % 32, by have := (y 0).isLt; simp at this; omega⟩ (y 1))

theorem runs_runs (o : Vec F S512x1024 .f32) (v0 v1 : FVec F S256x1024 .f32) : runs (runs o 0 v0 8) 1 v1 8 = outRows v0 v1 := by
  funext y
  have h0 : ((y 0 : Fin 512) : ℕ) < 512 := (y 0).isLt
  unfold runs outRows
  by_cases h : (y 0).val % 64 / 32 = 1
  · rw [if_pos ⟨h, by omega⟩, if_pos h]
  · rw [if_neg fun hh => h hh.1, if_neg h, if_pos ⟨by show (y 0).val % 64 / 32 = 0; omega, by omega⟩]

/-- The output block. -/
def outV (x : Vec F S512x1024 .f32) (g : Vec F S512x2816 .bf16) (wd : Vec F S2816x1024 .bf16) (lg lb : Vec F S1x1024 .f32) : Vec F S512x1024 .f32 :=
  outRows (lnV x (pre0 (headV g wd) g wd) lg lb 0) (lnV x (pre1 (headV g wd) g wd) lg lb 1)

theorem window_whole {s : Shape} {e : EltTy} (x : s.Idx → Elt F e) (off : Fin s.rank → ℕ) (inb : ∀ a, off a + s.size a ≤ s.size a) : window x off s.size inb = x := by
  funext y; exact congrArg x (Rect.emb_unit_full inb y)

theorem down_run {α : Type} (c : Dev nD) (E : Set ℕ) (X O : Memref sig .tc .vmem S512x1024 .f32) (G : Memref sig .tc .vmem S512x2816 .bf16) (Wd : Memref sig .tc .vmem S2816x1024 .bf16) (Lg Lb : Memref sig .tc .vmem S1x1024 .f32)
    (hd : FVec F S512x1024 .f32) (x o : Vec F S512x1024 .f32) (g : Vec F S512x2816 .bf16) (wd : Vec F S2816x1024 .bf16) (lg lb : Vec F S1x1024 .f32)
    (k : PUnit → Prog (TpuEff nD τ sig (Elt F) Λ₀ .tc) α) (K : α → sProp 𝕄) :
    iprop(owns (c : Thread nD τ) X fullShare x ∗ owns (c : Thread nD τ) O fullShare o ∗ owns (c : Thread nD τ) G fullShare g ∗ owns (c : Thread nD τ) Wd fullShare wd ∗ owns (c : Thread nD τ) Lg fullShare lg ∗ owns (c : Thread nD τ) Lb fullShare lb
        ∗ (iprop(owns (c : Thread nD τ) X fullShare x ∗ owns (c : Thread nD τ) O fullShare (outRows (lnV x (pre0 hd g wd) lg lb 0) (lnV x (pre1 hd g wd) lg lb 1)) ∗ owns (c : Thread nD τ) G fullShare g ∗ owns (c : Thread nD τ) Wd fullShare wd ∗ owns (c : Thread nD τ) Lg fullShare lg ∗ owns (c : Thread nD τ) Lb fullShare lb)
          -∗ wp frame (wpE (defs₀ (F := F)) Variants.none (c : Thread nD τ) none) E (k ⟨⟩) K))
      ⊢ wp frame (wpE (defs₀ (F := F)) Variants.none (c : Thread nD τ) none) E (down X O G Wd Lg Lb hd >>= k) K := by
  unfold down
  simp only [bind_assoc]
  iintro ⟨HX, HO, HG, HW, HA, HB, Hk⟩
  iapply (load_box c E G fullShare)
  isplitl [HG]; · iexact HG
  iintro HG
  iapply (load_box c E Wd fullShare)
  isplitl [HW]; · iexact HW
  iintro HW
  iapply (load_box c E G fullShare)
  isplitl [HG]; · iexact HG
  iintro HG
  iapply (load_box c E Wd fullShare)
  isplitl [HW]; · iexact HW
  iintro HW
  iapply (load_box c E Lg fullShare)
  isplitl [HA]; · iexact HA
  iintro HA
  iapply (load_box c E Lb fullShare)
  isplitl [HB]; · iexact HB
  iintro HB
  iapply (half_run c E X O _ _ _ 0 x)
  isplitl [HX]; · iexact HX
  isplitl [HO]; · iexact HO
  iintro ⟨HX, HO⟩
  iapply (half_run c E X O _ _ _ 1 x)
  isplitl [HX]; · iexact HX
  isplitl [HO]; · iexact HO
  iintro ⟨HX, HO⟩
  have ea : window lg ![0, 0] S1x1024.size inb_S1x1024_S1x1024_0_0 = lg := window_whole lg _ _
  have eb : window lb ![0, 0] S1x1024.size inb_S1x1024_S1x1024_0_0 = lb := window_whole lb _ _
  rw [runs_runs, shapeCast_self, shapeCast_self, ea, eb]
  iapply Hk
  isplitl [HX]; · iexact HX
  isplitl [HO]; · iexact HO
  isplitl [HG]; · iexact HG
  isplitl [HW]; · iexact HW
  isplitl [HA]; · iexact HA
  iexact HB

/-- No rows held over: the first point's. -/
def noTail : Vec F S11x16x256 .f32 := broadcast S11x16x256 (Scalar.ofBits .f32 0x00000000#32)

theorem put_whole (t w : Vec F S11x16x256 .f32) : put (s := S11x16x256) t ![0, 0, 0] S11x16x256.size w = w := by
  funext y
  unfold put
  rw [dif_pos (by
    intro a
    have := (y a).isLt
    fin_cases a
    · exact ⟨Nat.zero_le _, by show (y 0).val < 0 + 11; have := (y 0).isLt; simp at this; omega⟩
    · exact ⟨Nat.zero_le _, by show (y 1).val < 0 + 16; have := (y 1).isLt; simp at this; omega⟩
    · exact ⟨Nat.zero_le _, by show (y 2).val < 0 + 256; have := (y 2).isLt; simp at this; omega⟩)]
  refine congrArg w (funext fun k => Fin.ext ?_)
  fin_cases k
  · exact Nat.sub_zero _
  · exact Nat.sub_zero _
  · exact Nat.sub_zero _

theorem zero_run {α : Type} (c : Dev nD) (E : Set ℕ) (T : Memref sig .tc .vmem S11x16x256 .f32) (t : Vec F S11x16x256 .f32)
    (k : PUnit → Prog (TpuEff nD τ sig (Elt F) Λ₀ .tc) α) (K : α → sProp 𝕄) :
    iprop(owns (c : Thread nD τ) T fullShare t ∗ (owns (c : Thread nD τ) T fullShare noTail
          -∗ wp frame (wpE (defs₀ (F := F)) Variants.none (c : Thread nD τ) none) E (k ⟨⟩) K))
      ⊢ wp frame (wpE (defs₀ (F := F)) Variants.none (c : Thread nD τ) none) E (zero T >>= k) K := by
  unfold zero
  simp only [bind_assoc]
  iintro ⟨HT, Hk⟩
  iapply (load_box c E T fullShare)
  isplitl [HT]; · iexact HT
  iintro HT
  iapply (store_box c E T)
  isplitl [HT]; · iexact HT
  iintro HT
  rw [put_whole, shapeCast_self]
  iapply Hk
  iexact HT

/-- What the chunks hold: the matrices, the held-over rows after the first `a` chunks, the work rows, the gated columns of the first `b` chunks. -/
def held (c : Dev nD) (arg2 arg3 : Memref sig .tc .vmem S1024x2816 .bf16) (arg4 : Memref sig .tc .vmem S3x5632 .f32) (arg5 : Memref sig .tc .vmem S1x5632 .f32) (arg10 arg11 : Memref sig .tc .vmem S11x16x256 .f32) (arg12 arg13 : Memref sig .tc .vmem S2x528x256 .f32) (arg14 : Memref sig .tc .vmem S512x2816 .bf16)
    (x : Vec F S512x1024 .f32) (wg wu : Vec F S1024x2816 .bf16) (cw : Vec F S3x5632 .f32) (cb : Vec F S1x5632 .f32) (tg tu : Vec F S11x16x256 .f32) (g : Vec F S512x2816 .bf16) (a b : ℕ) (dg du : Vec F S2x528x256 .f32) : sProp 𝕄 :=
  iprop(owns (c : Thread nD τ) arg2 fullShare wg ∗ owns (c : Thread nD τ) arg3 fullShare wu ∗ owns (c : Thread nD τ) arg4 fullShare cw ∗ owns (c : Thread nD τ) arg5 fullShare cb
    ∗ owns (c : Thread nD τ) arg10 fullShare (tails tg (hcol x wg) a) ∗ owns (c : Thread nD τ) arg11 fullShare (tails tu (hcol x wu) a)
    ∗ owns (c : Thread nD τ) arg12 fullShare dg ∗ owns (c : Thread nD τ) arg13 fullShare du ∗ owns (c : Thread nD τ) arg14 fullShare (gcols (blk x wg wu cw cb tg tu) g b))

section
variable {α : Type} (c : Dev nD) (E : Set ℕ) (arg2 arg3 : Memref sig .tc .vmem S1024x2816 .bf16) (arg4 : Memref sig .tc .vmem S3x5632 .f32) (arg5 : Memref sig .tc .vmem S1x5632 .f32) (arg10 arg11 : Memref sig .tc .vmem S11x16x256 .f32) (arg12 arg13 : Memref sig .tc .vmem S2x528x256 .f32) (arg14 : Memref sig .tc .vmem S512x2816 .bf16) (harg14 : arg14.IsWhole)
    (x : Vec F S512x1024 .f32) (wg wu : Vec F S1024x2816 .bf16) (cw : Vec F S3x5632 .f32) (cb : Vec F S1x5632 .f32) (tg tu : Vec F S11x16x256 .f32) (g : Vec F S512x2816 .bf16)

theorem ups_run (a : Fin 11) (b : ℕ) (dg du : Vec F S2x528x256 .f32) (k : PUnit → Prog (TpuEff nD τ sig (Elt F) Λ₀ .tc) α) (K : α → sProp 𝕄) :
    iprop(held c arg2 arg3 arg4 arg5 arg10 arg11 arg12 arg13 arg14 x wg wu cw cb tg tu g a.val b dg du
        ∗ (held c arg2 arg3 arg4 arg5 arg10 arg11 arg12 arg13 arg14 x wg wu cw cb tg tu g (a.val + 1) b (putSlot dg a (slotV x wg tg a)) (putSlot du a (slotV x wu tu a))
          -∗ wp frame (wpE (defs₀ (F := F)) Variants.none (c : Thread nD τ) none) E (k ⟨⟩) K))
      ⊢ wp frame (wpE (defs₀ (F := F)) Variants.none (c : Thread nD τ) none) E (ups arg2 arg3 arg10 arg11 arg12 arg13 (seg x) lanes a >>= k) K := by
  unfold ups held
  simp only [bind_assoc]
  iintro ⟨⟨H2, H3, H4, H5, H10, H11, H12, H13, H14⟩, Hk⟩
  iapply (up_run c E arg2 arg10 arg12 (seg x) lanes a wg tg dg)
  isplitl [H2]; · iexact H2
  isplitl [H10]; · iexact H10
  isplitl [H12]; · iexact H12
  iintro ⟨H2, H10, H12⟩
  iapply (up_run c E arg3 arg11 arg13 (seg x) lanes a wu tu du)
  isplitl [H3]; · iexact H3
  isplitl [H11]; · iexact H11
  isplitl [H13]; · iexact H13
  iintro ⟨H3, H11, H13⟩
  iapply Hk
  isplitl [H2]; · iexact H2
  isplitl [H3]; · iexact H3
  isplitl [H4]; · iexact H4
  isplitl [H5]; · iexact H5
  isplitl [H10]; · iexact H10
  isplitl [H11]; · iexact H11
  isplitl [H12]; · iexact H12
  isplitl [H13]; · iexact H13
  iexact H14

theorem gates_run (a : ℕ) (b : Fin 11) (dg du : Vec F S2x528x256 .f32) (hg : slot dg b = slotV x wg tg b) (hu : slot du b = slotV x wu tu b) (k : PUnit → Prog (TpuEff nD τ sig (Elt F) Λ₀ .tc) α) (K : α → sProp 𝕄) :
    iprop(held c arg2 arg3 arg4 arg5 arg10 arg11 arg12 arg13 arg14 x wg wu cw cb tg tu g a b.val dg du
        ∗ (held c arg2 arg3 arg4 arg5 arg10 arg11 arg12 arg13 arg14 x wg wu cw cb tg tu g a (b.val + 1) dg du
          -∗ wp frame (wpE (defs₀ (F := F)) Variants.none (c : Thread nD τ) none) E (k ⟨⟩) K))
      ⊢ wp frame (wpE (defs₀ (F := F)) Variants.none (c : Thread nD τ) none) E (gate arg4 arg5 arg12 arg13 arg14 harg14 b >>= k) K := by
  unfold held
  iintro ⟨⟨H2, H3, H4, H5, H10, H11, H12, H13, H14⟩, Hk⟩
  iapply (gate_run c E arg4 arg5 arg12 arg13 arg14 harg14 b cw cb dg du (blk x wg wu cw cb tg tu) g (by rw [hg, hu]; rfl))
  isplitl [H4]; · iexact H4
  isplitl [H5]; · iexact H5
  isplitl [H12]; · iexact H12
  isplitl [H13]; · iexact H13
  isplitl [H14]; · iexact H14
  iintro ⟨H4, H5, H12, H13, H14⟩
  iapply Hk
  isplitl [H2]; · iexact H2
  isplitl [H3]; · iexact H3
  isplitl [H4]; · iexact H4
  isplitl [H5]; · iexact H5
  isplitl [H10]; · iexact H10
  isplitl [H11]; · iexact H11
  isplitl [H12]; · iexact H12
  isplitl [H13]; · iexact H13
  iexact H14

theorem head_run (a b : ℕ) (dg du : Vec F S2x528x256 .f32) (hl : arg14.view.LoadsAt (Rect.unit (s := S512x2816) ![0, 0] S512x1536.size inb_S512x2816_S512x1536_0_0).toLoadRect) (k : Vec F S512x1536 .bf16 → Prog (TpuEff nD τ sig (Elt F) Λ₀ .tc) α) (K : α → sProp 𝕄) :
    iprop(held c arg2 arg3 arg4 arg5 arg10 arg11 arg12 arg13 arg14 x wg wu cw cb tg tu g a b dg du
        ∗ (held c arg2 arg3 arg4 arg5 arg10 arg11 arg12 arg13 arg14 x wg wu cw cb tg tu g a b dg du
          -∗ wp frame (wpE (defs₀ (F := F)) Variants.none (c : Thread nD τ) none) E (k (window (gcols (blk x wg wu cw cb tg tu) g b) ![0, 0] S512x1536.size inb_S512x2816_S512x1536_0_0)) K))
      ⊢ wp frame (wpE (defs₀ (F := F)) Variants.none (c : Thread nD τ) none) E (Prog.lift (.load arg14 (Rect.unit (s := S512x2816) ![0, 0] S512x1536.size inb_S512x2816_S512x1536_0_0).toLoadRect hl) >>= k) K := by
  unfold held
  iintro ⟨⟨H2, H3, H4, H5, H10, H11, H12, H13, H14⟩, Hk⟩
  iapply (load_box c E arg14 fullShare)
  isplitl [H14]; · iexact H14
  iintro H14
  iapply Hk
  isplitl [H2]; · iexact H2
  isplitl [H3]; · iexact H3
  isplitl [H4]; · iexact H4
  isplitl [H5]; · iexact H5
  isplitl [H10]; · iexact H10
  isplitl [H11]; · iexact H11
  isplitl [H12]; · iexact H12
  isplitl [H13]; · iexact H13
  iexact H14

/-- The next chunk's up-projection, then this chunk's gated columns. -/
theorem pair_run (a b : Fin 11) (hab : a.val = b.val + 1) (dg du : Vec F S2x528x256 .f32) (hg : slot dg b = slotV x wg tg b) (hu : slot du b = slotV x wu tu b) (k : PUnit → Prog (TpuEff nD τ sig (Elt F) Λ₀ .tc) α) (K : α → sProp 𝕄) :
    iprop(held c arg2 arg3 arg4 arg5 arg10 arg11 arg12 arg13 arg14 x wg wu cw cb tg tu g a.val b.val dg du
        ∗ (held c arg2 arg3 arg4 arg5 arg10 arg11 arg12 arg13 arg14 x wg wu cw cb tg tu g (a.val + 1) (b.val + 1) (putSlot dg a (slotV x wg tg a)) (putSlot du a (slotV x wu tu a))
          -∗ wp frame (wpE (defs₀ (F := F)) Variants.none (c : Thread nD τ) none) E (k ⟨⟩) K))
      ⊢ wp frame (wpE (defs₀ (F := F)) Variants.none (c : Thread nD τ) none) E (ups arg2 arg3 arg10 arg11 arg12 arg13 (seg x) lanes a >>= fun _ => gate arg4 arg5 arg12 arg13 arg14 harg14 b >>= k) K := by
  iintro ⟨H, Hk⟩
  iapply (ups_run c E arg2 arg3 arg4 arg5 arg10 arg11 arg12 arg13 arg14 x wg wu cw cb tg tu g a b.val dg du)
  isplitl [H]; · iexact H
  iintro H
  iapply (gates_run c E arg2 arg3 arg4 arg5 arg10 arg11 arg12 arg13 arg14 harg14 x wg wu cw cb tg tu g (a.val + 1) b _ _
    ((slot_putSlot_ne dg b a _ (by omega)).trans hg) ((slot_putSlot_ne du b a _ (by omega)).trans hu))
  isplitl [H]; · iexact H
  iexact Hk

end

/-- The body after the zeroing, from held-over rows `tg`, `tu`. -/
theorem rest_run (c : Dev nD) (E : Set ℕ) (i : grid0.Coords) (arg1 : Memref sig .tc .vmem S512x1024 .f32) (harg1 : arg1.IsWhole) (arg2 : Memref sig .tc .vmem S1024x2816 .bf16) (harg2 : arg2.IsWhole) (arg3 : Memref sig .tc .vmem S1024x2816 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S11x16x256 .f32) (harg10 : arg10.IsWhole) (arg11 : Memref sig .tc .vmem S11x16x256 .f32) (harg11 : arg11.IsWhole) (arg12 : Memref sig .tc .vmem S2x528x256 .f32) (harg12 : arg12.IsWhole) (arg13 : Memref sig .tc .vmem S2x528x256 .f32) (harg13 : arg13.IsWhole) (arg14 : Memref sig .tc .vmem S512x2816 .bf16) (harg14 : arg14.IsWhole)
    (x o : Vec F S512x1024 .f32) (wg wu : Vec F S1024x2816 .bf16) (cw : Vec F S3x5632 .f32) (cb : Vec F S1x5632 .f32) (wd : Vec F S2816x1024 .bf16) (lg lb : Vec F S1x1024 .f32) (tg tu : Vec F S11x16x256 .f32) (dg du : Vec F S2x528x256 .f32) (g : Vec F S512x2816 .bf16) (K : PUnit → sProp 𝕄) :
    iprop(owns (c : Thread nD τ) arg1 fullShare x ∗ owns (c : Thread nD τ) arg6 fullShare wd ∗ owns (c : Thread nD τ) arg7 fullShare lg ∗ owns (c : Thread nD τ) arg8 fullShare lb ∗ owns (c : Thread nD τ) arg9 fullShare o
        ∗ held c arg2 arg3 arg4 arg5 arg10 arg11 arg12 arg13 arg14 x wg wu cw cb tg tu g 0 0 dg du
        ∗ (iprop(owns (c : Thread nD τ) arg1 fullShare x ∗ owns (c : Thread nD τ) arg6 fullShare wd ∗ owns (c : Thread nD τ) arg7 fullShare lg ∗ owns (c : Thread nD τ) arg8 fullShare lb
            ∗ owns (c : Thread nD τ) arg9 fullShare (outV x (gfull (blk x wg wu cw cb tg tu)) wd lg lb)
            ∗ owns (c : Thread nD τ) arg2 fullShare wg ∗ owns (c : Thread nD τ) arg3 fullShare wu ∗ owns (c : Thread nD τ) arg4 fullShare cw ∗ owns (c : Thread nD τ) arg5 fullShare cb
            ∗ owns (c : Thread nD τ) arg10 fullShare (newTail (hcol x wg)) ∗ owns (c : Thread nD τ) arg11 fullShare (newTail (hcol x wu))
            ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none (c : Thread nD τ) none) E (rest i arg1 harg1 arg2 harg2 arg3 harg3 arg4 harg4 arg5 harg5 arg6 harg6 arg7 harg7 arg8 harg8 arg9 harg9 arg10 harg10 arg11 harg11 arg12 harg12 arg13 harg13 arg14 harg14) K := by
  have e : rest (F := F) i arg1 harg1 arg2 harg2 arg3 harg3 arg4 harg4 arg5 harg5 arg6 harg6 arg7 harg7 arg8 harg8 arg9 harg9 arg10 harg10 arg11 harg11 arg12 harg12 arg13 harg13 arg14 harg14 = rest i arg1 harg1 arg2 harg2 arg3 harg3 arg4 harg4 arg5 harg5 arg6 harg6 arg7 harg7 arg8 harg8 arg9 harg9 arg10 harg10 arg11 harg11 arg12 harg12 arg13 harg13 arg14 harg14 >>= pure := (bind_pure _).symm
  rw [e]
  unfold rest
  simp only [bind_assoc]
  iintro ⟨H1, H6, H7, H8, H9, H, Hk⟩
  iapply (load_box c E arg1 fullShare x)
  isplitl [H1]; · iexact H1
  iintro H1
  have ex : window x ![0, 0] S512x1024.size inb_S512x1024_S512x1024_0_0 = x := window_whole x _ _
  rw [ex]
  iapply (ups_run c E arg2 arg3 arg4 arg5 arg10 arg11 arg12 arg13 arg14 x wg wu cw cb tg tu g 0 0)
  isplitl [H]; · iexact H
  iintro H
  iapply (pair_run c E arg2 arg3 arg4 arg5 arg10 arg11 arg12 arg13 arg14 harg14 x wg wu cw cb tg tu g 1 0 rfl _ _ (slot_putSlot _ _ _) (slot_putSlot _ _ _))
  isplitl [H]; · iexact H
  iintro H
  iapply (pair_run c E arg2 arg3 arg4 arg5 arg10 arg11 arg12 arg13 arg14 harg14 x wg wu cw cb tg tu g 2 1 rfl _ _ (slot_putSlot _ _ _) (slot_putSlot _ _ _))
  isplitl [H]; · iexact H
  iintro H
  iapply (pair_run c E arg2 arg3 arg4 arg5 arg10 arg11 arg12 arg13 arg14 harg14 x wg wu cw cb tg tu g 3 2 rfl _ _ (slot_putSlot _ _ _) (slot_putSlot _ _ _))
  isplitl [H]; · iexact H
  iintro H
  iapply (pair_run c E arg2 arg3 arg4 arg5 arg10 arg11 arg12 arg13 arg14 harg14 x wg wu cw cb tg tu g 4 3 rfl _ _ (slot_putSlot _ _ _) (slot_putSlot _ _ _))
  isplitl [H]; · iexact H
  iintro H
  iapply (pair_run c E arg2 arg3 arg4 arg5 arg10 arg11 arg12 arg13 arg14 harg14 x wg wu cw cb tg tu g 5 4 rfl _ _ (slot_putSlot _ _ _) (slot_putSlot _ _ _))
  isplitl [H]; · iexact H
  iintro H
  iapply (pair_run c E arg2 arg3 arg4 arg5 arg10 arg11 arg12 arg13 arg14 harg14 x wg wu cw cb tg tu g 6 5 rfl _ _ (slot_putSlot _ _ _) (slot_putSlot _ _ _))
  isplitl [H]; · iexact H
  iintro H
  iapply (head_run c E arg2 arg3 arg4 arg5 arg10 arg11 arg12 arg13 arg14 x wg wu cw cb tg tu g)
  isplitl [H]; · iexact H
  iintro H
  iapply (load_box c E arg6 fullShare)
  isplitl [H6]; · iexact H6
  iintro H6
  iapply (pair_run c E arg2 arg3 arg4 arg5 arg10 arg11 arg12 arg13 arg14 harg14 x wg wu cw cb tg tu g 7 6 rfl _ _ (slot_putSlot _ _ _) (slot_putSlot _ _ _))
  isplitl [H]; · iexact H
  iintro H
  iapply (pair_run c E arg2 arg3 arg4 arg5 arg10 arg11 arg12 arg13 arg14 harg14 x wg wu cw cb tg tu g 8 7 rfl _ _ (slot_putSlot _ _ _) (slot_putSlot _ _ _))
  isplitl [H]; · iexact H
  iintro H
  iapply (pair_run c E arg2 arg3 arg4 arg5 arg10 arg11 arg12 arg13 arg14 harg14 x wg wu cw cb tg tu g 9 8 rfl _ _ (slot_putSlot _ _ _) (slot_putSlot _ _ _))
  isplitl [H]; · iexact H
  iintro H
  iapply (pair_run c E arg2 arg3 arg4 arg5 arg10 arg11 arg12 arg13 arg14 harg14 x wg wu cw cb tg tu g 10 9 rfl _ _ (slot_putSlot _ _ _) (slot_putSlot _ _ _))
  isplitl [H]; · iexact H
  iintro H
  iapply (gates_run c E arg2 arg3 arg4 arg5 arg10 arg11 arg12 arg13 arg14 harg14 x wg wu cw cb tg tu g 11 10 _ _ (slot_putSlot _ _ _) (slot_putSlot _ _ _))
  isplitl [H]; · iexact H
  iintro H
  unfold held
  icases H with ⟨H2, H3, H4, H5, H10, H11, H12, H13, H14⟩
  have eg : ∀ b : Fin 11 → FVec F S512x256 .bf16, gcols b g ((10 : Fin 11).val + 1) = gfull b := fun b => gcols_all b g
  have et : ∀ (t : Vec F S11x16x256 .f32) (h : Fin 11 → FVec F S512x256 .f32), tails t h 11 = newTail h := tails_all
  have eh : ∀ b : Fin 11 → FVec F S512x256 .bf16, window (gcols b g ((5 : Fin 11).val + 1)) ![0, 0] S512x1536.size inb_S512x2816_S512x1536_0_0 = window (gfull b) ![0, 0] S512x1536.size inb_S512x2816_S512x1536_0_0 := fun b => head_cols b g
  rw [eg, et, et, eh]
  iapply (down_run c E arg1 arg9 arg14 arg6 arg7 arg8)
  isplitl [H1]; · iexact H1
  isplitl [H9]; · iexact H9
  isplitl [H14]; · iexact H14
  isplitl [H6]; · iexact H6
  isplitl [H7]; · iexact H7
  isplitl [H8]; · iexact H8
  iintro ⟨H1, H9, H14, H6, H7, H8⟩
  sl_step
  iapply Hk
  isplitl [H1]; · iexact H1
  isplitl [H6]; · iexact H6
  isplitl [H7]; · iexact H7
  isplitl [H8]; · iexact H8
  isplitl [H9]; · iexact H9
  isplitl [H2]; · iexact H2
  isplitl [H3]; · iexact H3
  isplitl [H4]; · iexact H4
  isplitl [H5]; · iexact H5
  isplitl [H10]; · iexact H10
  isplitl [H11]; · iexact H11
  isplitl [H12]; · iexists _; iexact H12
  isplitl [H13]; · iexists _; iexact H13
  iexists _; iexact H14

end Cert.Kernel2Ideal.Chunk

end
-- ==== Proof.FfnFrame.lean ====
module

public import proofs.«01_k».proof.Proof.FfnBody
public import proofs.«01_k».proof.Proof.Gen.Kernel2Ideal.Frame
public import Idealize.ShloMosaic.Lib.Claim

/-! The feed-forward call's run, its output named. The rows held over from a point depend on that point's block alone, so what a
    point leaves is a function of its own block and of the block before. -/

@[expose] public section

set_option maxRecDepth 16384

noncomputable section

namespace Cert.Kernel2Ideal.Chunk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem first_iff : ∀ t : Fin cfg0.N, isFirst (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    have e1 : t.val = t.val % 32 := (Nat.mod_eq_of_lt ht).symm
    rw [e1]
    simp only [isFirst, e0]
    word_cmp
   : ∀ t : Fin grid0.N, isFirst (grid0.coords t) ↔ t.val = 0)

abbrev ms0 (t : Fin cfg0.N) : Memref sig .tc .vmem S512x1024 .f32 := win0_0.stage (cfg0.slots t 0)
abbrev ms1 (t : Fin cfg0.N) : Memref sig .tc .vmem S1024x2816 .bf16 := win0_1.stage (cfg0.slots t 1)
abbrev ms2 (t : Fin cfg0.N) : Memref sig .tc .vmem S1024x2816 .bf16 := win0_2.stage (cfg0.slots t 2)
abbrev ms3 (t : Fin cfg0.N) : Memref sig .tc .vmem S3x5632 .f32 := win0_3.stage (cfg0.slots t 3)
abbrev ms4 (t : Fin cfg0.N) : Memref sig .tc .vmem S1x5632 .f32 := win0_4.stage (cfg0.slots t 4)
abbrev ms5 (t : Fin cfg0.N) : Memref sig .tc .vmem S2816x1024 .bf16 := win0_5.stage (cfg0.slots t 5)
abbrev ms6 (t : Fin cfg0.N) : Memref sig .tc .vmem S1x1024 .f32 := win0_6.stage (cfg0.slots t 6)
abbrev ms7 (t : Fin cfg0.N) : Memref sig .tc .vmem S1x1024 .f32 := win0_7.stage (cfg0.slots t 7)
abbrev ms8 (t : Fin cfg0.N) : Memref sig .tc .vmem S512x1024 .f32 := win0_8.stage (cfg0.slots t 8)

abbrev sc0 : Memref sig .tc .vmem S11x16x256 .f32 := Memref.whole cc0_scratch0
abbrev sc1 : Memref sig .tc .vmem S11x16x256 .f32 := Memref.whole cc0_scratch1
abbrev sc2 : Memref sig .tc .vmem S2x528x256 .f32 := Memref.whole cc0_scratch2
abbrev sc3 : Memref sig .tc .vmem S2x528x256 .f32 := Memref.whole cc0_scratch3
abbrev sc4 : Memref sig .tc .vmem S512x2816 .bf16 := Memref.whole cc0_scratch4

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- The rows held over after point `n`, of the half whose matrix is window `w`'s. -/
def left (c : Dev nD) (n : ℕ) (h : n < cfg0.N) (w : Vec F S1024x2816 .bf16) : Vec F S11x16x256 .f32 :=
  newTail (hcol (iblk m c 0 ⟨n, h⟩) w)

/-- The rows held over as point `n` finds them: none at the first, those of the point before after it. -/
def found (c : Dev nD) (n : ℕ) (h : n < cfg0.N) (w : Vec F S1024x2816 .bf16) : Vec F S11x16x256 .f32 :=
  if n = 0 then noTail else left m c (n - 1) (by omega) w

/-- What a point leaves in the output's block. -/
def outAt (c : Dev nD) (t : Fin cfg0.N) : Vec F S512x1024 .f32 :=
  outV (iblk m c 0 t) (gfull (blk (iblk m c 0 t) (iblk m c 1 t) (iblk m c 2 t) (iblk m c 3 t) (iblk m c 4 t)
    (found m c t.val t.isLt (iblk m c 1 t)) (found m c t.val t.isLt (iblk m c 2 t)))) (iblk m c 5 t) (iblk m c 6 t) (iblk m c 7 t)

/-- The invariant before point `n`. -/
def Phi (c : Dev nD) : (n : ℕ) → n ≤ cfg0.N → sProp 𝕄
  | 0, _ => Pipeline.ΦA spec0 c
  | n + 1, hn => iprop(iprop(owns (c : Thread nD τ) sc0 fullShare (left m c n hn (iblk m c 1 ⟨n, hn⟩)) ∗ owns (c : Thread nD τ) sc1 fullShare (left m c n hn (iblk m c 2 ⟨n, hn⟩)) ∗ (∃ d, owns (c : Thread nD τ) sc2 fullShare d) ∗ (∃ d, owns (c : Thread nD τ) sc3 fullShare d) ∗ (∃ d, owns (c : Thread nD τ) sc4 fullShare d)) ∗ (∃ r, prngReg c r))

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) :
    Phi m c n h = iprop(iprop(owns (c : Thread nD τ) sc0 fullShare (left m c (n - 1) (by omega) (iblk m c 1 ⟨n - 1, by omega⟩)) ∗ owns (c : Thread nD τ) sc1 fullShare (left m c (n - 1) (by omega) (iblk m c 2 ⟨n - 1, by omega⟩)) ∗ (∃ d, owns (c : Thread nD τ) sc2 fullShare d) ∗ (∃ d, owns (c : Thread nD τ) sc3 fullShare d) ∗ (∃ d, owns (c : Thread nD τ) sc4 fullShare d)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outAt m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

/-- A weight matrix's block is the whole matrix, at every point the same. -/
theorem same1 (c : Dev nD) (t t' : Fin cfg0.N) : iblk m c 1 t = iblk m c 1 t' := rfl
theorem same2 (c : Dev nD) (t t' : Fin cfg0.N) : iblk m c 2 t = iblk m c 2 t' := rfl

/-- The run of the body's chunks at a point, over the rows held over that it finds. -/
theorem rest_at (c : Dev nD) (t : Fin cfg0.N) (o : Vec F S512x1024 .f32) (d2 d3 : Vec F S2x528x256 .f32) (d4 : Vec F S512x2816 .bf16) (h1 h2 h3 h4 h5 h6 h7 h8 h9 h10 h11 h12 h13 h14) (K : PUnit → sProp 𝕄) :
    iprop((owns (c : Thread nD τ) sc0 fullShare (found m c t.val t.isLt (iblk m c 1 t)) ∗ owns (c : Thread nD τ) sc1 fullShare (found m c t.val t.isLt (iblk m c 2 t)) ∗ owns (c : Thread nD τ) sc2 fullShare d2 ∗ owns (c : Thread nD τ) sc3 fullShare d3 ∗ owns (c : Thread nD τ) sc4 fullShare d4)
      ∗ (owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t)
        ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare o)
      ∗ (((owns (c : Thread nD τ) sc0 fullShare (left m c t.val t.isLt (iblk m c 1 t)) ∗ owns (c : Thread nD τ) sc1 fullShare (left m c t.val t.isLt (iblk m c 2 t)) ∗ (∃ d, owns (c : Thread nD τ) sc2 fullShare d) ∗ (∃ d, owns (c : Thread nD τ) sc3 fullShare d) ∗ (∃ d, owns (c : Thread nD τ) sc4 fullShare d))
        ∗ (owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t)
        ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (outAt m c t))) -∗ K ⟨⟩))
      ⊢ wp frame (wpE (defs₀ (F := F)) Variants.none (c : Thread nD τ) none) Set.univ (rest (grid0.coords t) (ms0 t) h1 (ms1 t) h2 (ms2 t) h3 (ms3 t) h4 (ms4 t) h5 (ms5 t) h6 (ms6 t) h7 (ms7 t) h8 (ms8 t) h9 sc0 h10 sc1 h11 sc2 h12 sc3 h13 sc4 h14) K := by
  iintro ⟨⟨S0, S1, S2, S3, S4⟩, ⟨H0, H1, H2, H3, H4, H5, H6, H7, H8⟩, Hk⟩
  iapply (rest_run c Set.univ (grid0.coords t) (ms0 t) h1 (ms1 t) h2 (ms2 t) h3 (ms3 t) h4 (ms4 t) h5 (ms5 t) h6 (ms6 t) h7 (ms7 t) h8 (ms8 t) h9 sc0 h10 sc1 h11 sc2 h12 sc3 h13 sc4 h14
    (iblk m c 0 t) o (iblk m c 1 t) (iblk m c 2 t) (iblk m c 3 t) (iblk m c 4 t) (iblk m c 5 t) (iblk m c 6 t) (iblk m c 7 t) (found m c t.val t.isLt (iblk m c 1 t)) (found m c t.val t.isLt (iblk m c 2 t)) d2 d3 d4 K)
  isplitl [H0]; · iexact H0
  isplitl [H5]; · iexact H5
  isplitl [H6]; · iexact H6
  isplitl [H7]; · iexact H7
  isplitl [H8]; · iexact H8
  isplitl [H1 H2 H3 H4 S0 S1 S2 S3 S4]
  · unfold held
    rw [tails_zero, tails_zero, gcols_zero]
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    iexact S4
  iintro ⟨H0, H5, H6, H7, H8, H1, H2, H3, H4, S0, S1, S2, S3, S4⟩
  iapply Hk
  isplitl [S0 S1 S2 S3 S4]
  · isplitl [S0]; · iexact S0
    isplitl [S1]; · iexact S1
    isplitl [S2]; · iexact S2
    isplitl [S3]; · iexact S3
    iexact S4
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl,
    after0, after1, after2, after3, after4, after5, after6, after7, after8]
  rw [show (dats m 0 c).Φ t.succ = Phi m c (t.val + 1) t.isLt from rfl, Phi_pos m c _ _ (Nat.succ_ne_zero _)]
  by_cases hz : t.val = 0
  · rw [Phi_castSucc m c t, Phi_zero m c _ _ hz, PhiA_eq]
    rw [body_first (h := (first_iff t).mpr hz)]
    iintro ⟨⟨⟨⟨%e0, S0⟩, ⟨%e1, S1⟩, ⟨%e2, S2⟩, ⟨%e3, S3⟩, ⟨%e4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (zero_run c Set.univ sc0 e0)
    isplitl [S0]; · iexact S0
    iintro S0
    iapply (zero_run c Set.univ sc1 e1)
    isplitl [S1]; · iexact S1
    iintro S1
    have hf : ∀ w, found m c t.val t.isLt w = noTail := fun w => if_pos hz
    iapply (rest_at m c t _ e2 e3 e4)
    isplitl [S0 S1 S2 S3 S4]
    · rw [hf, hf]
      isplitl [S0]; · iexact S0
      isplitl [S1]; · iexact S1
      isplitl [S2]; · iexact S2
      isplitl [S3]; · iexact S3
      iexact S4
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iintro ⟨S, H⟩
    isplitl [S Hg]
    · isplitl [S]; · iexact S
      iexact Hg
    isplitl [Ho]; · iexact Ho
    iexact H
  · rw [Phi_castSucc m c t, Phi_pos m c _ _ hz]
    rw [body_later (h := fun h => hz ((first_iff t).mp h))]
    have hf : ∀ w, found m c t.val t.isLt w = left m c (t.val - 1) (by omega) w := fun w => if_neg hz
    iintro ⟨⟨⟨S0, S1, ⟨%e2, S2⟩, ⟨%e3, S3⟩, ⟨%e4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (rest_at m c t _ e2 e3 e4)
    isplitl [S0 S1 S2 S3 S4]
    · rw [hf, hf]
      isplitl [S0]; · iexact S0
      isplitl [S1]; · iexact S1
      isplitl [S2]; · iexact S2
      isplitl [S3]; · iexact S3
      iexact S4
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iintro ⟨S, H⟩
    isplitl [S Hg]
    · isplitl [S]; · iexact S
      iexact Hg
    isplitl [Ho]; · iexact Ho
    iexact H

theorem row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = Phi m c (Fin.last cfg0.N).val (Nat.le_of_lt_succ (Fin.last cfg0.N).isLt) from rfl, Phi_pos m c _ _ ht, PhiA_eq]
  iintro ⟨⟨HS0, HS1, HS⟩, Hg⟩
  isplitl [HS0 HS1 HS]
  · isplitl [HS0]
    · iexists _; iexact HS0
    isplitl [HS1]
    · iexists _; iexact HS1
    iexact HS
  iexact Hg

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_post m ρ)

/-- The frame: the arguments end unchanged, and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_quiescent m ρ))

/-- The output array after the run: each point's block written in turn. -/
theorem run_output : θ_run defs (onTc (τ := τ) (main (F := F))) ⟨m, fun _ => 0, ρ⟩ (fun r => ∀ c : Dev nD,
      r.2.mem ((c.tc : Thread nD τ).loc main_v8) = (dats m 0 c).arrAt 8 cfg0.N) :=
  (θ_run defs _ _).mono (fun _ h c => (h c).1 8) (run_post m ρ)

end Cert.Kernel2Ideal.Chunk

end
-- ==== Proof.FfnBits.lean ====
/- The second kernel at the bits: its text is the idealized one, so its frame is too. -/
module

public import proofs.«01_k».proof.Defs
public import proofs.«01_k».proof.Proof.Gen.Kernel2
public import proofs.«01_k».proof.Proof.FfnFrame

@[expose] public section
set_option maxRecDepth 65536
namespace Cert.Bits2
open Idealize.ShloMosaic Idealize.SL.Sem

/-- A named constant at the bits is its literal. -/
@[reducible] noncomputable def named : Named Bits where
  named _ _ {φ} b := FloatOps.ofBits φ b
attribute [local instance] named

set_option maxHeartbeats 2000000 in
/-- The two programs are the same text. -/
theorem main_eq : Cert.Kernel2.main (F := Bits) = Cert.Kernel2Ideal.main (F := Bits) := rfl

set_option maxHeartbeats 2000000 in
/-- So are their kernels. -/
theorem body_eq : Cert.Kernel2.defs₀ (F := Bits) = Cert.Kernel2Ideal.defs₀ (F := Bits) := by
  funext p
  cases p with
  | tc =>
    funext l a
    revert a
    refine Fin.cases ?_ (fun i => i.elim0) l
    rintro ⟨t, s⟩
    rfl
  | scScalar _ => rfl
  | scVector _ _ => rfl

theorem defs_eq : Cert.Kernel2.defs (F := Bits) = Cert.Kernel2Ideal.defs (F := Bits) :=
  congrArg (Pipeline.defs Cert.Kernel2.pcfgs) body_eq

/-- The kernel as it runs terminates without fault, leaves its arguments as they were and no semaphore raised. -/
theorem frame : Cert.quiescent_Kernel2 := fun m g _ => by
  have h := Cert.Kernel2Ideal.Chunk.frame (F := Bits) m g
  rw [← defs_eq, ← main_eq] at h
  exact h

end Cert.Bits2
-- ==== Proof.FfnSpec.lean ====
/- The feed-forward layer as a formula of its arguments, over the extended reals. -/
module

public import Idealize.ShloMosaic.Lib.Pipeline.ValueKit

@[expose] public section

noncomputable section

namespace Cert.Ffn

open Idealize.ShloMosaic

/-- The up-projected row two before row `i`, zero before the first row. -/
def before (x : Fin 16384 → Fin 1024 → EReal) (w : Fin 1024 → Fin 5632 → EReal) (i : ℕ) (c : Fin 5632) : EReal :=
  if h : 2 ≤ i ∧ i - 2 < 16384 then ∑ k, x ⟨i - 2, h.2⟩ k * w k c else 0

/-- The convolved row `r`. -/
def conv (x : Fin 16384 → Fin 1024 → EReal) (w : Fin 1024 → Fin 5632 → EReal) (cw : Fin 3 → Fin 5632 → EReal) (cb : Fin 5632 → EReal) (r : ℕ) (c : Fin 5632) : EReal :=
  before x w r c * cw 0 c + before x w (1 + r) c * cw 1 c + before x w (2 + r) c * cw 2 c + cb c

/-- The gate's activation. -/
def act (v : EReal) : EReal :=
  v * (Ideal.ofBits .f32 0x3F000000#32 * (1 + Ideal.tanh (Ideal.ofBits .f32 0x3F4C422A#32 * (v + Ideal.ofBits .f32 0x3D372713#32 * (v * v * v)))))

/-- The gated row `r`. -/
def gate (x : Fin 16384 → Fin 1024 → EReal) (w : Fin 1024 → Fin 5632 → EReal) (cw : Fin 3 → Fin 5632 → EReal) (cb : Fin 5632 → EReal) (r : ℕ) (l : Fin 2816) : EReal :=
  act (conv x w cw cb r ⟨l.val, by omega⟩) * conv x w cw cb r ⟨2816 + l.val, by omega⟩

/-- A row's mean. -/
def mean (y : Fin 1024 → EReal) : EReal := Ideal.div (∑ k, y k) (Ideal.ofBits .f32 0x44800000#32)

/-- A row normalised. -/
def normed (y g b : Fin 1024 → EReal) (l : Fin 1024) : EReal :=
  (y l - mean y) * Ideal.rsqrt (mean (fun k => (y k - mean y) * (y k - mean y)) + Ideal.ofBits .f32 0x3727C5AC#32) * g l + b l

theorem normed_congr {y y' g g' b b' : Fin 1024 → EReal} (hy : ∀ k, y k = y' k) (hg : ∀ k, g k = g' k) (hb : ∀ k, b k = b' k) (l : Fin 1024) :
    normed y g b l = normed y' g' b' l := by
  rw [funext hy, funext hg, funext hb]

/-- The residual sum of row `r`. -/
def total (x : Fin 16384 → Fin 1024 → EReal) (w : Fin 1024 → Fin 5632 → EReal) (cw : Fin 3 → Fin 5632 → EReal) (cb : Fin 5632 → EReal) (wd : Fin 2816 → Fin 1024 → EReal)
    (r : Fin 16384) (l : Fin 1024) : EReal :=
  Ideal.ofBits .f32 0x3FD744FD#32 * x r l + ∑ k, gate x w cw cb r.val k * wd k l

/-- The layer's result. -/
def layer (x : Fin 16384 → Fin 1024 → EReal) (w : Fin 1024 → Fin 5632 → EReal) (cw : Fin 3 → Fin 5632 → EReal) (cb : Fin 5632 → EReal) (wd : Fin 2816 → Fin 1024 → EReal)
    (g b : Fin 1024 → EReal) (r : Fin 16384) (l : Fin 1024) : EReal :=
  normed (total x w cw cb wd r) g b l

/-- Neither infinity. -/
def Fin' (v : EReal) : Prop := v ≠ ⊤ ∧ v ≠ ⊥

theorem Fin'.lift {v : EReal} (h : Fin' v) : ∃ a : ℝ, (a : EReal) = v := ⟨v.toReal, EReal.coe_toReal h.1 h.2⟩

theorem fin_coe (a : ℝ) : Fin' (a : EReal) := ⟨EReal.coe_ne_top _, EReal.coe_ne_bot _⟩

theorem Fin'.add {u v : EReal} (hu : Fin' u) (hv : Fin' v) : Fin' (u + v) := by
  obtain ⟨a, rfl⟩ := hu.lift; obtain ⟨b, rfl⟩ := hv.lift
  rw [← EReal.coe_add]; exact fin_coe _

theorem Fin'.mul {u v : EReal} (hu : Fin' u) (hv : Fin' v) : Fin' (u * v) := by
  obtain ⟨a, rfl⟩ := hu.lift; obtain ⟨b, rfl⟩ := hv.lift
  rw [← EReal.coe_mul]; exact fin_coe _

theorem fin_sum {n : ℕ} (f : Fin n → EReal) (h : ∀ k, Fin' (f k)) : Fin' (∑ k, f k) :=
  Finset.sum_induction f Fin' (fun _ _ => Fin'.add) (fin_coe 0) fun k _ => h k

/-- A convolved number is finite when all it is made of is. -/
theorem conv_fin (x : Fin 16384 → Fin 1024 → EReal) (w : Fin 1024 → Fin 5632 → EReal) (cw : Fin 3 → Fin 5632 → EReal) (cb : Fin 5632 → EReal) (r : ℕ) (c : Fin 5632)
    (hx : ∀ r k, Fin' (x r k)) (hw : ∀ k, Fin' (w k c)) (hc : ∀ k, Fin' (cw k c)) (hb : Fin' (cb c)) : Fin' (conv x w cw cb r c) := by
  have hp : ∀ i, Fin' (before x w i c) := fun i => by
    unfold before
    split_ifs
    · exact fin_sum _ fun k => (hx _ _).mul (hw _)
    · exact fin_coe 0
  exact ((((hp _).mul (hc _)).add ((hp _).mul (hc _))).add ((hp _).mul (hc _))).add hb

theorem bits_half : Ideal.ofBits .f32 0x3F000000#32 = ((1 / 2 : ℝ) : EReal) := by
  simp [Ideal.ofBits, Ideal.ieee, -EReal.coe_mul]; norm_num

theorem bits_one : Ideal.ofBits .f32 0x3F800000#32 = ((1 : ℝ) : EReal) := by
  simp [Ideal.ofBits, Ideal.ieee, -EReal.coe_mul]; norm_num

theorem bits_root : Ideal.ofBits .f32 0x3F4C422A#32 = ((13386282 / 2 ^ 24 : ℝ) : EReal) := by
  simp [Ideal.ofBits, Ideal.ieee, -EReal.coe_mul]; norm_num

theorem bits_coef : Ideal.ofBits .f32 0x3D372713#32 = ((12003091 / 2 ^ 28 : ℝ) : EReal) := by
  simp [Ideal.ofBits, Ideal.ieee, -EReal.coe_mul]; norm_num

theorem bits_linear : Ideal.ofBits .f32 0x3FCC422A#32 = ((13386282 / 2 ^ 23 : ℝ) : EReal) := by
  simp [Ideal.ofBits, Ideal.ieee, -EReal.coe_mul]; norm_num

/-- The activation written on half its argument. -/
theorem act_half (v y : EReal) (h : Fin' v) (hy : y = Ideal.ofBits .f32 0x3F000000#32 * v) :
    y + y * Ideal.tanh (y * (((80338380498831 / 281474976710656 : ℝ) : EReal) * (y * y) + Ideal.ofBits .f32 0x3FCC422A#32)) = act v := by
  obtain ⟨a, rfl⟩ := h.lift
  subst hy
  unfold act
  rw [bits_half, bits_root, bits_coef, bits_linear]
  have e : (((1 / 2 : ℝ) : EReal) * (a : EReal)) * (((80338380498831 / 281474976710656 : ℝ) : EReal) * ((((1 / 2 : ℝ) : EReal) * (a : EReal)) * (((1 / 2 : ℝ) : EReal) * (a : EReal))) + ((13386282 / 2 ^ 23 : ℝ) : EReal))
      = ((13386282 / 2 ^ 24 : ℝ) : EReal) * ((a : EReal) + ((12003091 / 2 ^ 28 : ℝ) : EReal) * ((a : EReal) * (a : EReal) * (a : EReal))) := by
    simp only [← EReal.coe_mul, ← EReal.coe_add]
    exact congrArg _ (by ring)
  rw [e]
  simp only [← EReal.coe_mul, ← EReal.coe_add]
  show ((1 / 2 * a : ℝ) : EReal) + ((1 / 2 * a : ℝ) : EReal) * ((Real.tanh _ : ℝ) : EReal) = (a : EReal) * (((1 / 2 : ℝ) : EReal) * (((1 : ℝ) : EReal) + ((Real.tanh _ : ℝ) : EReal)))
  simp only [← EReal.coe_mul, ← EReal.coe_add]
  exact congrArg _ (by ring)

/-- A scaled convolution, the scale at every weight and at the bias. -/
theorem conv_scaled (a : ℝ) (ha : 0 ≤ a) (s p0 p1 p2 w0 w1 w2 b : EReal) (hs : s = (a : EReal)) :
    ((b * s + w0 * s * p0) + w1 * s * p1) + w2 * s * p2 = s * (p0 * w0 + p1 * w1 + p2 * w2 + b) := by
  subst hs
  have d : ∀ y z : EReal, (a : EReal) * (y + z) = a * y + a * z := EReal.left_distrib_of_nonneg_of_ne_top (EReal.coe_nonneg.mpr ha) (EReal.coe_ne_top a)
  rw [d, d, d]
  have f : ∀ p w : EReal, w * (a : EReal) * p = (a : EReal) * (p * w) := fun p w => by
    rw [mul_comm w, mul_assoc, mul_comm w]
  rw [f, f, f, mul_comm b]
  generalize (a : EReal) * b = B
  generalize (a : EReal) * (p0 * w0) = P
  generalize (a : EReal) * (p1 * w1) = Q
  generalize (a : EReal) * (p2 * w2) = R
  abel

end Cert.Ffn

end
-- ==== Proof.FfnRead.lean ====
/- The feed-forward kernel's values at an index. -/
module

public import proofs.«01_k».proof.Proof.FfnFrame
public import proofs.«01_k».proof.Proof.FfnSpec
public import Idealize.ShloMosaic.Lib.Claim

@[expose] public section

set_option maxRecDepth 16384

noncomputable section

namespace Cert.Kernel2Ideal.Chunk

open Cert.Kernel2Ideal Cert.Kernel2Ideal.Gen Idealize.ShloMosaic Idealize.ShloMosaic.TcCoe

variable (m : (ℓ : Loc nD τ sig) → Buf (Elt Ideal) ℓ) (c : Dev nD)

/-- The layer's seven arguments, by row and column. -/
abbrev XX : Fin 16384 → Fin 1024 → EReal := fun r k => m ((c : Thread nD τ).loc main_arg0) (ix2 r k)
abbrev WW : Fin 1024 → Fin 5632 → EReal := fun k l => m ((c : Thread nD τ).loc main_arg1) (ix2 k l)
abbrev CW : Fin 3 → Fin 5632 → EReal := fun k l => m ((c : Thread nD τ).loc main_arg2) (ix2 k l)
abbrev CB : Fin 5632 → EReal := fun l => m ((c : Thread nD τ).loc main_arg3) (ix1 l)
abbrev WD : Fin 2816 → Fin 1024 → EReal := fun k l => m ((c : Thread nD τ).loc main_arg4) (ix2 k l)
abbrev LG : Fin 1024 → EReal := fun l => m ((c : Thread nD τ).loc main_arg5) (ix1 l)
abbrev LB : Fin 1024 → EReal := fun l => m ((c : Thread nD τ).loc main_arg6) (ix1 l)

/-- Which block each window stages at each grid point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![t.val, 0] :=
  (by decide +kernel : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![t.val, 0])

theorem t_lt (t : Fin cfg0.N) : t.val < 32 := lt_of_lt_of_eq t.isLt (show cfg0.N = 32 from N_0)

theorem x_at (t : Fin cfg0.N) (r : Fin 512) (k : Fin 1024) (R : Fin 16384) (hR : R.val = 512 * t.val + r.val) :
    (iblk m c 0 t (ix2 r k) : EReal) = XX m c R k := by
  have ht := t_lt t
  blk_ext [iblk, V, idx t]

theorem wg_at (t : Fin cfg0.N) (k : Fin 1024) (l : Fin 2816) (L : Fin 5632) (hL : L.val = l.val) :
    (iblk m c 1 t (ix2 k l) : EReal) = WW m c k L := by
  have e : iblk m c 1 t (ix2 k l) = V m c main_v1 (ix2 k l) := by blk_ext [iblk, idx t]
  refine e.trans ?_
  entry_read
  pointwise []
  exact congrArg (WW m c k) (Fin.ext (by simp only [hL]) : (⟨l.val, by omega⟩ : Fin 5632) = L)

theorem wu_at (t : Fin cfg0.N) (k : Fin 1024) (l : Fin 2816) (L : Fin 5632) (hL : L.val = 2816 + l.val) :
    (iblk m c 2 t (ix2 k l) : EReal) = WW m c k L := by
  have e : iblk m c 2 t (ix2 k l) = V m c main_v3 (ix2 k l) := by blk_ext [iblk, idx t]
  refine e.trans ?_
  entry_read
  pointwise []
  exact congrArg (WW m c k) (Fin.ext (by simp only [hL]) : (⟨2816 + l.val, by omega⟩ : Fin 5632) = L)

theorem cw_at (t : Fin cfg0.N) (k : Fin 3) (l : Fin 5632) : (iblk m c 3 t (ix2 k l) : EReal) = CW m c k l := by
  blk_ext [iblk, V, idx t]

theorem cb_at (t : Fin cfg0.N) (l : Fin 5632) :
    (iblk m c 4 t (ix2 0 l) : EReal) = CB m c l := by
  have e : iblk m c 4 t (ix2 0 l) = V m c main_v4 (ix2 0 l) := by blk_ext [iblk, idx t]
  refine e.trans ?_
  entry_read
  pointwise []

theorem wd_at (t : Fin cfg0.N) (k : Fin 2816) (l : Fin 1024) :
    (iblk m c 5 t (ix2 k l) : EReal) = WD m c k l := by
  have e : iblk m c 5 t (ix2 k l) = V m c main_v5 (ix2 k l) := by blk_ext [iblk, idx t]
  refine e.trans ?_
  entry_read
  pointwise []

theorem lg_at (t : Fin cfg0.N) (l : Fin 1024) :
    (iblk m c 6 t (ix2 0 l) : EReal) = LG m c l := by
  have e : iblk m c 6 t (ix2 0 l) = V m c main_v6 (ix2 0 l) := by blk_ext [iblk, idx t]
  refine e.trans ?_
  entry_read
  pointwise []

theorem lb_at (t : Fin cfg0.N) (l : Fin 1024) :
    (iblk m c 7 t (ix2 0 l) : EReal) = LB m c l := by
  have e : iblk m c 7 t (ix2 0 l) = V m c main_v7 (ix2 0 l) := by blk_ext [iblk, idx t]
  refine e.trans ?_
  entry_read
  pointwise []

end Cert.Kernel2Ideal.Chunk

end
-- ==== Proof.FfnValue.lean ====
/- What the feed-forward kernel leaves in its output: the layer's formula. -/
module

public import proofs.«01_k».proof.Proof.FfnRead

@[expose] public section

set_option maxRecDepth 16384

noncomputable section

namespace Cert.Kernel2Ideal.Chunk

open Cert.Kernel2Ideal Cert.Kernel2Ideal.Gen Idealize.ShloMosaic Idealize.ShloMosaic.TcCoe
open Idealize.ShloMosaic.VecWindow (window put)

/-- A window of a matrix at an index. -/
theorem window_at {a b a' b' : ℕ} {α : Type} (x : (⟨2, ![a, b]⟩ : Shape).Idx → α) (o p : ℕ) (inb : ∀ k, (![o, p] : Fin 2 → ℕ) k + (![a', b'] : Fin 2 → ℕ) k ≤ (![a, b] : Fin 2 → ℕ) k)
    (i : Fin a') (j : Fin b') (I : Fin a) (J : Fin b) (hI : I.val = o + i.val) (hJ : J.val = p + j.val) :
    window (s := ⟨2, ![a, b]⟩) x ![o, p] ![a', b'] inb (ix2 i j) = x (ix2 I J) := by
  refine congrArg x (funext fun k => Fin.ext ?_)
  fin_cases k
  · show o + 1 * i.val = I.val; omega
  · show p + 1 * j.val = J.val; omega

theorem hcol_at (x : Vec Ideal S512x1024 .f32) (w : Vec Ideal S1024x2816 .bf16) (n : Fin 11) (j : Fin 512) (l : Fin 256) (R : Fin 512) (L : Fin 2816)
    (hR : R.val = j.val % 8 * 64 + j.val / 8) (hL : L.val = n.val * 256 + l.val) :
    (hcol x w n (ix2 j l) : EReal) = ∑ k : Fin 1024, x (ix2 R k) * w (ix2 k L) := by
  unfold hcol upH seg
  pointwise []
  refine Finset.sum_congr rfl fun k _ => congrArg₂ (· * ·) ?_ ?_
  · exact congrArg (fun R => x (ix2 R k)) (Fin.ext hR.symm)
  · exact window_at w 0 (n.val * 256) (inbW n) k l k L (by omega) hL

theorem shifted_at (p q : FVec Ideal S8x256 .f32) (i : Fin 8) (l : Fin 256) :
    (shifted lanes p q (ix2 i l) : EReal) = if i.val = 0 then p (ix2 7 l) else q (ix2 ⟨i.val - 1, by omega⟩ l) := by
  unfold shifted lanes
  pointwise []
  have hb : IntOp.cmpi CmpIPredicate.eq (BitVec.ofNat 32 i.val) 0#32 = if i.val = 0 then 1#1 else 0#1 := by revert i; decide
  rw [hb]
  split_ifs with h
  · exact congrArg (fun i => p (ix2 i l)) (Fin.ext (by show (i.val + 8 - 1) % 8 = 7; omega))
  · exact congrArg (fun i => q (ix2 i l)) (Fin.ext (by show (i.val + 8 - 1) % 8 = i.val - 1; omega))

theorem last2_at (h : FVec Ideal S512x256 .f32) (i : Fin 8) (l : Fin 256) : last2 h (ix2 i l) = h (ix2 ⟨496 + i.val, by omega⟩ l) := by
  unfold last2
  pointwise []

theorem last1_at (h : FVec Ideal S512x256 .f32) (i : Fin 8) (l : Fin 256) : last1 h (ix2 i l) = h (ix2 ⟨504 + i.val, by omega⟩ l) := by
  unfold last1
  pointwise []

variable (m : (ℓ : Loc nD τ sig) → Buf (Elt Ideal) ℓ) (c : Dev nD)

/-- A row of a point's projected rows, in the rows of the whole call. -/
theorem hcol_before (o : ℕ) (w : Vec Ideal S1024x2816 .bf16) (hw : ∀ k (l : Fin 2816) (C : Fin 5632), C.val = o + l.val → (w (ix2 k l) : EReal) = WW m c k C)
    (t : Fin cfg0.N) (n : Fin 11) (j : Fin 512) (l : Fin 256) (C : Fin 5632) (hC : C.val = o + (n.val * 256 + l.val)) (i : ℕ) (hi : i = 512 * t.val + (j.val % 8 * 64 + j.val / 8) + 2) :
    (hcol (iblk m c 0 t) w n (ix2 j l) : EReal) = Ffn.before (XX m c) (WW m c) i C := by
  have ht := t_lt t
  have hj := j.isLt
  have hl := l.isLt
  have hn := n.isLt
  unfold Ffn.before
  rw [dif_pos ⟨by omega, by omega⟩]
  refine (hcol_at _ w n j l ⟨j.val % 8 * 64 + j.val / 8, by omega⟩ ⟨n.val * 256 + l.val, by omega⟩ rfl rfl).trans ?_
  refine Finset.sum_congr rfl fun k _ => congrArg₂ (· * ·) ?_ ?_
  · exact x_at m c t _ k _ (by show i - 2 = 512 * t.val + (j.val % 8 * 64 + j.val / 8); omega)
  · exact hw k _ C hC

/-- What a point finds held over in the last row of a tile: the row `8 − e / 8` rows before its first, zero at the first point. -/
theorem found_at (o : ℕ) (w : Vec Ideal S1024x2816 .bf16) (hw : ∀ k (l : Fin 2816) (C : Fin 5632), C.val = o + l.val → (w (ix2 k l) : EReal) = WW m c k C)
    (t : Fin cfg0.N) (n : Fin 11) (l : Fin 256) (C : Fin 5632) (hC : C.val = o + (n.val * 256 + l.val)) (e : Fin 2) :
    (tile (found m c t.val t.isLt w) n (8 - 8 * e.val) (ix2 7 l) : EReal) = Ffn.before (XX m c) (WW m c) (512 * t.val + e.val) C := by
  have ht := t_lt t
  have he := e.isLt
  unfold found tile
  rw [dif_pos (by show 8 - 8 * e.val + 7 < 16; omega)]
  by_cases h : t.val = 0
  · rw [if_pos h]
    unfold Ffn.before
    rw [dif_neg (by omega)]
    exact (by simp [Ideal.ofBits, Ideal.ieee] : Ideal.ofBits .f32 0x00000000#32 = 0)
  · rw [if_neg h]
    unfold left newTail
    have hp : t.val - 1 < cfg0.N := by have := t.isLt; omega
    by_cases h0 : e.val = 0
    · rw [dif_neg (by show ¬(8 - 8 * e.val + 7 < 8); omega)]
      refine (congrArg (last2 _) (congrArg₂ ix2 (Fin.ext (by show 8 - 8 * e.val + 7 - 8 = 7; omega) : _ = (7 : Fin 8)) rfl)).trans ?_
      refine (last2_at _ 7 l).trans ?_
      exact hcol_before m c o w hw ⟨t.val - 1, hp⟩ n _ l C hC _ (by show 512 * t.val + e.val = 512 * (t.val - 1) + (503 % 8 * 64 + 503 / 8) + 2; omega)
    · rw [dif_pos (by show 8 - 8 * e.val + 7 < 8; omega)]
      refine (congrArg (last1 _) (congrArg₂ ix2 (Fin.ext (by show 8 - 8 * e.val + 7 = 7; omega) : _ = (7 : Fin 8)) rfl)).trans ?_
      refine (last1_at _ 7 l).trans ?_
      exact hcol_before m c o w hw ⟨t.val - 1, hp⟩ n _ l C hC _ (by show 512 * t.val + e.val = 512 * (t.val - 1) + (511 % 8 * 64 + 511 / 8) + 2; omega)

/-- A slot's row in the rows of the whole call. -/
theorem slot_at (o : ℕ) (w : Vec Ideal S1024x2816 .bf16) (hw : ∀ k (l : Fin 2816) (C : Fin 5632), C.val = o + l.val → (w (ix2 k l) : EReal) = WW m c k C)
    (t : Fin cfg0.N) (n : Fin 11) (j : Fin 528) (l : Fin 256) (C : Fin 5632) (hC : C.val = o + (n.val * 256 + l.val)) (i : ℕ) (hi : i = 512 * t.val + (j.val % 8 * 64 + j.val / 8)) :
    (slotV (iblk m c 0 t) w (found m c t.val t.isLt w) n j l : EReal) = Ffn.before (XX m c) (WW m c) i C := by
  have hj := j.isLt
  unfold slotV fill
  by_cases h0 : j.val < 8
  · rw [dif_pos h0]
    refine (shifted_at _ _ _ l).trans ?_
    by_cases hz : j.val = 0
    · refine (if_pos hz).trans ?_
      refine (found_at m c o w hw t n l C hC 0).trans (congrArg (fun i => Ffn.before _ _ i C) ?_)
      show 512 * t.val + 0 = i; omega
    · refine (if_neg hz).trans ?_
      rw [last2_at]
      exact hcol_before m c o w hw t n _ l C hC i (by show i = 512 * t.val + ((496 + (j.val - 1)) % 8 * 64 + (496 + (j.val - 1)) / 8) + 2; omega)
  · rw [dif_neg h0]
    by_cases h1 : j.val < 16
    · rw [dif_pos h1]
      refine (shifted_at _ _ _ l).trans ?_
      by_cases hz : j.val - 8 = 0
      · refine (if_pos hz).trans ?_
        refine (found_at m c o w hw t n l C hC 1).trans (congrArg (fun i => Ffn.before _ _ i C) ?_)
        show 512 * t.val + 1 = i; omega
      · refine (if_neg hz).trans ?_
        rw [last1_at]
        exact hcol_before m c o w hw t n _ l C hC i (by show i = 512 * t.val + ((504 + (j.val - 8 - 1)) % 8 * 64 + (504 + (j.val - 8 - 1)) / 8) + 2; omega)
    · rw [dif_neg h1]
      exact hcol_before m c o w hw t n _ l C hC i (by show i = 512 * t.val + ((j.val - 16) % 8 * 64 + (j.val - 16) / 8) + 2; omega)

end Cert.Kernel2Ideal.Chunk

end
-- ==== Proof.FfnRows.lean ====
/- The feed-forward kernel's chunks, down-projection and normalisation at an index. -/
module

public import proofs.«01_k».proof.Proof.FfnValue

@[expose] public section

set_option maxRecDepth 16384

noncomputable section

namespace Cert.Kernel2Ideal.Chunk

open Cert.Kernel2Ideal Cert.Kernel2Ideal.Gen Idealize.ShloMosaic Idealize.ShloMosaic.TcCoe
open Idealize.ShloMosaic.VecWindow (window put)

variable (m : (ℓ : Loc nD τ sig) → Buf (Elt Ideal) ℓ) (c : Dev nD)

/-- One half of a chunk's convolution is the layer's, times the half's scale. -/
theorem conv_at (o : Fin 2) (sc : BitVec 32) (a : ℝ) (ha : 0 ≤ a) (hs : Ideal.ofBits .f32 sc = (a : EReal))
    (w : Vec Ideal S1024x2816 .bf16) (hw : ∀ k (l : Fin 2816) (C : Fin 5632), C.val = o.val * 2816 + l.val → (w (ix2 k l) : EReal) = WW m c k C)
    (t : Fin cfg0.N) (n : Fin 11) (j : Fin 512) (l : Fin 256) (C : Fin 5632) (hC : C.val = o.val * 2816 + (n.val * 256 + l.val)) (r : ℕ) (hr : r = 512 * t.val + (j.val % 8 * 64 + j.val / 8)) :
    (convV (iblk m c 3 t) (iblk m c 4 t) sc o n (slotV (iblk m c 0 t) w (found m c t.val t.isLt w) n) (ix2 j l) : EReal)
      = Ideal.ofBits .f32 sc * Ffn.conv (XX m c) (WW m c) (CW m c) (CB m c) r C := by
  have hj := j.isLt
  have eb : (brow (iblk m c 4 t) o n (ix2 0 l) : EReal) = CB m c C :=
    (window_at (a := 1) (a' := 1) _ 0 (o.val * 2816 + n.val * 256) (inbCB n o) 0 l 0 C (by simp) (by omega)).trans (cb_at m c t C)
  have ew : ∀ k : Fin 3, (crow (iblk m c 3 t) k o n (ix2 0 l) : EReal) = CW m c k C := fun k =>
    (window_at (a := 3) (a' := 1) _ k.val (o.val * 2816 + n.val * 256) (inbCW n k o) 0 l k C (by simp) (by omega)).trans (cw_at m c t k C)
  have es : ∀ (q : Fin 17) (i : ℕ), i = 512 * t.val + ((q.val + j.val) % 8 * 64 + (q.val + j.val) / 8) →
      (rows (slotV (iblk m c 0 t) w (found m c t.val t.isLt w) n) q (ix3 0 j l) : EReal) = Ffn.before (XX m c) (WW m c) i C := fun q i hi =>
    slot_at m c (o.val * 2816) w hw t n ⟨q.val + j.val, by have := q.isLt; omega⟩ l C hC i hi
  unfold convV tap bias Ffn.conv
  pointwise []
  rw [eb, ew, ew, ew, es 0 r (by simp only [Fin.val_zero]; omega), es 8 (1 + r) (by show 1 + r = 512 * t.val + ((8 + j.val) % 8 * 64 + (8 + j.val) / 8); omega),
    es 16 (2 + r) (by show 2 + r = 512 * t.val + ((16 + j.val) % 8 * 64 + (16 + j.val) / 8); omega)]
  exact Ffn.conv_scaled a ha _ _ _ _ _ _ _ _ hs

/-- What the claim assumes of the arrays: the rows and all that makes the gate's columns are finite. -/
structure Ok : Prop where
  x : ∀ r k, Ffn.Fin' (XX m c r k)
  w : ∀ k (l : Fin 5632), l.val < 2816 → Ffn.Fin' (WW m c k l)
  cw : ∀ k (l : Fin 5632), l.val < 2816 → Ffn.Fin' (CW m c k l)
  cb : ∀ l : Fin 5632, l.val < 2816 → Ffn.Fin' (CB m c l)

variable {m c} in
/-- A chunk's gated columns are the layer's. -/
theorem blk_at (H : Ok m c) (t : Fin cfg0.N) (n : Fin 11) (j : Fin 512) (l : Fin 256) (L : Fin 2816) (hL : L.val = n.val * 256 + l.val) (r : ℕ) (hr : r = 512 * t.val + (j.val % 8 * 64 + j.val / 8)) :
    (blk (iblk m c 0 t) (iblk m c 1 t) (iblk m c 2 t) (iblk m c 3 t) (iblk m c 4 t) (found m c t.val t.isLt (iblk m c 1 t)) (found m c t.val t.isLt (iblk m c 2 t)) n (ix2 j l) : EReal)
      = Ffn.gate (XX m c) (WW m c) (CW m c) (CB m c) r L := by
  have w1 : ∀ (k : Fin 1024) (l : Fin 2816) (C : Fin 5632), C.val = (0 : Fin 2).val * 2816 + l.val → (iblk m c 1 t (ix2 k l) : EReal) = WW m c k C :=
    fun k l C hC => wg_at m c t k l C (by rw [hC, Fin.val_zero, zero_mul, zero_add])
  have w2 : ∀ (k : Fin 1024) (l : Fin 2816) (C : Fin 5632), C.val = (1 : Fin 2).val * 2816 + l.val → (iblk m c 2 t (ix2 k l) : EReal) = WW m c k C :=
    fun k l C hC => wu_at m c t k l C (by rw [hC, Fin.val_one, one_mul])
  have hg := conv_at m c 0 0x3F000000#32 (1 / 2) (by norm_num) Ffn.bits_half (iblk m c 1 t) w1 t n j l ⟨L.val, by omega⟩
    (by show L.val = (0 : Fin 2).val * 2816 + (n.val * 256 + l.val); rw [hL, Fin.val_zero, zero_mul, zero_add]) r hr
  have hu := conv_at m c 1 0x3F800000#32 1 (by norm_num) Ffn.bits_one (iblk m c 2 t) w2 t n j l ⟨2816 + L.val, by omega⟩
    (by show 2816 + L.val = (1 : Fin 2).val * 2816 + (n.val * 256 + l.val); rw [hL, Fin.val_one, one_mul]) r hr
  rw [Ffn.bits_one, EReal.coe_one, one_mul] at hu
  have hn : (Named.named (F := Ideal) κ "cubic" (φ := .f32) 0x3E922279#32 : EReal) = ((80338380498831 / 281474976710656 : ℝ) : EReal) :=
    IdealRules.named_const.ideal_named_scalar _ _ _ _ rfl
  unfold blk gated Ffn.gate
  pointwise []
  rw [hu, hn, Ffn.act_half _ _ (Ffn.conv_fin _ _ _ _ r _ H.x (fun k => H.w k _ L.isLt) (fun k => H.cw k _ L.isLt) (H.cb _ L.isLt)) hg]

/-- The first run's down-projection, both parts together. -/
theorem sum_parts (f : Fin 2816 → EReal) : (∑ k : Fin 1536, f ⟨k.val, by omega⟩) + (∑ k : Fin 1280, f ⟨1536 + k.val, by omega⟩) = ∑ k, f k :=
  (Fin.sum_univ_add (a := 1536) (b := 1280) f).symm

theorem pre0_at (g : Vec Ideal S512x2816 .bf16) (wd : Vec Ideal S2816x1024 .bf16) (i : Fin 256) (l : Fin 1024) :
    (pre0 (headV g wd) g wd (ix2 i l) : EReal) = ∑ k : Fin 2816, g (ix2 (⟨i.val, by omega⟩ : Fin 512) k) * wd (ix2 k l) := by
  rw [← sum_parts]
  unfold pre0 headV headMM restMM
  pointwise []
  refine congrArg₂ (· + ·) (Finset.sum_congr rfl fun k _ => ?_) (Finset.sum_congr rfl fun k _ => ?_)
  · exact congrArg₂ (· * ·) (window_at g 0 0 _ _ _ _ _ (by simp) (by simp)) (window_at wd 0 0 _ _ _ _ _ (by simp) (by simp))
  · exact congrArg₂ (· * ·) (window_at g 0 1536 _ _ _ _ _ (by simp) rfl) (window_at wd 1536 0 _ _ _ _ _ rfl (by simp))

theorem pre1_at (g : Vec Ideal S512x2816 .bf16) (wd : Vec Ideal S2816x1024 .bf16) (i : Fin 256) (l : Fin 1024) :
    (pre1 (headV g wd) g wd (ix2 i l) : EReal) = ∑ k : Fin 2816, g (ix2 (⟨256 + i.val, by omega⟩ : Fin 512) k) * wd (ix2 k l) := by
  rw [← sum_parts]
  unfold pre1 headV headMM restMM
  pointwise []
  refine congrArg₂ (· + ·) (Finset.sum_congr rfl fun k _ => ?_) (Finset.sum_congr rfl fun k _ => ?_)
  · exact congrArg₂ (· * ·) (window_at g 0 0 _ _ _ _ _ (by simp) (by simp)) (window_at wd 0 0 _ _ _ _ _ (by simp) (by simp))
  · exact congrArg₂ (· * ·) (window_at g 256 1536 _ _ _ _ _ rfl rfl) (window_at wd 1536 0 _ _ _ _ _ rfl (by simp))

/-- The residual rows of run `r`, segment after segment. -/
def cat (x : Vec Ideal S512x1024 .f32) (r : Fin 2) : FVec Ideal S256x1024 .f32 :=
  concatenate S256x1024 0 [⟨S32x1024, xrow x r 0⟩, ⟨S32x1024, xrow x r 1⟩, ⟨S32x1024, xrow x r 2⟩, ⟨S32x1024, xrow x r 3⟩, ⟨S32x1024, xrow x r 4⟩, ⟨S32x1024, xrow x r 5⟩, ⟨S32x1024, xrow x r 6⟩, ⟨S32x1024, xrow x r 7⟩]
    concatenates_S32x1024_S32x1024_S32x1024_S32x1024_S32x1024_S32x1024_S32x1024_S32x1024_S256x1024_d0

theorem cat_at (x : Vec Ideal S512x1024 .f32) (r : Fin 2) (i : Fin 256) (l : Fin 1024) (R : Fin 512) (hR : R.val = i.val / 32 * 64 + r.val * 32 + i.val % 32) :
    (cat x r (ix2 i l) : EReal) = x (ix2 R l) := by
  have hx : ∀ (s : Fin 8) (q : Fin 32), s.val = i.val / 32 → q.val = i.val % 32 → xrow x r s (ix2 q l) = x (ix2 R l) := fun s q hs hq =>
    window_at x (s.val * 64 + r.val * 32) 0 (inbX r s) q l R l (by omega) (by omega)
  have hi := i.isLt
  unfold cat
  pointwise []
  split_ifs
  all_goals exact hx _ _ (by norm_num; omega) (by simp only; omega)

theorem lnV_at (x : Vec Ideal S512x1024 .f32) (p : FVec Ideal S256x1024 .f32) (g b : FVec Ideal S1x1024 .f32) (r : Fin 2) (i : Fin 256) (l : Fin 1024) :
    (lnV x p g b r (ix2 i l) : EReal)
      = Ffn.normed (fun k => Ideal.ofBits .f32 0x3FD744FD#32 * cat x r (ix2 i k) + p (ix2 (⟨i.val % 32 * 8 + i.val / 32, by omega⟩ : Fin 256) k))
          (fun k => g (ix2 0 k)) (fun k => b (ix2 0 k)) l := by
  have e : cat x r = concatenate S256x1024 0 [⟨S32x1024, xrow x r 0⟩, ⟨S32x1024, xrow x r 1⟩, ⟨S32x1024, xrow x r 2⟩, ⟨S32x1024, xrow x r 3⟩, ⟨S32x1024, xrow x r 4⟩, ⟨S32x1024, xrow x r 5⟩, ⟨S32x1024, xrow x r 6⟩, ⟨S32x1024, xrow x r 7⟩]
    concatenates_S32x1024_S32x1024_S32x1024_S32x1024_S32x1024_S32x1024_S32x1024_S32x1024_S256x1024_d0 := rfl
  unfold lnV ln Ffn.normed Ffn.mean
  rw [← e]
  generalize cat x r = X
  pointwise []

/-- The output block at an index. -/
theorem outV_at (x : Vec Ideal S512x1024 .f32) (g : Vec Ideal S512x2816 .bf16) (wd : Vec Ideal S2816x1024 .bf16) (lg lb : Vec Ideal S1x1024 .f32)
    (R : Fin 512) (l : Fin 1024) (J : Fin 512) (hJ : J.val = R.val % 64 / 32 * 256 + (R.val % 32 * 8 + R.val / 64)) :
    (outV x g wd lg lb (ix2 R l) : EReal)
      = Ffn.normed (fun k => Ideal.ofBits .f32 0x3FD744FD#32 * x (ix2 R k) + ∑ k' : Fin 2816, g (ix2 J k') * wd (ix2 k' k))
          (fun k => lg (ix2 0 k)) (fun k => lb (ix2 0 k)) l := by
  have hR := R.isLt
  have h1 : (R.val / 64 * 32 + R.val % 32) / 32 = R.val / 64 := by omega
  have h2 : (R.val / 64 * 32 + R.val % 32) % 32 = R.val % 32 := by omega
  unfold outV outRows
  by_cases h : R.val % 64 / 32 = 1
  · refine (congrFun (if_pos h) _).trans ?_
    refine (lnV_at x _ lg lb 1 _ l).trans ?_
    refine congrArg (fun y => Ffn.normed y _ _ l) (funext fun k => congrArg₂ (· + ·) ?_ ?_)
    · exact congrArg _ (cat_at x 1 _ k R (by show R.val = (R.val / 64 * 32 + R.val % 32) / 32 * 64 + 1 * 32 + (R.val / 64 * 32 + R.val % 32) % 32; rw [h1, h2]; omega))
    · refine (pre1_at g wd _ k).trans (Finset.sum_congr rfl fun k' _ => congrArg (fun J => g (ix2 J k') * wd (ix2 k' k)) (Fin.ext ?_))
      show 256 + ((R.val / 64 * 32 + R.val % 32) % 32 * 8 + (R.val / 64 * 32 + R.val % 32) / 32) = J.val
      rw [h1, h2]; omega
  · refine (congrFun (if_neg h) _).trans ?_
    refine (lnV_at x _ lg lb 0 _ l).trans ?_
    refine congrArg (fun y => Ffn.normed y _ _ l) (funext fun k => congrArg₂ (· + ·) ?_ ?_)
    · exact congrArg _ (cat_at x 0 _ k R (by show R.val = (R.val / 64 * 32 + R.val % 32) / 32 * 64 + 0 * 32 + (R.val / 64 * 32 + R.val % 32) % 32; rw [h1, h2]; omega))
    · refine (pre0_at g wd _ k).trans (Finset.sum_congr rfl fun k' _ => congrArg (fun J => g (ix2 J k') * wd (ix2 k' k)) (Fin.ext ?_))
      show (R.val / 64 * 32 + R.val % 32) % 32 * 8 + (R.val / 64 * 32 + R.val % 32) / 32 = J.val
      rw [h1, h2]; omega

variable {m c}

/-- What a grid point leaves in the output's block, at an index. -/
theorem outAt_at (H : Ok m c) (t : Fin cfg0.N) (R : Fin 512) (l : Fin 1024) (r : Fin 16384) (L : Fin 1024) (hr : r.val = 512 * t.val + R.val) (hL : L.val = l.val) :
    (outAt m c t (ix2 R l) : EReal) = Ffn.layer (XX m c) (WW m c) (CW m c) (CB m c) (WD m c) (LG m c) (LB m c) r L := by
  obtain rfl := Fin.ext hL
  have hR := R.isLt
  have hJ : R.val % 64 / 32 * 256 + (R.val % 32 * 8 + R.val / 64) < 512 := by omega
  have h1 : (R.val % 64 / 32 * 256 + (R.val % 32 * 8 + R.val / 64)) % 8 = R.val / 64 := by omega
  have h2 : (R.val % 64 / 32 * 256 + (R.val % 32 * 8 + R.val / 64)) / 8 = R.val % 64 / 32 * 32 + R.val % 32 := by omega
  unfold outAt Ffn.layer
  refine (outV_at _ _ _ _ _ R L ⟨_, hJ⟩ rfl).trans (Ffn.normed_congr (fun k => ?_) (fun k => lg_at m c t k) (fun k => lb_at m c t k) L)
  unfold Ffn.total
  refine congrArg₂ (· + ·) (congrArg _ (x_at m c t R k r hr)) (Finset.sum_congr rfl fun k' _ => congrArg₂ (· * ·) ?_ (wd_at m c t k' k))
  have hk := k'.isLt
  refine blk_at H t ⟨k'.val / 256, by omega⟩ _ ⟨k'.val % 256, by omega⟩ k' (by show k'.val = k'.val / 256 * 256 + k'.val % 256; omega) r.val ?_
  show r.val = 512 * t.val + ((R.val % 64 / 32 * 256 + (R.val % 32 * 8 + R.val / 64)) % 8 * 64 + (R.val % 64 / 32 * 256 + (R.val % 32 * 8 + R.val / 64)) / 8)
  rw [h1, h2, hr]; omega

/-- The result array after the run is the layer at every index. -/
theorem final (H : Ok m c) : (dats m 0 c).arrAt 8 cfg0.N
    = fun x : S16384x1024.Idx => (Ffn.layer (XX m c) (WW m c) (CW m c) (CB m c) (WD m c) (LG m c) (LB m c) (x 0) (x 1) : EReal) := by
  refine (dats m 0 c).arrAt_eq_of_covers 8 _ (by decide +kernel) fun t _ y => ?_
  blk_simp
  rw [after8]
  have e : y = ix2 (n0 := 512) (n1 := 1024) (y 0) (y 1) := Idealize.ShloMosaic.ValueIdx.eq_ix2 y
  conv_lhs => rw [e]
  refine outAt_at H t (y 0) (y 1) _ _ ?_ ?_
  · blk_simp [idx t]
    exact congrArg (· + _) (Nat.mul_comm _ _)
  · blk_simp [idx t]

end Cert.Kernel2Ideal.Chunk

end
-- ==== Proof.FfnRef.lean ====
/- The run of the feed-forward layer's reference, and its result as a function of the arguments. -/
module

public import proofs.«01_k».proof.Proof.Gen.Reference2Ideal
public import proofs.«01_k».proof.Defs
public import Idealize.ShloMosaic.Lib.StableHlo.Run
public import Idealize.ShloMosaic.Lib.StableHlo.RunRead
public import Idealize.ShloMosaic.Lib.Pipeline.ValueKit

@[expose] public section

set_option maxRecDepth 8192

noncomputable section

namespace Cert.Reference2Ideal.Hand

open Cert.Reference2Ideal Cert.Reference2Ideal.Gen Idealize.ShloMosaic Idealize.ShloMosaic.TcCoe Idealize.SL.Sem Idealize.ShloMosaic.StableHlo

variable {F : FTy → Type} [FloatOps F]

/-- The reference's operations up to the convolved rows. -/
abbrev opsH : List (HloOp τ sig (Elt F)) :=
  [ binary main_arg0 main_arg1 main_v0 ((fun l r => Host.dotGeneral dot_S16384x1024_S1024x5632_S16384x5632_1_0_0_1_n_n none l r) : (⟨S16384x1024, .f32⟩ : BufTy).Contents (Elt F) → (⟨S1024x5632, .f32⟩ : BufTy).Contents (Elt F) → (⟨S16384x5632, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S16384x5632, .f32⟩) main_v0) (TRef.of (T := ⟨S_, .f32⟩) main_call0_v0) (TRef.of (T := ⟨S16386x5632, .f32⟩) main_v1) (fun x v => pad S16386x5632 ![2, 0] ![0, 0] ![0, 0] x v pads_S16384x5632_S16386x5632_200_000 h_S_),
    unary main_v1 main_v2 ((extractStridedSlice S16384x5632 ![0, 0] · slices_S16386x5632_S16384x5632_0_0) : (⟨S16386x5632, .f32⟩ : BufTy).Contents (Elt F) → (⟨S16384x5632, .f32⟩ : BufTy).Contents (Elt F)),
    unary main_arg2 main_v3 ((extractStridedSlice S1x5632 ![0, 0] · slices_S3x5632_S1x5632_0_0) : (⟨S3x5632, .f32⟩ : BufTy).Contents (Elt F) → (⟨S1x5632, .f32⟩ : BufTy).Contents (Elt F)),
    reshape main_v3 main_v4 (rfl : (.f32 : EltTy) = .f32) shapeCasts_S1x5632_S5632,
    unary main_v4 main_v5 (broadcastInDim S1x5632 ![1] bcast_S5632_S1x5632_1 : (⟨S5632, .f32⟩ : BufTy).Contents (Elt F) → (⟨S1x5632, .f32⟩ : BufTy).Contents (Elt F)),
    unary main_v5 main_v6 (broadcastInDim S16384x5632 ![0, 1] bcast_S1x5632_S16384x5632_0_1 : (⟨S1x5632, .f32⟩ : BufTy).Contents (Elt F) → (⟨S16384x5632, .f32⟩ : BufTy).Contents (Elt F)),
    binary main_v2 main_v6 main_v7 (mulf : (⟨S16384x5632, .f32⟩ : BufTy).Contents (Elt F) → (⟨S16384x5632, .f32⟩ : BufTy).Contents (Elt F) → (⟨S16384x5632, .f32⟩ : BufTy).Contents (Elt F)),
    unary main_v1 main_v8 ((extractStridedSlice S16384x5632 ![1, 0] · slices_S16386x5632_S16384x5632_1_0) : (⟨S16386x5632, .f32⟩ : BufTy).Contents (Elt F) → (⟨S16384x5632, .f32⟩ : BufTy).Contents (Elt F)),
    unary main_arg2 main_v9 ((extractStridedSlice S1x5632 ![1, 0] · slices_S3x5632_S1x5632_1_0) : (⟨S3x5632, .f32⟩ : BufTy).Contents (Elt F) → (⟨S1x5632, .f32⟩ : BufTy).Contents (Elt F)),
    reshape main_v9 main_v10 (rfl : (.f32 : EltTy) = .f32) shapeCasts_S1x5632_S5632,
    unary main_v10 main_v11 (broadcastInDim S1x5632 ![1] bcast_S5632_S1x5632_1 : (⟨S5632, .f32⟩ : BufTy).Contents (Elt F) → (⟨S1x5632, .f32⟩ : BufTy).Contents (Elt F)),
    unary main_v11 main_v12 (broadcastInDim S16384x5632 ![0, 1] bcast_S1x5632_S16384x5632_0_1 : (⟨S1x5632, .f32⟩ : BufTy).Contents (Elt F) → (⟨S16384x5632, .f32⟩ : BufTy).Contents (Elt F)),
    binary main_v8 main_v12 main_v13 (mulf : (⟨S16384x5632, .f32⟩ : BufTy).Contents (Elt F) → (⟨S16384x5632, .f32⟩ : BufTy).Contents (Elt F) → (⟨S16384x5632, .f32⟩ : BufTy).Contents (Elt F)),
    binary main_v7 main_v13 main_v14 (addf : (⟨S16384x5632, .f32⟩ : BufTy).Contents (Elt F) → (⟨S16384x5632, .f32⟩ : BufTy).Contents (Elt F) → (⟨S16384x5632, .f32⟩ : BufTy).Contents (Elt F)),
    unary main_v1 main_v15 ((extractStridedSlice S16384x5632 ![2, 0] · slices_S16386x5632_S16384x5632_2_0) : (⟨S16386x5632, .f32⟩ : BufTy).Contents (Elt F) → (⟨S16384x5632, .f32⟩ : BufTy).Contents (Elt F)),
    unary main_arg2 main_v16 ((extractStridedSlice S1x5632 ![2, 0] · slices_S3x5632_S1x5632_2_0) : (⟨S3x5632, .f32⟩ : BufTy).Contents (Elt F) → (⟨S1x5632, .f32⟩ : BufTy).Contents (Elt F)),
    reshape main_v16 main_v17 (rfl : (.f32 : EltTy) = .f32) shapeCasts_S1x5632_S5632,
    unary main_v17 main_v18 (broadcastInDim S1x5632 ![1] bcast_S5632_S1x5632_1 : (⟨S5632, .f32⟩ : BufTy).Contents (Elt F) → (⟨S1x5632, .f32⟩ : BufTy).Contents (Elt F)),
    unary main_v18 main_v19 (broadcastInDim S16384x5632 ![0, 1] bcast_S1x5632_S16384x5632_0_1 : (⟨S1x5632, .f32⟩ : BufTy).Contents (Elt F) → (⟨S16384x5632, .f32⟩ : BufTy).Contents (Elt F)),
    binary main_v15 main_v19 main_v20 (mulf : (⟨S16384x5632, .f32⟩ : BufTy).Contents (Elt F) → (⟨S16384x5632, .f32⟩ : BufTy).Contents (Elt F) → (⟨S16384x5632, .f32⟩ : BufTy).Contents (Elt F)),
    binary main_v14 main_v20 main_v21 (addf : (⟨S16384x5632, .f32⟩ : BufTy).Contents (Elt F) → (⟨S16384x5632, .f32⟩ : BufTy).Contents (Elt F) → (⟨S16384x5632, .f32⟩ : BufTy).Contents (Elt F)),
    unary main_arg3 main_v22 (broadcastInDim S1x5632 ![1] bcast_S5632_S1x5632_1 : (⟨S5632, .f32⟩ : BufTy).Contents (Elt F) → (⟨S1x5632, .f32⟩ : BufTy).Contents (Elt F)),
    unary main_v22 main_v23 (broadcastInDim S16384x5632 ![0, 1] bcast_S1x5632_S16384x5632_0_1 : (⟨S1x5632, .f32⟩ : BufTy).Contents (Elt F) → (⟨S16384x5632, .f32⟩ : BufTy).Contents (Elt F)),
    binary main_v21 main_v23 main_v24 (addf : (⟨S16384x5632, .f32⟩ : BufTy).Contents (Elt F) → (⟨S16384x5632, .f32⟩ : BufTy).Contents (Elt F) → (⟨S16384x5632, .f32⟩ : BufTy).Contents (Elt F)) ]

/-- Its operations from there to the residual sum. -/
abbrev opsY : List (HloOp τ sig (Elt F)) :=
  [ unary main_v24 main_v25 ((extractStridedSlice S16384x2816 ![0, 0] · slices_S16384x5632_S16384x2816_0_0) : (⟨S16384x5632, .f32⟩ : BufTy).Contents (Elt F) → (⟨S16384x2816, .f32⟩ : BufTy).Contents (Elt F)),
    unary main_v24 main_v26 ((extractStridedSlice S16384x2816 ![0, 2816] · slices_S16384x5632_S16384x2816_0_2816) : (⟨S16384x5632, .f32⟩ : BufTy).Contents (Elt F) → (⟨S16384x2816, .f32⟩ : BufTy).Contents (Elt F)),
    nullary main_cst (constant S_ .f32 0x3FD744FD#32),
    unary main_cst main_v27 (broadcastInDim S16384x1024 ![] bcast_S_S16384x1024 : (⟨S_, .f32⟩ : BufTy).Contents (Elt F) → (⟨S16384x1024, .f32⟩ : BufTy).Contents (Elt F)),
    binary main_v27 main_arg0 main_v28 (mulf : (⟨S16384x1024, .f32⟩ : BufTy).Contents (Elt F) → (⟨S16384x1024, .f32⟩ : BufTy).Contents (Elt F) → (⟨S16384x1024, .f32⟩ : BufTy).Contents (Elt F)),
    binary main_v25 main_v25 main_v29 (mulf : (⟨S16384x2816, .f32⟩ : BufTy).Contents (Elt F) → (⟨S16384x2816, .f32⟩ : BufTy).Contents (Elt F) → (⟨S16384x2816, .f32⟩ : BufTy).Contents (Elt F)),
    binary main_v29 main_v25 main_v30 (mulf : (⟨S16384x2816, .f32⟩ : BufTy).Contents (Elt F) → (⟨S16384x2816, .f32⟩ : BufTy).Contents (Elt F) → (⟨S16384x2816, .f32⟩ : BufTy).Contents (Elt F)),
    nullary main_cst_0 (constant S_ .f32 0x3D372713#32),
    unary main_cst_0 main_v31 (broadcastInDim S16384x2816 ![] bcast_S_S16384x2816 : (⟨S_, .f32⟩ : BufTy).Contents (Elt F) → (⟨S16384x2816, .f32⟩ : BufTy).Contents (Elt F)),
    binary main_v31 main_v30 main_v32 (mulf : (⟨S16384x2816, .f32⟩ : BufTy).Contents (Elt F) → (⟨S16384x2816, .f32⟩ : BufTy).Contents (Elt F) → (⟨S16384x2816, .f32⟩ : BufTy).Contents (Elt F)),
    binary main_v25 main_v32 main_v33 (addf : (⟨S16384x2816, .f32⟩ : BufTy).Contents (Elt F) → (⟨S16384x2816, .f32⟩ : BufTy).Contents (Elt F) → (⟨S16384x2816, .f32⟩ : BufTy).Contents (Elt F)),
    nullary main_cst_1 (constant S_ .f32 0x3F4C422A#32),
    unary main_cst_1 main_v34 (broadcastInDim S16384x2816 ![] bcast_S_S16384x2816 : (⟨S_, .f32⟩ : BufTy).Contents (Elt F) → (⟨S16384x2816, .f32⟩ : BufTy).Contents (Elt F)),
    binary main_v34 main_v33 main_v35 (mulf : (⟨S16384x2816, .f32⟩ : BufTy).Contents (Elt F) → (⟨S16384x2816, .f32⟩ : BufTy).Contents (Elt F) → (⟨S16384x2816, .f32⟩ : BufTy).Contents (Elt F)),
    unary main_v35 main_v36 (Host.tanh : (⟨S16384x2816, .f32⟩ : BufTy).Contents (Elt F) → (⟨S16384x2816, .f32⟩ : BufTy).Contents (Elt F)),
    nullary main_cst_2 (constant S_ .f32 0x3F800000#32),
    unary main_cst_2 main_v37 (broadcastInDim S16384x2816 ![] bcast_S_S16384x2816 : (⟨S_, .f32⟩ : BufTy).Contents (Elt F) → (⟨S16384x2816, .f32⟩ : BufTy).Contents (Elt F)),
    binary main_v37 main_v36 main_v38 (addf : (⟨S16384x2816, .f32⟩ : BufTy).Contents (Elt F) → (⟨S16384x2816, .f32⟩ : BufTy).Contents (Elt F) → (⟨S16384x2816, .f32⟩ : BufTy).Contents (Elt F)),
    nullary main_cst_3 (constant S_ .f32 0x3F000000#32),
    unary main_cst_3 main_v39 (broadcastInDim S16384x2816 ![] bcast_S_S16384x2816 : (⟨S_, .f32⟩ : BufTy).Contents (Elt F) → (⟨S16384x2816, .f32⟩ : BufTy).Contents (Elt F)),
    binary main_v39 main_v38 main_v40 (mulf : (⟨S16384x2816, .f32⟩ : BufTy).Contents (Elt F) → (⟨S16384x2816, .f32⟩ : BufTy).Contents (Elt F) → (⟨S16384x2816, .f32⟩ : BufTy).Contents (Elt F)),
    binary main_v25 main_v40 main_v41 (mulf : (⟨S16384x2816, .f32⟩ : BufTy).Contents (Elt F) → (⟨S16384x2816, .f32⟩ : BufTy).Contents (Elt F) → (⟨S16384x2816, .f32⟩ : BufTy).Contents (Elt F)),
    binary main_v41 main_v26 main_v42 (mulf : (⟨S16384x2816, .f32⟩ : BufTy).Contents (Elt F) → (⟨S16384x2816, .f32⟩ : BufTy).Contents (Elt F) → (⟨S16384x2816, .f32⟩ : BufTy).Contents (Elt F)),
    binary main_v42 main_arg4 main_v43 ((fun l r => Host.dotGeneral dot_S16384x2816_S2816x1024_S16384x1024_1_0_0_1_n_n none l r) : (⟨S16384x2816, .f32⟩ : BufTy).Contents (Elt F) → (⟨S2816x1024, .f32⟩ : BufTy).Contents (Elt F) → (⟨S16384x1024, .f32⟩ : BufTy).Contents (Elt F)),
    binary main_v28 main_v43 main_v44 (addf : (⟨S16384x1024, .f32⟩ : BufTy).Contents (Elt F) → (⟨S16384x1024, .f32⟩ : BufTy).Contents (Elt F) → (⟨S16384x1024, .f32⟩ : BufTy).Contents (Elt F)) ]

/-- Its operations of the normalisation. -/
abbrev opsN : List (HloOp τ sig (Elt F)) :=
  [ nullary main_cst_4 (constant S_ .f32 0x00000000#32),
    binary main_v44 main_cst_4 main_v45 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v45 main_v46 (broadcastInDim S16384x1 ![0] bcast_S16384_S16384x1_0 : (⟨S16384, .f32⟩ : BufTy).Contents (Elt F) → (⟨S16384x1, .f32⟩ : BufTy).Contents (Elt F)),
    nullary main_cst_5 (constant S_ .f32 0x44800000#32),
    unary main_cst_5 main_v47 (broadcastInDim S16384x1 ![] bcast_S_S16384x1 : (⟨S_, .f32⟩ : BufTy).Contents (Elt F) → (⟨S16384x1, .f32⟩ : BufTy).Contents (Elt F)),
    binary main_v46 main_v47 main_v48 (Host.divf : (⟨S16384x1, .f32⟩ : BufTy).Contents (Elt F) → (⟨S16384x1, .f32⟩ : BufTy).Contents (Elt F) → (⟨S16384x1, .f32⟩ : BufTy).Contents (Elt F)),
    unary main_v48 main_v49 (broadcastInDim S16384x1024 ![0, 1] bcast_S16384x1_S16384x1024_0_1 : (⟨S16384x1, .f32⟩ : BufTy).Contents (Elt F) → (⟨S16384x1024, .f32⟩ : BufTy).Contents (Elt F)),
    binary main_v44 main_v49 main_v50 (subf : (⟨S16384x1024, .f32⟩ : BufTy).Contents (Elt F) → (⟨S16384x1024, .f32⟩ : BufTy).Contents (Elt F) → (⟨S16384x1024, .f32⟩ : BufTy).Contents (Elt F)),
    binary main_v50 main_v50 main_v51 (mulf : (⟨S16384x1024, .f32⟩ : BufTy).Contents (Elt F) → (⟨S16384x1024, .f32⟩ : BufTy).Contents (Elt F) → (⟨S16384x1024, .f32⟩ : BufTy).Contents (Elt F)),
    nullary main_cst_6 (constant S_ .f32 0x00000000#32),
    binary main_v51 main_cst_6 main_v52 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v52 main_v53 (broadcastInDim S16384x1 ![0] bcast_S16384_S16384x1_0 : (⟨S16384, .f32⟩ : BufTy).Contents (Elt F) → (⟨S16384x1, .f32⟩ : BufTy).Contents (Elt F)),
    nullary main_cst_7 (constant S_ .f32 0x44800000#32),
    unary main_cst_7 main_v54 (broadcastInDim S16384x1 ![] bcast_S_S16384x1 : (⟨S_, .f32⟩ : BufTy).Contents (Elt F) → (⟨S16384x1, .f32⟩ : BufTy).Contents (Elt F)),
    binary main_v53 main_v54 main_v55 (Host.divf : (⟨S16384x1, .f32⟩ : BufTy).Contents (Elt F) → (⟨S16384x1, .f32⟩ : BufTy).Contents (Elt F) → (⟨S16384x1, .f32⟩ : BufTy).Contents (Elt F)),
    unary main_v48 main_v56 (broadcastInDim S16384x1024 ![0, 1] bcast_S16384x1_S16384x1024_0_1 : (⟨S16384x1, .f32⟩ : BufTy).Contents (Elt F) → (⟨S16384x1024, .f32⟩ : BufTy).Contents (Elt F)),
    binary main_v44 main_v56 main_v57 (subf : (⟨S16384x1024, .f32⟩ : BufTy).Contents (Elt F) → (⟨S16384x1024, .f32⟩ : BufTy).Contents (Elt F) → (⟨S16384x1024, .f32⟩ : BufTy).Contents (Elt F)),
    nullary main_cst_8 (constant S_ .f32 0x3727C5AC#32),
    unary main_cst_8 main_v58 (broadcastInDim S16384x1 ![] bcast_S_S16384x1 : (⟨S_, .f32⟩ : BufTy).Contents (Elt F) → (⟨S16384x1, .f32⟩ : BufTy).Contents (Elt F)),
    binary main_v55 main_v58 main_v59 (addf : (⟨S16384x1, .f32⟩ : BufTy).Contents (Elt F) → (⟨S16384x1, .f32⟩ : BufTy).Contents (Elt F) → (⟨S16384x1, .f32⟩ : BufTy).Contents (Elt F)),
    unary main_v59 main_v60 (Host.rsqrt : (⟨S16384x1, .f32⟩ : BufTy).Contents (Elt F) → (⟨S16384x1, .f32⟩ : BufTy).Contents (Elt F)),
    unary main_v60 main_v61 (broadcastInDim S16384x1024 ![0, 1] bcast_S16384x1_S16384x1024_0_1 : (⟨S16384x1, .f32⟩ : BufTy).Contents (Elt F) → (⟨S16384x1024, .f32⟩ : BufTy).Contents (Elt F)),
    binary main_v57 main_v61 main_v62 (mulf : (⟨S16384x1024, .f32⟩ : BufTy).Contents (Elt F) → (⟨S16384x1024, .f32⟩ : BufTy).Contents (Elt F) → (⟨S16384x1024, .f32⟩ : BufTy).Contents (Elt F)),
    unary main_arg5 main_v63 (broadcastInDim S1x1024 ![1] bcast_S1024_S1x1024_1 : (⟨S1024, .f32⟩ : BufTy).Contents (Elt F) → (⟨S1x1024, .f32⟩ : BufTy).Contents (Elt F)),
    unary main_v63 main_v64 (broadcastInDim S16384x1024 ![0, 1] bcast_S1x1024_S16384x1024_0_1 : (⟨S1x1024, .f32⟩ : BufTy).Contents (Elt F) → (⟨S16384x1024, .f32⟩ : BufTy).Contents (Elt F)),
    binary main_v62 main_v64 main_v65 (mulf : (⟨S16384x1024, .f32⟩ : BufTy).Contents (Elt F) → (⟨S16384x1024, .f32⟩ : BufTy).Contents (Elt F) → (⟨S16384x1024, .f32⟩ : BufTy).Contents (Elt F)),
    unary main_arg6 main_v66 (broadcastInDim S1x1024 ![1] bcast_S1024_S1x1024_1 : (⟨S1024, .f32⟩ : BufTy).Contents (Elt F) → (⟨S1x1024, .f32⟩ : BufTy).Contents (Elt F)),
    unary main_v66 main_v67 (broadcastInDim S16384x1024 ![0, 1] bcast_S1x1024_S16384x1024_0_1 : (⟨S1x1024, .f32⟩ : BufTy).Contents (Elt F) → (⟨S16384x1024, .f32⟩ : BufTy).Contents (Elt F)),
    binary main_v65 main_v67 main_v68 (addf : (⟨S16384x1024, .f32⟩ : BufTy).Contents (Elt F) → (⟨S16384x1024, .f32⟩ : BufTy).Contents (Elt F) → (⟨S16384x1024, .f32⟩ : BufTy).Contents (Elt F)) ]

set_option maxHeartbeats 2000000 in
theorem main_ops (c : Dev nD) : main (F := F) c = seq (opsH ++ (opsY ++ opsN)) := rfl

theorem ops_sub : (opsH ++ (opsY ++ opsN) : List (HloOp τ sig (Elt F))).Forall fun op => op.bufs ⊆ tcRefs τ sig :=
  ⟨binary_bufs_sub .., nullary_bufs_sub .., unary_bufs_sub .., binary_bufs_sub .., unary_bufs_sub .., unary_bufs_sub .., reshape_bufs_sub .., unary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem after_append (l₁ l₂ : List (HloOp τ sig (Elt F))) (V : Valuation τ sig (Elt F)) : after (l₁ ++ l₂) V = after l₂ (after l₁ V) := by
  induction l₁ generalizing V with
  | nil => rfl
  | cons op l ih => exact ih _

/-- Row `k` of the convolution's weights, at every position. -/
def wrow (k : ℕ) (w : FVec F S3x5632 .f32) (h : S3x5632.Slices ![k, 0] S1x5632) : FVec F S16384x5632 .f32 :=
  broadcastInDim S16384x5632 ![0, 1] bcast_S1x5632_S16384x5632_0_1 (broadcastInDim S1x5632 ![1] bcast_S5632_S1x5632_1 (shapeCast S5632 (extractStridedSlice S1x5632 ![k, 0] w h) shapeCasts_S1x5632_S5632))

/-- The up-projected rows behind two zero rows. -/
def padded (x : FVec F S16384x1024 .f32) (w : FVec F S1024x5632 .f32) : FVec F S16386x5632 .f32 :=
  pad S16386x5632 ![2, 0] ![0, 0] ![0, 0] (Host.dotGeneral dot_S16384x1024_S1024x5632_S16384x5632_1_0_0_1_n_n none x w) (sitofp .f32 (constantI S_ 32 0#32)) pads_S16384x5632_S16386x5632_200_000 h_S_

/-- The convolved rows. -/
def convR (p : FVec F S16386x5632 .f32) (cw : FVec F S3x5632 .f32) (cb : FVec F S5632 .f32) : FVec F S16384x5632 .f32 :=
  addf (addf (addf (mulf (extractStridedSlice S16384x5632 ![0, 0] p slices_S16386x5632_S16384x5632_0_0) (wrow 0 cw slices_S3x5632_S1x5632_0_0))
      (mulf (extractStridedSlice S16384x5632 ![1, 0] p slices_S16386x5632_S16384x5632_1_0) (wrow 1 cw slices_S3x5632_S1x5632_1_0)))
      (mulf (extractStridedSlice S16384x5632 ![2, 0] p slices_S16386x5632_S16384x5632_2_0) (wrow 2 cw slices_S3x5632_S1x5632_2_0)))
    (broadcastInDim S16384x5632 ![0, 1] bcast_S1x5632_S16384x5632_0_1 (broadcastInDim S1x5632 ![1] bcast_S5632_S1x5632_1 cb))

/-- One number in every place of a matrix of the gate's shape. -/
def all (b : BitVec 32) : FVec F S16384x2816 .f32 := broadcastInDim S16384x2816 ![] bcast_S_S16384x2816 (constant S_ .f32 b)

/-- The gate's activation. -/
def geluR (g : FVec F S16384x2816 .f32) : FVec F S16384x2816 .f32 :=
  mulf g (mulf (all 0x3F000000#32) (addf (all 0x3F800000#32) (Host.tanh (mulf (all 0x3F4C422A#32) (addf g (mulf (all 0x3D372713#32) (mulf (mulf g g) g)))))))

/-- The gated columns. -/
def gatedR (h : FVec F S16384x5632 .f32) : FVec F S16384x2816 .f32 :=
  mulf (geluR (extractStridedSlice S16384x2816 ![0, 0] h slices_S16384x5632_S16384x2816_0_0)) (extractStridedSlice S16384x2816 ![0, 2816] h slices_S16384x5632_S16384x2816_0_2816)

/-- The residual sum. -/
def sumR (x : FVec F S16384x1024 .f32) (g : FVec F S16384x2816 .f32) (wd : FVec F S2816x1024 .f32) : FVec F S16384x1024 .f32 :=
  addf (mulf (broadcastInDim S16384x1024 ![] bcast_S_S16384x1024 (constant S_ .f32 0x3FD744FD#32)) x) (Host.dotGeneral dot_S16384x2816_S2816x1024_S16384x1024_1_0_0_1_n_n none g wd)

/-- Each row's mean. -/
def meanR (y : FVec F S16384x1024 .f32) : FVec F S16384x1 .f32 :=
  Host.divf (broadcastInDim S16384x1 ![0] bcast_S16384_S16384x1_0 (Host.reduceAdd y (constant S_ .f32 0x00000000#32) reducesTo_S16384x1024_S16384_d1 h_S_)) (broadcastInDim S16384x1 ![] bcast_S_S16384x1 (constant S_ .f32 0x44800000#32))

/-- Each row less its mean. -/
def devR (y : FVec F S16384x1024 .f32) : FVec F S16384x1024 .f32 :=
  subf y (broadcastInDim S16384x1024 ![0, 1] bcast_S16384x1_S16384x1024_0_1 (meanR y))

/-- The normalised rows. -/
def normR (y : FVec F S16384x1024 .f32) (g b : FVec F S1024 .f32) : FVec F S16384x1024 .f32 :=
  addf (mulf (mulf (devR y) (broadcastInDim S16384x1024 ![0, 1] bcast_S16384x1_S16384x1024_0_1 (Host.rsqrt (addf (meanR (mulf (devR y) (devR y))) (broadcastInDim S16384x1 ![] bcast_S_S16384x1 (constant S_ .f32 0x3727C5AC#32))))))
      (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 b))

variable (V : Valuation τ sig (Elt F))

set_option maxHeartbeats 2000000 in
theorem opsH_at : after opsH V (Proc.devRef .tc main_v24) = convR (padded (V (Proc.devRef .tc main_arg0)) (V (Proc.devRef .tc main_arg1))) (V (Proc.devRef .tc main_arg2)) (V (Proc.devRef .tc main_arg3)) := by
  simp only [opsH, TRef.binary, TRef.unary, TRef.toBuf, TRef.ofBuf, cast_eq]
  after_results_simp <;> rfl

set_option maxHeartbeats 2000000 in
theorem opsY_at : after opsY V (Proc.devRef .tc main_v44) = sumR (V (Proc.devRef .tc main_arg0)) (gatedR (V (Proc.devRef .tc main_v24))) (V (Proc.devRef .tc main_arg4)) := by
  simp only [opsY, TRef.binary, TRef.unary, TRef.toBuf, TRef.ofBuf, cast_eq]
  after_results_simp <;> rfl

set_option maxHeartbeats 2000000 in
theorem opsN_at : after opsN V (Proc.devRef .tc main_v68) = normR (V (Proc.devRef .tc main_v44)) (V (Proc.devRef .tc main_arg5)) (V (Proc.devRef .tc main_arg6)) := by
  simp only [opsN, TRef.binary, TRef.unary, TRef.toBuf, TRef.ofBuf, cast_eq]
  after_results_simp <;> rfl

/-- The reference's seven arguments. -/
def argRefs : List (Ref sig .tc) := [main_arg0, main_arg1, main_arg2, main_arg3, main_arg4, main_arg5, main_arg6]

theorem opsH_kept (r : Ref sig .tc) (h : r ∈ argRefs) : after opsH V (Proc.devRef .tc r) = V (Proc.devRef .tc r) :=
  after_unwritten [main_v0, main_c, main_call0_v0, main_v1, main_v2, main_v3, main_v4, main_v5, main_v6, main_v7, main_v8, main_v9, main_v10, main_v11, main_v12, main_v13, main_v14, main_v15, main_v16, main_v17, main_v18, main_v19, main_v20, main_v21, main_v22, main_v23, main_v24] rfl
    ((by decide : ∀ r ∈ argRefs, r ∉ [main_v0, main_c, main_call0_v0, main_v1, main_v2, main_v3, main_v4, main_v5, main_v6, main_v7, main_v8, main_v9, main_v10, main_v11, main_v12, main_v13, main_v14, main_v15, main_v16, main_v17, main_v18, main_v19, main_v20, main_v21, main_v22, main_v23, main_v24]) r h) V

theorem opsY_kept (r : Ref sig .tc) (h : r ∈ argRefs) : after opsY V (Proc.devRef .tc r) = V (Proc.devRef .tc r) :=
  after_unwritten [main_v25, main_v26, main_cst, main_v27, main_v28, main_v29, main_v30, main_cst_0, main_v31, main_v32, main_v33, main_cst_1, main_v34, main_v35, main_v36, main_cst_2, main_v37, main_v38, main_cst_3, main_v39, main_v40, main_v41, main_v42, main_v43, main_v44] rfl
    ((by decide : ∀ r ∈ argRefs, r ∉ [main_v25, main_v26, main_cst, main_v27, main_v28, main_v29, main_v30, main_cst_0, main_v31, main_v32, main_v33, main_cst_1, main_v34, main_v35, main_v36, main_cst_2, main_v37, main_v38, main_cst_3, main_v39, main_v40, main_v41, main_v42, main_v43, main_v44]) r h) V

theorem opsN_kept (r : Ref sig .tc) (h : r ∈ argRefs) : after opsN V (Proc.devRef .tc r) = V (Proc.devRef .tc r) :=
  after_unwritten [main_cst_4, main_v45, main_v46, main_cst_5, main_v47, main_v48, main_v49, main_v50, main_v51, main_cst_6, main_v52, main_v53, main_cst_7, main_v54, main_v55, main_v56, main_v57, main_cst_8, main_v58, main_v59, main_v60, main_v61, main_v62, main_v63, main_v64, main_v65, main_v66, main_v67, main_v68] rfl
    ((by decide : ∀ r ∈ argRefs, r ∉ [main_cst_4, main_v45, main_v46, main_cst_5, main_v47, main_v48, main_v49, main_v50, main_v51, main_cst_6, main_v52, main_v53, main_cst_7, main_v54, main_v55, main_v56, main_v57, main_cst_8, main_v58, main_v59, main_v60, main_v61, main_v62, main_v63, main_v64, main_v65, main_v66, main_v67, main_v68]) r h) V

/-- The reference's result, of its arguments. -/
def resultR (x : FVec F S16384x1024 .f32) (w : FVec F S1024x5632 .f32) (cw : FVec F S3x5632 .f32) (cb : FVec F S5632 .f32) (wd : FVec F S2816x1024 .f32) (g b : FVec F S1024 .f32) : FVec F S16384x1024 .f32 :=
  normR (sumR x (gatedR (convR (padded x w) cw cb)) wd) g b

theorem kept (r : Ref sig .tc) (h : r ∈ argRefs) : after (opsH ++ (opsY ++ opsN)) V (Proc.devRef .tc r) = V (Proc.devRef .tc r) := by
  rw [after_append, after_append, opsN_kept _ r h, opsY_kept _ r h, opsH_kept _ r h]

theorem result_at : after (opsH ++ (opsY ++ opsN)) V (Proc.devRef .tc main_v68)
    = resultR (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_append, after_append, opsN_at, opsY_at, opsY_kept _ main_arg5 (by decide), opsY_kept _ main_arg6 (by decide), opsH_at,
    opsH_kept _ main_arg0 (by decide), opsH_kept _ main_arg4 (by decide), opsH_kept _ main_arg5 (by decide), opsH_kept _ main_arg6 (by decide)]
  rfl

/-- Every run of the reference ends with its result in place and its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68)
          = resultR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ ∀ a ∈ argRefs, r.2.mem ((c.tc : Thread nD τ).loc a) = m ((c.tc : Thread nD τ).loc a) :=
  (θ_run defs _ _).mono (fun _ h c => ⟨(h c main_v68).trans (result_at _), fun a ha => (h c a).trans (kept _ a ha)⟩)
    (run_seq (by decide) (by decide) defs main (fun _ => opsH ++ (opsY ++ opsN)) main_ops (fun _ => ops_sub) m ρ)

end Cert.Reference2Ideal.Hand

end
-- ==== Proof.FfnRefAt.lean ====
/- The reference of the feed-forward layer at an index. -/
module

public import proofs.«01_k».proof.Proof.FfnRef
public import proofs.«01_k».proof.Proof.FfnSpec

@[expose] public section

set_option maxRecDepth 16384

noncomputable section

namespace Cert.Reference2Ideal.Hand

open Cert.Reference2Ideal Cert.Reference2Ideal.Gen Idealize.ShloMosaic Idealize.ShloMosaic.TcCoe Cert.Ffn

variable (x : FVec Ideal S16384x1024 .f32) (w : FVec Ideal S1024x5632 .f32) (cw : FVec Ideal S3x5632 .f32) (cb : FVec Ideal S5632 .f32)
  (wd : FVec Ideal S2816x1024 .f32) (g b : FVec Ideal S1024 .f32)

theorem padded_at (r : Fin 16386) (l : Fin 5632) :
    (padded x w (ix2 r l) : EReal) = before (fun r k => x (ix2 r k)) (fun k c => w (ix2 k c)) r.val l := by
  have e : (FloatOps.sitofp FTy.f32 (0#32) : Ideal .f32) = (0 : EReal) := by
    show (((0#32 : BitVec 32).toInt : ℝ) : EReal) = 0
    simp
  unfold padded before
  pointwise []
  rw [e]

theorem conv_at (r : Fin 16384) (l : Fin 5632) :
    (convR (padded x w) cw cb (ix2 r l) : EReal)
      = conv (fun r k => x (ix2 r k)) (fun k c => w (ix2 k c)) (fun k c => cw (ix2 k c)) (fun c => cb (ix1 c)) r.val l := by
  unfold convR wrow conv
  pointwise []
  rw [padded_at, padded_at, padded_at]

theorem gated_at (r : Fin 16384) (l : Fin 2816) :
    (gatedR (convR (padded x w) cw cb) (ix2 r l) : EReal)
      = gate (fun r k => x (ix2 r k)) (fun k c => w (ix2 k c)) (fun k c => cw (ix2 k c)) (fun c => cb (ix1 c)) r.val l := by
  unfold gatedR geluR all gate act
  pointwise []
  rw [conv_at, conv_at]

theorem sum_at (r : Fin 16384) (l : Fin 1024) :
    (sumR x (gatedR (convR (padded x w) cw cb)) wd (ix2 r l) : EReal)
      = total (fun r k => x (ix2 r k)) (fun k c => w (ix2 k c)) (fun k c => cw (ix2 k c)) (fun c => cb (ix1 c)) (fun k c => wd (ix2 k c)) r l := by
  unfold sumR total
  pointwise []
  refine congrArg _ (Finset.sum_congr rfl fun k _ => ?_)
  rw [gated_at]

theorem norm_at (y : FVec Ideal S16384x1024 .f32) (r : Fin 16384) (l : Fin 1024) :
    (normR y g b (ix2 r l) : EReal) = normed (fun k => y (ix2 r k)) (fun c => g (ix1 c)) (fun c => b (ix1 c)) l := by
  unfold normR devR meanR normed mean
  pointwise []

/-- The reference's result at an index. -/
theorem result_at_ix (r : Fin 16384) (l : Fin 1024) :
    (resultR x w cw cb wd g b (ix2 r l) : EReal)
      = layer (fun r k => x (ix2 r k)) (fun k c => w (ix2 k c)) (fun k c => cw (ix2 k c)) (fun c => cb (ix1 c)) (fun k c => wd (ix2 k c))
          (fun c => g (ix1 c)) (fun c => b (ix1 c)) r l := by
  unfold resultR layer
  rw [norm_at]
  refine congrArg (fun y => normed y _ _ l) (funext fun k => ?_)
  exact sum_at x w cw cb wd r k

end Cert.Reference2Ideal.Hand

end
-- ==== Proof.Softmax.lean ====
/- The running softmax over the extended reals: what a pass over tiles of 1024 keys holds after n tiles, and that its
   last state divided by its sum of weights is the softmax-weighted mean over all 16384 keys. No program is mentioned. -/
module

public import Idealize.ShloMosaic.PureOps.Ideal.Laws

@[expose] public section

noncomputable section

namespace Cert.Soft

open Idealize.ShloMosaic

/-- Key `t` of tile `n`. -/
def key (n : ℕ) (hn : n < 16) (t : Fin 1024) : Fin 16384 := ⟨n * 1024 + t.val, by have := t.isLt; omega⟩

/-- The keys of the first `n` tiles. -/
def pre (n : ℕ) : Finset (Fin 16384) := Finset.univ.filter fun j => j.val < n * 1024

/-- Two keys of a tile at one place are one. -/
theorem key_inj (n : ℕ) (hn : n < 16) : Function.Injective (key n hn) := fun a b h => by
  have := congrArg Fin.val h; simp only [key] at this; exact Fin.ext (by omega)

/-- The keys of tile `n`. -/
def tile (n : ℕ) (hn : n < 16) : Finset (Fin 16384) := Finset.univ.map ⟨key n hn, key_inj n hn⟩

/-- The first `n + 1` tiles are the first `n` and tile `n`. -/
theorem pre_succ (n : ℕ) (hn : n < 16) : pre (n + 1) = pre n ∪ tile n hn := by
  ext j
  simp only [pre, tile, Finset.mem_filter, Finset.mem_univ, true_and, Finset.mem_union, Finset.mem_map,
    Function.Embedding.coeFn_mk]
  constructor
  · intro h
    by_cases h' : j.val < n * 1024
    · exact Or.inl h'
    · exact Or.inr ⟨⟨j.val - n * 1024, by omega⟩, Fin.ext (by simp only [key]; omega)⟩
  · rintro (h | ⟨t, rfl⟩)
    · omega
    · have := t.isLt; simp only [key]; omega

/-- Tile `n` has no key of the tiles before it. -/
theorem pre_disjoint (n : ℕ) (hn : n < 16) : Disjoint (pre n) (tile n hn) := by
  rw [Finset.disjoint_left]
  intro j hj hj'
  simp only [pre, tile, Finset.mem_filter, Finset.mem_univ, true_and, Finset.mem_map,
    Function.Embedding.coeFn_mk] at hj hj'
  obtain ⟨t, rfl⟩ := hj'
  simp only [key] at hj; omega

variable (s v : Fin 16384 → EReal)

/-- The largest score among the first `n` tiles (−∞ before the first). -/
def MX (n : ℕ) : EReal := (pre n).sup s

/-- The weighted sum over the first `n` tiles, the weights relative to the largest score among them. -/
def AC (n : ℕ) : EReal := ∑ j ∈ pre n, Ideal.exp2 (s j - MX s n) * v j

/-- Before the first tile the largest score is −∞. -/
theorem MX_zero : MX s 0 = ⊥ := by simp [MX, pre]

/-- Before the first tile the weighted sum is zero. -/
theorem AC_zero : AC s v 0 = 0 := by simp [AC, pre]

/-- The largest score after tile `n` is the larger of the one before it and the tile's own. -/
theorem MX_succ (n : ℕ) (hn : n < 16) :
    max (MX s n) ((Finset.univ : Finset (Fin 1024)).fold max ⊥ fun t => s (key n hn t)) = MX s (n + 1) := by
  rw [MX, MX, pre_succ n hn, Finset.sup_union, tile, Finset.sup_map]
  rfl

/-- A nonnegative real factor goes into a finite sum of extended reals. -/
theorem mul_sum_of_real {ι : Type} (K : Finset ι) (c : EReal) (h0 : 0 ≤ c) (ht : c ≠ ⊤) (f : ι → EReal) :
    c * ∑ j ∈ K, f j = ∑ j ∈ K, c * f j := by
  classical
  induction K using Finset.induction_on with
  | empty => simp
  | insert a K ha ih =>
    rw [Finset.sum_insert ha, Finset.sum_insert ha, EReal.left_distrib_of_nonneg_of_ne_top h0 ht, ih]

/-- A power of two is nonnegative. -/
theorem exp2_nonneg (x : EReal) : 0 ≤ Ideal.exp2 x := by
  induction x with
  | bot => simp
  | top => simp
  | coe r => rw [Ideal.exp2_coe]; exact EReal.coe_nonneg.2 (Real.rpow_nonneg (by norm_num) r)

/-- A power of two of anything but +∞ is real. -/
theorem exp2_ne_top {x : EReal} (h : x ≠ ⊤) : Ideal.exp2 x ≠ ⊤ := by
  induction x with
  | bot => simp
  | top => exact absurd rfl h
  | coe r => rw [Ideal.exp2_coe]; exact EReal.coe_ne_top _

/-- Two rescalings in a row are one. -/
theorem exp2_shift {M M' x : EReal} (hM : M ≠ ⊤) (hM0 : M ≠ ⊥) (hM' : M' ≠ ⊤) (hM'0 : M' ≠ ⊥) (hx : x ≠ ⊤) :
    Ideal.exp2 (M - M') * Ideal.exp2 (x - M) = Ideal.exp2 (x - M') := by
  induction M with
  | bot => exact absurd rfl hM0
  | top => exact absurd rfl hM
  | coe a =>
  induction M' with
  | bot => exact absurd rfl hM'0
  | top => exact absurd rfl hM'
  | coe b =>
  induction x with
  | top => exact absurd rfl hx
  | bot => rw [EReal.bot_sub, EReal.bot_sub, Ideal.exp2_bot, mul_zero]
  | coe c =>
    rw [← EReal.coe_sub, ← EReal.coe_sub, ← EReal.coe_sub, Ideal.exp2_coe, Ideal.exp2_coe, Ideal.exp2_coe,
      ← EReal.coe_mul]
    congr 1
    have := Real.rpow_add (x := 2) (by norm_num) (a - b) (c - a)
    change Real.rpow 2 _ * Real.rpow 2 _ = Real.rpow 2 _
    have h : (a - b) + (c - a) = c - b := by ring
    rw [h] at this
    exact this.symm

/-- A finite supremum of scores below +∞ is below +∞. -/
theorem sup_ne_top (hs : ∀ j, s j ≠ ⊤) (K : Finset (Fin 16384)) : K.sup s ≠ ⊤ := by
  have : K.sup s < ⊤ := (Finset.sup_lt_iff (by exact bot_lt_top)).2 fun j _ => lt_of_le_of_ne le_top (hs j)
  exact this.ne

/-- Rescaling a weighted sum from the largest score of its keys to another real reference point. -/
theorem rescale (hs : ∀ j, s j ≠ ⊤) (K : Finset (Fin 16384)) {M' : EReal} (hM' : M' ≠ ⊤) (hM'0 : M' ≠ ⊥) :
    Ideal.exp2 (K.sup s - M') * ∑ j ∈ K, Ideal.exp2 (s j - K.sup s) * v j = ∑ j ∈ K, Ideal.exp2 (s j - M') * v j := by
  have hT := sup_ne_top s hs K
  by_cases hB : K.sup s = ⊥
  · rw [hB, EReal.bot_sub, Ideal.exp2_bot, zero_mul]
    refine (Finset.sum_eq_zero fun j hj => ?_).symm
    have : s j = ⊥ := by
      have := Finset.le_sup (f := s) hj
      rw [hB] at this; exact le_bot_iff.1 this
    rw [this, EReal.bot_sub, Ideal.exp2_bot, zero_mul]
  · have hne : K.sup s - M' ≠ ⊤ := by
      generalize K.sup s = M at *
      induction M with
      | bot => exact absurd rfl hB
      | top => exact absurd rfl hT
      | coe a =>
      induction M' with
      | bot => exact absurd rfl hM'0
      | top => exact absurd rfl hM'
      | coe b => rw [← EReal.coe_sub]; exact EReal.coe_ne_top _
    rw [mul_sum_of_real K _ (exp2_nonneg _) (exp2_ne_top hne)]
    refine Finset.sum_congr rfl fun j _ => ?_
    rw [← mul_assoc, exp2_shift hT hB hM' hM'0 (hs j)]

/-- One tile's update of the weighted sum. -/
theorem AC_succ (hs : ∀ j, s j ≠ ⊤) (n : ℕ) (hn : n < 16) (h0 : MX s (n + 1) ≠ ⊥) :
    Ideal.exp2 (MX s n - MX s (n + 1)) * AC s v n
      + ∑ t : Fin 1024, Ideal.exp2 (s (key n hn t) - MX s (n + 1)) * v (key n hn t) = AC s v (n + 1) := by
  have hT : MX s (n + 1) ≠ ⊤ := sup_ne_top s hs _
  rw [AC, AC, MX, rescale s v hs _ hT h0, pre_succ n hn, Finset.sum_union (pre_disjoint n hn), tile, Finset.sum_map]
  rfl

/-- Key zero is in every tile prefix but the empty one, so a visible key zero keeps the largest score off −∞. -/
theorem MX_succ_ne_bot (h0 : s 0 ≠ ⊥) (n : ℕ) : MX s (n + 1) ≠ ⊥ := by
  intro h
  have : s 0 ≤ MX s (n + 1) := Finset.le_sup (f := s) (by simp [pre])
  rw [h] at this; exact h0 (le_bot_iff.1 this)

/-- The largest score of all keys. -/
def top : EReal := (Finset.univ : Finset (Fin 16384)).sup s

/-- Past the last visible tile nothing changes: the largest score of a prefix is that of all keys. -/
theorem MX_all (n : ℕ) (hv : ∀ j : Fin 16384, n * 1024 ≤ j.val → s j = ⊥) : MX s n = top s := by
  refine le_antisymm (Finset.sup_mono (Finset.subset_univ _)) (Finset.sup_le fun j _ => ?_)
  by_cases h : j.val < n * 1024
  · exact Finset.le_sup (f := s) (by simp [pre, h])
  · rw [hv j (by omega)]; exact bot_le

/-- … and the weighted sum of a prefix is that over all keys. -/
theorem AC_all (n : ℕ) (hv : ∀ j : Fin 16384, n * 1024 ≤ j.val → s j = ⊥) :
    AC s v n = ∑ j, Ideal.exp2 (s j - top s) * v j := by
  rw [AC, MX_all s n hv]
  refine Finset.sum_subset (Finset.subset_univ _) fun j _ hj => ?_
  have : n * 1024 ≤ j.val := by simpa [pre] using hj
  rw [hv j this, EReal.bot_sub, Ideal.exp2_bot, zero_mul]

/-- A power of two is positive for a real exponent. -/
theorem exp2_pos {x : EReal} (hx : x ≠ ⊥) : 0 < Ideal.exp2 x := by
  induction x with
  | bot => exact absurd rfl hx
  | top => simp
  | coe r => rw [Ideal.exp2_coe]; exact EReal.coe_pos.2 (Real.rpow_pos_of_pos (by norm_num) r)

/-- The weights' sum is positive and real. -/
theorem weights_pos (hs : ∀ j, s j ≠ ⊤) (h0 : s 0 ≠ ⊥) :
    0 < ∑ j, Ideal.exp2 (s j - top s) ∧ ∑ j, Ideal.exp2 (s j - top s) ≠ ⊤ := by
  have hT : top s ≠ ⊤ := sup_ne_top s hs _
  have hB : top s ≠ ⊥ := by
    intro h
    have : s 0 ≤ top s := Finset.le_sup (f := s) (Finset.mem_univ _)
    rw [h] at this; exact h0 (le_bot_iff.1 this)
  have hsub : ∀ j, s j - top s ≠ ⊤ := by
    intro j
    have := hs j
    generalize top s = M at *
    generalize s j = x at *
    induction M with
    | bot => exact absurd rfl hB
    | top => exact absurd rfl hT
    | coe a =>
    induction x with
    | top => exact absurd rfl this
    | bot => rw [EReal.bot_sub]; exact bot_ne_top
    | coe b => rw [← EReal.coe_sub]; exact EReal.coe_ne_top _
  have hsub0 : s 0 - top s ≠ ⊥ := by
    have := hs 0
    generalize top s = M at *
    generalize s 0 = x at *
    induction M with
    | bot => exact absurd rfl hB
    | top => exact absurd rfl hT
    | coe a =>
    induction x with
    | top => exact absurd rfl this
    | bot => exact absurd rfl h0
    | coe b => rw [← EReal.coe_sub]; exact EReal.coe_ne_bot _
  constructor
  · refine lt_of_lt_of_le (exp2_pos hsub0) ?_
    exact Finset.single_le_sum (f := fun j => Ideal.exp2 (s j - top s)) (fun j _ => exp2_nonneg _) (Finset.mem_univ 0)
  · have : ∀ K : Finset (Fin 16384), ∑ j ∈ K, Ideal.exp2 (s j - top s) ≠ ⊤ := by
      intro K
      induction K using Finset.induction_on with
      | empty => simp
      | insert a K ha ih =>
        rw [Finset.sum_insert ha]; exact EReal.add_ne_top (exp2_ne_top (hsub a)) ih
    exact this _

/-- The softmax-weighted mean over all keys, each weight normalised by the sum of the weights first. -/
def soft : EReal := ∑ j, v j * Ideal.div (Ideal.exp2 (s j - top s)) (∑ i, Ideal.exp2 (s i - top s))

/-- The running state divided by its own sum of weights (a value lane of ones) is the softmax-weighted mean. -/
theorem final (hs : ∀ j, s j ≠ ⊤) (h0 : s 0 ≠ ⊥) (n : ℕ) (hv : ∀ j : Fin 16384, n * 1024 ≤ j.val → s j = ⊥)
    (w : Fin 16384 → EReal) (hw : ∀ j, w j = 1) : Ideal.div (AC s v n) (AC s w n) = soft s v := by
  obtain ⟨hp, ht⟩ := weights_pos s hs h0
  rw [AC_all s v n hv, AC_all s w n hv]
  simp only [hw, mul_one, soft]
  generalize (∑ j, Ideal.exp2 (s j - top s)) = L at *
  simp only [Ideal.div, if_neg hp.ne']
  have hi : (0 : EReal) ≤ L⁻¹ := EReal.inv_nonneg_of_nonneg hp.le
  have hi' : L⁻¹ ≠ ⊤ := by
    induction L with
    | bot => simp
    | top => simp
    | coe r =>
      rw [← EReal.coe_inv]; exact EReal.coe_ne_top _
  rw [mul_comm, mul_sum_of_real _ _ hi hi']
  refine Finset.sum_congr rfl fun j _ => ?_
  rw [← mul_assoc, mul_comm L⁻¹, mul_comm (v j)]

end Cert.Soft

end
-- ==== Proof.Spec.lean ====
/- The attention as a function of the flat arrays: masked scores of a head, values of a lane, and the weighted mean. -/
module

public import proofs.«01_k».proof.Proof.Softmax

@[expose] public section

noncomputable section

namespace Cert.Soft

open Idealize.ShloMosaic

variable (Q K V : Fin 16384 → Fin 2048 → EReal)

/-- The scores of query `R` in head `h`: the product of the two 128-lane rows, −∞ for a key in a later chunk of 64. -/
def gsc (R : Fin 16384) (h : ℕ) (hh : h < 16) (j : Fin 16384) : EReal :=
  if j.val / 64 ≤ R.val / 64 then
    ∑ d : Fin 128, Q R (⟨h * 128 + d.val, by have := d.isLt; omega⟩ : Fin 2048) * K j (⟨h * 128 + d.val, by have := d.isLt; omega⟩ : Fin 2048)
  else ⊥

/-- The flat lane that holds the value of result lane `C`: the first 64 of an even head's 128, the last 64 of an odd head's. -/
def vlane (C : Fin 1024) : Fin 2048 :=
  ⟨C.val / 64 * 128 + C.val / 64 % 2 * 64 + C.val % 64, by have := C.isLt; omega⟩

/-- The attention's result at row `R`, lane `C`. -/
def attn (R : Fin 16384) (C : Fin 1024) : EReal :=
  soft (gsc Q K R (C.val / 64) (by have := C.isLt; omega)) (fun j => V j (vlane C))

end Cert.Soft

end
-- ==== Proof.Payload.lean ====
/- What the kernel's arithmetic computes at an index: a tile's scores, the chunk mask of the diagonal tile, and one
   tile's update of a head's running maximum and weighted sum. -/
module

public import proofs.«01_k».proof.Proof.Gen.KernelIdeal.Skeleton
public import proofs.«01_k».proof.Proof.Softmax
public import Idealize.ShloMosaic.Lib.Pipeline.ValueKit

@[expose] public section

set_option maxRecDepth 16384

noncomputable section

namespace Cert.KernelIdeal.Hand

open Idealize.ShloMosaic Idealize.ShloMosaic.TcCoe Cert.KernelIdeal Cert.KernelIdeal.Gen

/-- The new running maximum of a head, from a tile's scores and the old one. -/
def smM (sc : FVec Ideal S1024x1024 .f32) (m : FVec Ideal S1x1024x128 .f32) : FVec Ideal S1024x128 .f32 :=
  k0_pay44 (k0_pay2 m) (broadcastTo S1024x128 (shapeCast S1024x1 (multiReduction .maximumf [1] S1024 sc 0xFF800000#32 reduces_S1024x1024_S1024 (.inl rfl) rfl) shapeCasts_S1024_S1024x1) broadcasts_S1024x1_S1024x128)

/-- The new weighted sum of a head, from a tile's scores and values and the old state. -/
def smA (sc : FVec Ideal S1024x1024 .f32) (m a : FVec Ideal S1x1024x128 .f32) (v : FVec Ideal S1024x128 .bf16) :
    FVec Ideal S1x1024x128 .f32 :=
  k0_pay45 sc (k0_pay2 m) (broadcastTo S1024x128 (shapeCast S1024x1 (multiReduction .maximumf [1] S1024 sc 0xFF800000#32 reduces_S1024x1024_S1024 (.inl rfl) rfl) shapeCasts_S1024_S1024x1) broadcasts_S1024x1_S1024x128) a v

/-- The diagonal tile's scores: those of keys in later chunks are −∞. -/
def masked (sc : FVec Ideal S1024x1024 .f32) : FVec Ideal S1024x1024 .f32 :=
  k0_pay70 sc k0_pay67 k0_pay68 k0_pay69

/-- The pattern of −∞ denotes −∞. -/
theorem ofBits_negInf : Ideal.ofBits .f32 0xFF800000#32 = (⊥ : EReal) := by
  simp [Ideal.ofBits, Ideal.ieee]

/-- A tile's scores are the dot products of its query rows with its key rows. -/
theorem pay1_at (q k : FVec Ideal S1024x128 .bf16) (r t : Fin 1024) :
    k0_pay1 (F := Ideal) q k (ix2 r t) = ∑ d : Fin 128, q (ix2 r d) * k (ix2 t d) := by
  pointwise [k0_pay1]

/-- The new running maximum at an index. -/
theorem smM_at (sc : FVec Ideal S1024x1024 .f32) (m : FVec Ideal S1x1024x128 .f32) (r : Fin 1024) (c : Fin 128) :
    smM sc m (ix2 r c) = max (m (ix3 0 r c)) (Finset.univ.fold max ⊥ fun t : Fin 1024 => sc (ix2 r t)) := by
  rw [← ofBits_negInf]
  pointwise [smM, k0_pay44, k0_pay2]

/-- Eight copies of a row side by side hold what the row holds. -/
theorem cat8_at (x : FVec Ideal S1024x128 .f32) (r : Fin 1024) (M : EReal) (hM : ∀ c, x (ix2 r c) = M) (t : Fin 1024) :
    concatenate S1024x1024 1 [⟨S1024x128, x⟩, ⟨S1024x128, x⟩, ⟨S1024x128, x⟩, ⟨S1024x128, x⟩, ⟨S1024x128, x⟩, ⟨S1024x128, x⟩, ⟨S1024x128, x⟩, ⟨S1024x128, x⟩] concatenates_S1024x128_S1024x128_S1024x128_S1024x128_S1024x128_S1024x128_S1024x128_S1024x128_S1024x1024_d1 (ix2 r t) = M := by
  pointwise []
  simp only [hM, dite_eq_ite, ite_self]

/-- One tile's update of a weighted sum at an index, where the row's new maximum is `M` in every lane. -/
theorem pay45_at (sc : FVec Ideal S1024x1024 .f32) (mm mx : FVec Ideal S1024x128 .f32) (a : FVec Ideal S1x1024x128 .f32)
    (v : FVec Ideal S1024x128 .bf16) (r : Fin 1024) (c : Fin 128) (M : EReal)
    (hM : ∀ c, k0_pay44 (F := Ideal) mm mx (ix2 r c) = M) :
    k0_pay45 (F := Ideal) sc mm mx a v (ix3 0 r c)
      = Ideal.exp2 (mm (ix2 r c) - M) * a (ix3 0 r c) + ∑ t : Fin 1024, Ideal.exp2 (sc (ix2 r t) - M) * v (ix2 t c) := by
  unfold k0_pay45
  have hc := cat8_at _ r M hM
  generalize k0_pay44 (F := Ideal) mm mx = X at *
  generalize concatenate S1024x1024 1 _ _ = Y at *
  pointwise []
  simp only [hM, hc]
  rfl

/-- The same of the running state: old maximum `m`, old sum `a`. -/
theorem smA_at (sc : FVec Ideal S1024x1024 .f32) (m a : FVec Ideal S1x1024x128 .f32) (v : FVec Ideal S1024x128 .bf16) (r : Fin 1024) (c : Fin 128)
    (M : EReal) (hM : ∀ c, smM sc m (ix2 r c) = M) :
    smA sc m a v (ix3 0 r c)
      = Ideal.exp2 (m (ix3 0 r c) - M) * a (ix3 0 r c) + ∑ t : Fin 1024, Ideal.exp2 (sc (ix2 r t) - M) * v (ix2 t c) := by
  unfold smA
  rw [pay45_at _ _ _ _ _ r c M hM]
  congr 3
  pointwise [k0_pay2]

/-- The program's floor division of a place in a tile by the chunk's 64. -/
def chunkWord (x : BitVec 32) : BitVec 32 :=
  Scalar.select (IntOp.andi
            (IntOp.cmpi CmpIPredicate.ne
              (IntOp.subi
                (BitVec.setWidth 32 (IntOp.cmpi CmpIPredicate.sgt x 0#32))
                (BitVec.setWidth 32 (IntOp.cmpi CmpIPredicate.slt x 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector x 64#32)
              0#32))
          (IntOp.subi (IntOp.divsi ArithUnit.vector x 64#32) 1#32)
          (IntOp.divsi ArithUnit.vector x 64#32)

/-- It is the quotient. -/
theorem chunkWord_eq : ∀ t : Fin 1024, chunkWord (BitVec.ofNat 32 t.val) = BitVec.ofNat 32 (t.val / 64) := by
  decide +kernel

/-- Signed comparison of the words of two chunk numbers is comparison of the numbers. -/
theorem chunk_le : ∀ a b : Fin 16, IntOp.cmpi CmpIPredicate.sle (BitVec.ofNat 32 a.val) (BitVec.ofNat 32 b.val)
    = BitVec.ofBool (decide (a.val ≤ b.val)) := by decide +kernel

/-- The diagonal tile's scores at an index. -/
theorem masked_at (sc : FVec Ideal S1024x1024 .f32) (r t : Fin 1024) :
    masked sc (ix2 r t) = if t.val / 64 ≤ r.val / 64 then sc (ix2 r t) else ⊥ := by
  have hl := chunk_le ⟨t.val / 64, by have := t.isLt; omega⟩ ⟨r.val / 64, by have := r.isLt; omega⟩
  simp only [← chunkWord_eq t, ← chunkWord_eq r] at hl
  pointwise [masked, k0_pay70, k0_pay67, k0_pay68, k0_pay69]
  have ha : IntOp.addi (BitVec.ofNat 32 t.val) 0#32 = BitVec.ofNat 32 t.val := by simp [IntOp.addi]
  rw [ha, ofBits_negInf]
  unfold chunkWord at hl
  rw [hl]
  by_cases h : t.val / 64 ≤ r.val / 64
  · simp [h, Scalar.select]
  · simp [h, Scalar.select]

end Cert.KernelIdeal.Hand

end
-- ==== Proof.Trip.lean ====
/- What one trip of the loop over full key tiles leaves of the running state, as updates of what it found. -/
module

public import proofs.«01_k».proof.Proof.Gen.KernelIdeal.Value
public import proofs.«01_k».proof.Proof.Payload
public import Idealize.ShloMosaic.Lib.Pipeline.ReadBack

@[expose] public section

set_option maxRecDepth 16384

noncomputable section

namespace Cert.KernelIdeal.Hand

open Idealize.ShloMosaic Idealize.ShloMosaic.TcCoe Cert.KernelIdeal Cert.KernelIdeal.Gen

/-- A head's share of a running state: its slab. -/
abbrev slab0 : LoadRect S2x1024x128 := (Rect.unit (s := S2x1024x128) ![0, 0, 0] S1x1024x128.size inb_S2x1024x128_S1x1024x128_0_0_0).toLoadRect
/-- The second head's slab. -/
abbrev slab1 : LoadRect S2x1024x128 := (Rect.unit (s := S2x1024x128) ![1, 0, 0] S1x1024x128.size inb_S2x1024x128_S1x1024x128_1_0_0).toLoadRect

/-- A head's new running maximum, as stored. -/
def nextM (sc : FVec Ideal S1024x1024 .f32) (m : FVec Ideal S1x1024x128 .f32) : FVec Ideal S1x1024x128 .f32 :=
  shapeCast S1x1024x128 (smM sc m) shapeCasts_S1024x128_S1x1024x128

/-- A tile of 1024 rows and one head's 128 lanes of a key or value block. -/
abbrev tileOf (arg : Memref sig .tc .vmem S16384x256 .bf16) (X : BufTy.Contents (Elt Ideal) arg.view.ty) (off : Fin 2 → Nat)
    (h : ∀ a, off a + S1024x128.size a ≤ S16384x256.size a) : FVec Ideal S1024x128 .bf16 :=
  arg.view.readAt (Elt Ideal) (Rect.unit (s := S16384x256) off S1024x128.size h).toLoadRect X

/-- The first head's queries. -/
abbrev qry0 (arg : Memref sig .tc .vmem S1024x256 .bf16) (X : BufTy.Contents (Elt Ideal) arg.view.ty) : FVec Ideal S1024x128 .bf16 :=
  arg.view.readAt (Elt Ideal) (Rect.unit (s := S1024x256) ![0, 0] S1024x128.size inb_S1024x256_S1024x128_0_0).toLoadRect X
/-- The second head's queries. -/
abbrev qry1 (arg : Memref sig .tc .vmem S1024x256 .bf16) (X : BufTy.Contents (Elt Ideal) arg.view.ty) : FVec Ideal S1024x128 .bf16 :=
  arg.view.readAt (Elt Ideal) (Rect.unit (s := S1024x256) ![0, 128] S1024x128.size inb_S1024x256_S1024x128_0_128).toLoadRect X

section
variable (𝒱 : Variants) (c : Dev nD) (bd : Option 𝒱.V) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1024x128 .bf16) (harg5 : arg5.IsWhole) (arg6 : Memref sig .tc .vmem S2x1024x128 .f32) (harg6 : arg6.IsWhole) (arg7 : Memref sig .tc .vmem S2x1024x128 .f32) (harg7 : arg7.IsWhole) (X2 : BufTy.Contents (Elt Ideal) arg2.view.ty) (X3 : BufTy.Contents (Elt Ideal) arg3.view.ty) (X4 : BufTy.Contents (Elt Ideal) arg4.view.ty)
  (k : Fin (k0_t1_loop i).trips) (L6 L7 : List (View.Piece (Elt Ideal) S2x1024x128 .f32))

/-- The pieces one trip writes over the pieces already there. -/
abbrev tripOut := tripL_k0_t1 (F := Ideal) 𝒱 c bd i arg2 harg2 arg3 harg3 arg4 harg4 arg5 harg5 arg6 harg6 arg7 harg7 X2 X3 X4 k (arg6.view.writes (Elt Ideal) arg6.view.junk L6) (arg7.view.writes (Elt Ideal) arg7.view.junk L7)

variable (h1 : ∀ a, k0_off1 i k a + S1024x128.size a ≤ S16384x256.size a) (h2 : ∀ a, k0_off2 i k a + S1024x128.size a ≤ S16384x256.size a)
  (h3 : ∀ a, k0_off3 i k a + S1024x128.size a ≤ S16384x256.size a) (h4 : ∀ a, k0_off4 i k a + S1024x128.size a ≤ S16384x256.size a)

/-- The first head's maximum after a trip. -/
theorem trip_m0 :
    arg6.view.readCov ((tripOut 𝒱 c bd i arg2 harg2 arg3 harg3 arg4 harg4 arg5 harg5 arg6 harg6 arg7 harg7 X2 X3 X4 k L6 L7).1 ++ L6) slab0
      = nextM (k0_pay1 (qry0 arg2 X2) (tileOf arg3 X3 _ h3)) (nextM (k0_pay1 (qry0 arg2 X2) (tileOf arg3 X3 _ h1)) (arg6.view.readCov L6 slab0)) := by
  unfold tripOut tripL_k0_t1 trip_k0_t1
  dsimp only
  unfold trip_k0_t1.sl.HW_arg6_3
  rw [List.cons_append, View.readCov_skip _ _ _ _ _ (by decide), List.cons_append, View.readCov_cons_toLoadRect]
  unfold trip_k0_t1.sl.v301 trip_k0_t1.sl.HW_arg6_2
  rw [View.readCov_skip _ _ _ _ _ (by decide), View.readCov_cons_toLoadRect]
  rfl

/-- The second head's maximum after a trip. -/
theorem trip_m1 :
    arg6.view.readCov ((tripOut 𝒱 c bd i arg2 harg2 arg3 harg3 arg4 harg4 arg5 harg5 arg6 harg6 arg7 harg7 X2 X3 X4 k L6 L7).1 ++ L6) slab1
      = nextM (k0_pay1 (qry1 arg2 X2) (tileOf arg3 X3 _ h4)) (nextM (k0_pay1 (qry1 arg2 X2) (tileOf arg3 X3 _ h2)) (arg6.view.readCov L6 slab1)) := by
  unfold tripOut tripL_k0_t1 trip_k0_t1
  dsimp only
  rw [List.cons_append, View.readCov_cons_toLoadRect]
  unfold trip_k0_t1.sl.r_4 trip_k0_t1.sl.v330 trip_k0_t1.sl.HW_arg6_3
  rw [View.readCov_skip _ _ _ _ _ (by decide)]
  unfold trip_k0_t1.sl.HW_arg6_2
  rw [View.readCov_cons_toLoadRect]
  rfl

/-- The first head's weighted sum after a trip. -/
theorem trip_a0 :
    arg7.view.readCov ((tripOut 𝒱 c bd i arg2 harg2 arg3 harg3 arg4 harg4 arg5 harg5 arg6 harg6 arg7 harg7 X2 X3 X4 k L6 L7).2 ++ L7) slab0
      = smA (k0_pay1 (qry0 arg2 X2) (tileOf arg3 X3 _ h3)) (nextM (k0_pay1 (qry0 arg2 X2) (tileOf arg3 X3 _ h1)) (arg6.view.readCov L6 slab0))
          (smA (k0_pay1 (qry0 arg2 X2) (tileOf arg3 X3 _ h1)) (arg6.view.readCov L6 slab0) (arg7.view.readCov L7 slab0) (tileOf arg4 X4 _ h1)) (tileOf arg4 X4 _ h3) := by
  unfold tripOut tripL_k0_t1 trip_k0_t1
  dsimp only
  unfold trip_k0_t1.sl.HW_arg7_3
  rw [List.cons_append, View.readCov_skip _ _ _ _ _ (by decide), List.cons_append, View.readCov_cons_toLoadRect]
  unfold trip_k0_t1.sl.v301 trip_k0_t1.sl.v312 trip_k0_t1.sl.HW_arg6_2 trip_k0_t1.sl.HW_arg7_2
  rw [View.readCov_skip _ _ _ _ _ (by decide), View.readCov_cons_toLoadRect, View.readCov_skip _ _ _ _ _ (by decide), View.readCov_cons_toLoadRect]
  rfl

/-- The second head's weighted sum after a trip. -/
theorem trip_a1 :
    arg7.view.readCov ((tripOut 𝒱 c bd i arg2 harg2 arg3 harg3 arg4 harg4 arg5 harg5 arg6 harg6 arg7 harg7 X2 X3 X4 k L6 L7).2 ++ L7) slab1
      = smA (k0_pay1 (qry1 arg2 X2) (tileOf arg3 X3 _ h4)) (nextM (k0_pay1 (qry1 arg2 X2) (tileOf arg3 X3 _ h2)) (arg6.view.readCov L6 slab1))
          (smA (k0_pay1 (qry1 arg2 X2) (tileOf arg3 X3 _ h2)) (arg6.view.readCov L6 slab1) (arg7.view.readCov L7 slab1) (tileOf arg4 X4 _ h2)) (tileOf arg4 X4 _ h4) := by
  unfold tripOut tripL_k0_t1 trip_k0_t1
  dsimp only
  rw [List.cons_append, View.readCov_cons_toLoadRect]
  unfold trip_k0_t1.sl.r_4 trip_k0_t1.sl.v330 trip_k0_t1.sl.v341 trip_k0_t1.sl.HW_arg6_3 trip_k0_t1.sl.HW_arg7_3
  rw [View.readCov_skip _ _ _ _ _ (by decide), View.readCov_skip _ _ _ _ _ (by decide)]
  unfold trip_k0_t1.sl.HW_arg6_2 trip_k0_t1.sl.HW_arg7_2
  rw [View.readCov_cons_toLoadRect, View.readCov_cons_toLoadRect]
  rfl

end

end Cert.KernelIdeal.Hand

end
-- ==== Proof.State.lean ====
/- The running state of a head after `n` key tiles, and that one tile's update carries it on. -/
module

public import proofs.«01_k».proof.Proof.Trip

@[expose] public section

set_option maxRecDepth 16384

noncomputable section

namespace Cert.KernelIdeal.Hand

open Idealize.ShloMosaic Idealize.ShloMosaic.TcCoe Cert.KernelIdeal Cert.KernelIdeal.Gen Cert.Soft

/-- The state of a head after `n` tiles: per row the largest score (in every lane) and per lane the weighted sum. -/
def Good (s : Fin 1024 → Fin 16384 → EReal) (v : Fin 128 → Fin 16384 → EReal) (n : ℕ) (m a : FVec Ideal S1x1024x128 .f32) : Prop :=
  ∀ r c, m (ix3 0 r c) = MX (s r) n ∧ a (ix3 0 r c) = AC (s r) (v c) n

/-- The stored maximum at an index. -/
theorem nextM_at (sc : FVec Ideal S1024x1024 .f32) (m : FVec Ideal S1x1024x128 .f32) (r : Fin 1024) (c : Fin 128) :
    nextM sc m (ix3 0 r c) = smM sc m (ix2 r c) := by
  unfold nextM
  generalize smM sc m = X
  pointwise []

/-- One tile carries the state on. -/
theorem good_step {s : Fin 1024 → Fin 16384 → EReal} {v : Fin 128 → Fin 16384 → EReal} {n : ℕ} {m a : FVec Ideal S1x1024x128 .f32}
    (h : Good s v n m a) (hn : n < 16) (hs : ∀ r j, s r j ≠ ⊤) (h0 : ∀ r, s r 0 ≠ ⊥)
    (sc : FVec Ideal S1024x1024 .f32) (vt : FVec Ideal S1024x128 .bf16)
    (hsc : ∀ r t, sc (ix2 r t) = s r (key n hn t)) (hv : ∀ t c, vt (ix2 t c) = v c (key n hn t)) :
    Good s v (n + 1) (nextM sc m) (smA sc m a vt) := by
  have hM : ∀ r c, smM sc m (ix2 r c) = MX (s r) (n + 1) := fun r c => by
    rw [smM_at, (h r c).1, ← MX_succ (s r) n hn]
    simp only [hsc]
  intro r c
  refine ⟨by rw [nextM_at, hM], ?_⟩
  rw [smA_at sc m a vt r c _ (hM r), (h r c).1, (h r c).2, ← AC_succ (s r) (v c) (hs r) n hn (MX_succ_ne_bot (s r) (h0 r) n)]
  simp only [hsc, hv]

/-- What the kernel first fills the maximum with. -/
abbrev init6 : List (View.Piece (Elt Ideal) S2x1024x128 .f32) := [⟨Rect.unit (s := S2x1024x128) ![0, 0, 0] S2x1024x128.size inb_S2x1024x128_S2x1024x128_0_0_0, k0_pay42 (F := Ideal)⟩]
/-- What the kernel first fills the weighted sums with. -/
abbrev init7 : List (View.Piece (Elt Ideal) S2x1024x128 .f32) := [⟨Rect.unit (s := S2x1024x128) ![0, 0, 0] S2x1024x128.size inb_S2x1024x128_S2x1024x128_0_0_0, k0_pay43 (F := Ideal)⟩]

/-- The fill of the maximum is −∞ everywhere. -/
theorem pay42_at (x : S2x1024x128.Idx) : k0_pay42 (F := Ideal) x = (⊥ : EReal) := ofBits_negInf

/-- The fill of the sums is zero everywhere. -/
theorem pay43_at (x : S2x1024x128.Idx) : k0_pay43 (F := Ideal) x = (0 : EReal) := by
  show Ideal.ofBits .f32 0x00000000#32 = (0 : EReal)
  simp [Ideal.ofBits, Ideal.ieee]

/-- The first head before the first tile. -/
theorem good_init0 (s : Fin 1024 → Fin 16384 → EReal) (v : Fin 128 → Fin 16384 → EReal) (arg6 arg7 : Memref sig .tc .vmem S2x1024x128 .f32) :
    Good s v 0 (arg6.view.readCov init6 slab0) (arg7.view.readCov init7 slab0) := by
  intro r c
  rw [View.readCov_fill _ _ _ _ _ (by decide), View.readCov_fill _ _ _ _ _ (by decide), MX_zero, AC_zero]
  exact ⟨pay42_at _, pay43_at _⟩

/-- The second head before the first tile. -/
theorem good_init1 (s : Fin 1024 → Fin 16384 → EReal) (v : Fin 128 → Fin 16384 → EReal) (arg6 arg7 : Memref sig .tc .vmem S2x1024x128 .f32) :
    Good s v 0 (arg6.view.readCov init6 slab1) (arg7.view.readCov init7 slab1) := by
  intro r c
  rw [View.readCov_fill _ _ _ _ _ (by decide), View.readCov_fill _ _ _ _ _ (by decide), MX_zero, AC_zero]
  exact ⟨pay42_at _, pay43_at _⟩

/-- The dot product of a query row and a key row, of the head whose lanes start at `e`. -/
def qk (x0 : FVec Ideal S1024x256 .bf16) (x1 : FVec Ideal S16384x256 .bf16) (e : ℕ) (he : e + 128 ≤ 256) (r : Fin 1024) (j : Fin 16384) : EReal :=
  ∑ d : Fin 128, x0 (ix2 r (⟨e + d.val, by have := d.isLt; omega⟩ : Fin 256)) * x1 (ix2 j (⟨e + d.val, by have := d.isLt; omega⟩ : Fin 256))

/-- The scores of query block `i`: −∞ for keys in chunks after the query's. -/
def sco (x0 : FVec Ideal S1024x256 .bf16) (x1 : FVec Ideal S16384x256 .bf16) (i e : ℕ) (he : e + 128 ≤ 256) (r : Fin 1024) (j : Fin 16384) : EReal :=
  if j.val / 64 ≤ (i * 1024 + r.val) / 64 then qk x0 x1 e he r j else ⊥

/-- The values of the head whose lanes start at `e`. -/
def val (x2 : FVec Ideal S16384x256 .bf16) (e : ℕ) (he : e + 128 ≤ 256) (c : Fin 128) (j : Fin 16384) : EReal :=
  x2 (ix2 j (⟨e + c.val, by have := c.isLt; omega⟩ : Fin 256))

/-- A tile of a key or value block at an index. -/
theorem tileOf_at (arg : Memref sig .tc .vmem S16384x256 .bf16) (harg : arg.IsWhole) (x : Vec Ideal S16384x256 .bf16) (off : Fin 2 → Nat)
    (h : ∀ a, off a + S1024x128.size a ≤ S16384x256.size a) (n e : ℕ) (hn : n < 16) (he : e + 128 ≤ 256) (ho : off = ![n * 1024, e])
    (t : Fin 1024) (d : Fin 128) :
    tileOf arg (harg.unread x) off h (ix2 t d) = x (ix2 (key n hn t) (⟨e + d.val, by have := d.isLt; omega⟩ : Fin 256)) := by
  subst ho
  unfold tileOf
  rw [View.readAt_apply, harg.read_unread]
  congr 1
  funext a
  refine Fin.ext ?_
  fin_cases a
  · show n * 1024 + 1 * t.val = n * 1024 + t.val
    omega
  · show e + 1 * d.val = e + d.val
    omega

/-- The first head's queries at an index. -/
theorem qry0_at (arg : Memref sig .tc .vmem S1024x256 .bf16) (harg : arg.IsWhole) (x : Vec Ideal S1024x256 .bf16) (r : Fin 1024) (d : Fin 128) :
    qry0 arg (harg.unread x) (ix2 r d) = x (ix2 r (⟨0 + d.val, by have := d.isLt; omega⟩ : Fin 256)) := by
  unfold qry0
  rw [View.readAt_apply, harg.read_unread]
  congr 1
  funext a
  refine Fin.ext ?_
  fin_cases a
  · show 0 + 1 * r.val = r.val
    omega
  · show 0 + 1 * d.val = 0 + d.val
    omega

/-- The second head's queries at an index. -/
theorem qry1_at (arg : Memref sig .tc .vmem S1024x256 .bf16) (harg : arg.IsWhole) (x : Vec Ideal S1024x256 .bf16) (r : Fin 1024) (d : Fin 128) :
    qry1 arg (harg.unread x) (ix2 r d) = x (ix2 r (⟨128 + d.val, by have := d.isLt; omega⟩ : Fin 256)) := by
  unfold qry1
  rw [View.readAt_apply, harg.read_unread]
  congr 1
  funext a
  refine Fin.ext ?_
  fin_cases a
  · show 0 + 1 * r.val = r.val
    omega
  · show 128 + 1 * d.val = 128 + d.val
    omega

/-! ### The loops' trip counts and the tiles' places, at every grid point -/

theorem trips1 : ∀ t : Fin cfg0.N, (k0_t1_loop (grid0.coords t)).trips = t.val % 16 / 2 :=
  (by decide +kernel : ∀ t : Fin grid0.N, (k0_t1_loop (grid0.coords t)).trips = t.val % 16 / 2)

theorem off1 : ∀ (t : Fin cfg0.N) (k : Fin (k0_t1_loop (grid0.coords t)).trips), k0_off1 (grid0.coords t) k = ![(2 * k.val) * 1024, 0] :=
  (by decide +kernel : ∀ (t : Fin grid0.N) (k : Fin (k0_t1_loop (grid0.coords t)).trips), k0_off1 (grid0.coords t) k = ![(2 * k.val) * 1024, 0])

theorem off2 : ∀ (t : Fin cfg0.N) (k : Fin (k0_t1_loop (grid0.coords t)).trips), k0_off2 (grid0.coords t) k = ![(2 * k.val) * 1024, 128] :=
  (by decide +kernel : ∀ (t : Fin grid0.N) (k : Fin (k0_t1_loop (grid0.coords t)).trips), k0_off2 (grid0.coords t) k = ![(2 * k.val) * 1024, 128])

theorem off3 : ∀ (t : Fin cfg0.N) (k : Fin (k0_t1_loop (grid0.coords t)).trips), k0_off3 (grid0.coords t) k = ![(2 * k.val + 1) * 1024, 0] :=
  (by decide +kernel : ∀ (t : Fin grid0.N) (k : Fin (k0_t1_loop (grid0.coords t)).trips), k0_off3 (grid0.coords t) k = ![(2 * k.val + 1) * 1024, 0])

theorem off4 : ∀ (t : Fin cfg0.N) (k : Fin (k0_t1_loop (grid0.coords t)).trips), k0_off4 (grid0.coords t) k = ![(2 * k.val + 1) * 1024, 128] :=
  (by decide +kernel : ∀ (t : Fin grid0.N) (k : Fin (k0_t1_loop (grid0.coords t)).trips), k0_off4 (grid0.coords t) k = ![(2 * k.val + 1) * 1024, 128])

theorem off9 : ∀ (t : Fin cfg0.N), t.val % 2 = 1 → k0_off9 (grid0.coords t) = ![(t.val % 16 - 1) * 1024, 0] :=
  (by decide +kernel : ∀ (t : Fin grid0.N), t.val % 2 = 1 → k0_off9 (grid0.coords t) = ![(t.val % 16 - 1) * 1024, 0])

theorem off10 : ∀ (t : Fin cfg0.N), t.val % 2 = 1 → k0_off10 (grid0.coords t) = ![(t.val % 16 - 1) * 1024, 128] :=
  (by decide +kernel : ∀ (t : Fin grid0.N), t.val % 2 = 1 → k0_off10 (grid0.coords t) = ![(t.val % 16 - 1) * 1024, 128])

theorem off11 : ∀ (t : Fin cfg0.N), k0_off11 (grid0.coords t) = ![(t.val % 16) * 1024, 0] :=
  (by decide +kernel : ∀ (t : Fin grid0.N), k0_off11 (grid0.coords t) = ![(t.val % 16) * 1024, 0])

theorem off12 : ∀ (t : Fin cfg0.N), k0_off12 (grid0.coords t) = ![(t.val % 16) * 1024, 128] :=
  (by decide +kernel : ∀ (t : Fin grid0.N), k0_off12 (grid0.coords t) = ![(t.val % 16) * 1024, 128])

theorem trips2 : ∀ t : Fin cfg0.N, Scf.trips (k0_t2_loop (grid0.coords t)).lb (k0_t2_loop (grid0.coords t)).ub (k0_t2_loop (grid0.coords t)).st = 0 :=
  (by decide +kernel : ∀ t : Fin grid0.N, Scf.trips (k0_t2_loop (grid0.coords t)).lb (k0_t2_loop (grid0.coords t)).ub (k0_t2_loop (grid0.coords t)).st = 0)

/-- A tile of scores of keys every query sees, at an index. -/
theorem scores_at (q kk : FVec Ideal S1024x128 .bf16) (x0 : FVec Ideal S1024x256 .bf16) (x1 : FVec Ideal S16384x256 .bf16) (i n e : ℕ) (hn : n < 16)
    (he : e + 128 ≤ 256) (hlt : n < i)
    (hq : ∀ r d, q (ix2 r d) = x0 (ix2 r (⟨e + d.val, by have := d.isLt; omega⟩ : Fin 256)))
    (hk : ∀ t d, kk (ix2 t d) = x1 (ix2 (key n hn t) (⟨e + d.val, by have := d.isLt; omega⟩ : Fin 256))) (r t : Fin 1024) :
    k0_pay1 (F := Ideal) q kk (ix2 r t) = sco x0 x1 i e he r (key n hn t) := by
  rw [pay1_at, sco, if_pos (by simp only [key]; have := t.isLt; omega), qk]
  simp only [hq, hk]

/-- The diagonal tile's scores at an index. -/
theorem diag_at (q kk : FVec Ideal S1024x128 .bf16) (x0 : FVec Ideal S1024x256 .bf16) (x1 : FVec Ideal S16384x256 .bf16) (i e : ℕ) (hn : i < 16)
    (he : e + 128 ≤ 256)
    (hq : ∀ r d, q (ix2 r d) = x0 (ix2 r (⟨e + d.val, by have := d.isLt; omega⟩ : Fin 256)))
    (hk : ∀ t d, kk (ix2 t d) = x1 (ix2 (key i hn t) (⟨e + d.val, by have := d.isLt; omega⟩ : Fin 256))) (r t : Fin 1024) :
    masked (k0_pay1 (F := Ideal) q kk) (ix2 r t) = sco x0 x1 i e he r (key i hn t) := by
  rw [masked_at, pay1_at, sco, qk]
  have e1 : ((key i hn t).val / 64 ≤ (i * 1024 + r.val) / 64) = (t.val / 64 ≤ r.val / 64) := by
    simp only [key]; apply propext; omega
  simp only [hq, hk, e1]

end Cert.KernelIdeal.Hand

end
-- ==== Proof.Loop.lean ====
/- The loop over full key tiles carries both heads' states over two tiles per trip. -/
module

public import proofs.«01_k».proof.Proof.State

@[expose] public section

set_option maxRecDepth 16384

noncomputable section

namespace Cert.KernelIdeal.Hand

open Idealize.ShloMosaic Idealize.ShloMosaic.TcCoe Cert.KernelIdeal Cert.KernelIdeal.Gen Cert.Soft

variable (c : Dev nD) (t : Fin cfg0.N) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1024x128 .bf16) (harg5 : arg5.IsWhole) (arg6 : Memref sig .tc .vmem S2x1024x128 .f32) (harg6 : arg6.IsWhole) (arg7 : Memref sig .tc .vmem S2x1024x128 .f32) (harg7 : arg7.IsWhole)
  (x0 : Vec Ideal S1024x256 .bf16) (x1 x2 : Vec Ideal S16384x256 .bf16)

/-- What the loop's first `k` trips wrote. -/
abbrev loopOut (k : ℕ) := pb_k0_t1 (F := Ideal) Variants.none c none (grid0.coords t) arg2 harg2 arg3 harg3 arg4 harg4 arg5 harg5 arg6 harg6 arg7 harg7 (harg2.unread x0) (harg3.unread x1) (harg4.unread x2) (arg6.view.writes (Elt Ideal) arg6.view.junk init6) (arg7.view.writes (Elt Ideal) arg7.view.junk init7) k

/-- The scores of a grid point's first head. -/
abbrev sc0 := sco x0 x1 (t.val % 16) 0 (by omega)
/-- The scores of a grid point's second head. -/
abbrev sc1 := sco x0 x1 (t.val % 16) 128 (by omega)

/-- After `k` trips both heads have taken in `2 * k` tiles. -/
theorem loop_good (hs0 : ∀ r j, sc0 t x0 x1 r j ≠ ⊤) (hb0 : ∀ r, sc0 t x0 x1 r 0 ≠ ⊥) (hs1 : ∀ r j, sc1 t x0 x1 r j ≠ ⊤) (hb1 : ∀ r, sc1 t x0 x1 r 0 ≠ ⊥)
    (k : ℕ) (hk : k ≤ (k0_t1_loop (grid0.coords t)).trips) :
    Good (sc0 t x0 x1) (val x2 0 (by omega)) (2 * k)
        (arg6.view.readCov ((loopOut c t arg2 harg2 arg3 harg3 arg4 harg4 arg5 harg5 arg6 harg6 arg7 harg7 x0 x1 x2 k).1 ++ init6) slab0)
        (arg7.view.readCov ((loopOut c t arg2 harg2 arg3 harg3 arg4 harg4 arg5 harg5 arg6 harg6 arg7 harg7 x0 x1 x2 k).2 ++ init7) slab0)
    ∧ Good (sc1 t x0 x1) (val x2 128 (by omega)) (2 * k)
        (arg6.view.readCov ((loopOut c t arg2 harg2 arg3 harg3 arg4 harg4 arg5 harg5 arg6 harg6 arg7 harg7 x0 x1 x2 k).1 ++ init6) slab1)
        (arg7.view.readCov ((loopOut c t arg2 harg2 arg3 harg3 arg4 harg4 arg5 harg5 arg6 harg6 arg7 harg7 x0 x1 x2 k).2 ++ init7) slab1) := by
  induction k with
  | zero => exact ⟨good_init0 _ _ _ _, good_init1 _ _ _ _⟩
  | succ k ih =>
    obtain ⟨g0, g1⟩ := ih (by omega)
    have hT := trips1 t
    have h1 := off1 t ⟨k, hk⟩
    have h2 := off2 t ⟨k, hk⟩
    have h3 := off3 t ⟨k, hk⟩
    have h4 := off4 t ⟨k, hk⟩
    have hlt : 2 * k + 1 < t.val % 16 := by omega
    have hlt' : t.val % 16 < 16 := Nat.mod_lt _ (by decide)
    have e := pb_k0_t1_succ (F := Ideal) Variants.none c none (grid0.coords t) arg2 harg2 arg3 harg3 arg4 harg4 arg5 harg5 arg6 harg6 arg7 harg7 (harg2.unread x0) (harg3.unread x1) (harg4.unread x2) (arg6.view.writes (Elt Ideal) arg6.view.junk init6) (arg7.view.writes (Elt Ideal) arg7.view.junk init7) ⟨k, hk⟩
    unfold loopOut at g0 g1 ⊢
    dsimp only at e
    rw [e]
    dsimp only
    rw [← View.writes_append, ← View.writes_append, List.append_assoc, List.append_assoc]
    generalize (pb_k0_t1 (F := Ideal) Variants.none c none (grid0.coords t) arg2 harg2 arg3 harg3 arg4 harg4 arg5 harg5 arg6 harg6 arg7 harg7 (harg2.unread x0) (harg3.unread x1) (harg4.unread x2) (arg6.view.writes (Elt Ideal) arg6.view.junk init6) (arg7.view.writes (Elt Ideal) arg7.view.junk init7) k).1 ++ init6 = L6 at *
    generalize (pb_k0_t1 (F := Ideal) Variants.none c none (grid0.coords t) arg2 harg2 arg3 harg3 arg4 harg4 arg5 harg5 arg6 harg6 arg7 harg7 (harg2.unread x0) (harg3.unread x1) (harg4.unread x2) (arg6.view.writes (Elt Ideal) arg6.view.junk init6) (arg7.view.writes (Elt Ideal) arg7.view.junk init7) k).2 ++ init7 = L7 at *
    have b1 := facts.k0_off1_inb (grid0.coords t) ⟨k, hk⟩
    have b2 := facts.k0_off2_inb (grid0.coords t) ⟨k, hk⟩
    have b3 := facts.k0_off3_inb (grid0.coords t) ⟨k, hk⟩
    have b4 := facts.k0_off4_inb (grid0.coords t) ⟨k, hk⟩
    refine ⟨?_, ?_⟩
    · have m0 := trip_m0 Variants.none c none (grid0.coords t) arg2 harg2 arg3 harg3 arg4 harg4 arg5 harg5 arg6 harg6 arg7 harg7 (harg2.unread x0) (harg3.unread x1) (harg4.unread x2) ⟨k, hk⟩ L6 L7 b1 b3
      have a0 := trip_a0 Variants.none c none (grid0.coords t) arg2 harg2 arg3 harg3 arg4 harg4 arg5 harg5 arg6 harg6 arg7 harg7 (harg2.unread x0) (harg3.unread x1) (harg4.unread x2) ⟨k, hk⟩ L6 L7 b1 b3
      rw [m0, a0]
      refine good_step (n := 2 * k + 1) (good_step g0 (by omega) hs0 hb0 _ _ ?_ ?_) (by omega) hs0 hb0 _ _ ?_ ?_
      · exact scores_at _ _ x0 x1 _ _ 0 _ _ (by omega) (qry0_at arg2 harg2 x0) (tileOf_at arg3 harg3 x1 _ b1 _ 0 (by omega) (by omega) h1)
      · exact fun u d => tileOf_at arg4 harg4 x2 _ b1 _ 0 (by omega) (by omega) h1 u d
      · exact scores_at _ _ x0 x1 _ _ 0 _ _ (by omega) (qry0_at arg2 harg2 x0) (tileOf_at arg3 harg3 x1 _ b3 _ 0 (by omega) (by omega) h3)
      · exact fun u d => tileOf_at arg4 harg4 x2 _ b3 _ 0 (by omega) (by omega) h3 u d
    · have m1 := trip_m1 Variants.none c none (grid0.coords t) arg2 harg2 arg3 harg3 arg4 harg4 arg5 harg5 arg6 harg6 arg7 harg7 (harg2.unread x0) (harg3.unread x1) (harg4.unread x2) ⟨k, hk⟩ L6 L7 b2 b4
      have a1 := trip_a1 Variants.none c none (grid0.coords t) arg2 harg2 arg3 harg3 arg4 harg4 arg5 harg5 arg6 harg6 arg7 harg7 (harg2.unread x0) (harg3.unread x1) (harg4.unread x2) ⟨k, hk⟩ L6 L7 b2 b4
      rw [m1, a1]
      refine good_step (n := 2 * k + 1) (good_step g1 (by omega) hs1 hb1 _ _ ?_ ?_) (by omega) hs1 hb1 _ _ ?_ ?_
      · exact scores_at _ _ x0 x1 _ _ 128 _ _ (by omega) (qry1_at arg2 harg2 x0) (tileOf_at arg3 harg3 x1 _ b2 _ 128 (by omega) (by omega) h2)
      · exact fun u d => tileOf_at arg4 harg4 x2 _ b2 _ 128 (by omega) (by omega) h2 u d
      · exact scores_at _ _ x0 x1 _ _ 128 _ _ (by omega) (qry1_at arg2 harg2 x0) (tileOf_at arg3 harg3 x1 _ b4 _ 128 (by omega) (by omega) h4)
      · exact fun u d => tileOf_at arg4 harg4 x2 _ b4 _ 128 (by omega) (by omega) h4 u d

end Cert.KernelIdeal.Hand

end
-- ==== Proof.Point.lean ====
/- What a grid point's run leaves in the output's staging buffer: the two heads' states after the diagonal tile, divided. -/
module

public import proofs.«01_k».proof.Proof.Loop

@[expose] public section

set_option maxRecDepth 16384

noncomputable section

namespace Cert.KernelIdeal.Hand

open Idealize.ShloMosaic Idealize.ShloMosaic.TcCoe Cert.KernelIdeal Cert.KernelIdeal.Gen Cert.Soft

/-- A loop of no trips writes nothing. -/
theorem pb2_nil (𝒱 : Variants) (c : Dev nD) (bd : Option 𝒱.V) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1024x128 .bf16) (harg5 : arg5.IsWhole) (arg6 : Memref sig .tc .vmem S2x1024x128 .f32) (harg6 : arg6.IsWhole) (arg7 : Memref sig .tc .vmem S2x1024x128 .f32) (harg7 : arg7.IsWhole) (v30 : BitVec 32) (X2 : BufTy.Contents (Elt Ideal) arg2.view.ty) (X3 : BufTy.Contents (Elt Ideal) arg3.view.ty) (X4 : BufTy.Contents (Elt Ideal) arg4.view.ty) (G6 : BufTy.Contents (Elt Ideal) arg6.view.ty) (G7 : BufTy.Contents (Elt Ideal) arg7.view.ty) {n : ℕ} (hn : n = 0) :
    pb_k0_t2 (F := Ideal) 𝒱 c bd i arg2 harg2 arg3 harg3 arg4 harg4 arg5 harg5 arg6 harg6 arg7 harg7 v30 X2 X3 X4 G6 G7 n = ([], []) := by
  subst hn; rfl

variable (c : Dev nD) (t : Fin cfg0.N) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1024x128 .bf16) (harg5 : arg5.IsWhole) (arg6 : Memref sig .tc .vmem S2x1024x128 .f32) (harg6 : arg6.IsWhole) (arg7 : Memref sig .tc .vmem S2x1024x128 .f32) (harg7 : arg7.IsWhole)
  (x0 : Vec Ideal S1024x256 .bf16) (x1 x2 : Vec Ideal S16384x256 .bf16)

/-- What the maximum's buffer holds after the loop, as pieces. -/
abbrev L6 := (loopOut c t arg2 harg2 arg3 harg3 arg4 harg4 arg5 harg5 arg6 harg6 arg7 harg7 x0 x1 x2 (k0_t1_loop (grid0.coords t)).trips).1 ++ init6
/-- What the sums' buffer holds after the loop, as pieces. -/
abbrev L7 := (loopOut c t arg2 harg2 arg3 harg3 arg4 harg4 arg5 harg5 arg6 harg6 arg7 harg7 x0 x1 x2 (k0_t1_loop (grid0.coords t)).trips).2 ++ init7

variable (h11 : ∀ a, k0_off11 (grid0.coords t) a + S1024x128.size a ≤ S16384x256.size a) (h12 : ∀ a, k0_off12 (grid0.coords t) a + S1024x128.size a ≤ S16384x256.size a)

/-- The first head's sums at the end, from the state after the full tiles. -/
abbrev fin0 (m a : FVec Ideal S1x1024x128 .f32) : FVec Ideal S1x1024x128 .f32 :=
  smA (masked (k0_pay1 (qry0 arg2 (harg2.unread x0)) (tileOf arg3 (harg3.unread x1) _ h11))) m a (tileOf arg4 (harg4.unread x2) _ h11)
/-- The second head's. -/
abbrev fin1 (m a : FVec Ideal S1x1024x128 .f32) : FVec Ideal S1x1024x128 .f32 :=
  smA (masked (k0_pay1 (qry1 arg2 (harg2.unread x0)) (tileOf arg3 (harg3.unread x1) _ h12))) m a (tileOf arg4 (harg4.unread x2) _ h12)

section
variable (hc0 : ¬ cond0_0 (grid0.coords t))

theorem A_v107 : kernelRun0_A.sl.v107 (F := Ideal) c (grid0.coords t) arg2 harg2 arg3 harg3 arg4 harg4 arg5 harg5 arg6 harg6 arg7 harg7 x0 x1 x2
    = arg6.view.readCov (L6 c t arg2 harg2 arg3 harg3 arg4 harg4 arg5 harg5 arg6 harg6 arg7 harg7 x0 x1 x2) slab0 := by
  unfold kernelRun0_A.sl.v107
  rw [pb2_nil _ _ _ _ _ _ _ _ _ _ _ _ _ _ _ _ _ _ _ _ _ _ (trips2 t)]
  rfl

theorem A_v118 : kernelRun0_A.sl.v118 (F := Ideal) c (grid0.coords t) arg2 harg2 arg3 harg3 arg4 harg4 arg5 harg5 arg6 harg6 arg7 harg7 x0 x1 x2
    = arg7.view.readCov (L7 c t arg2 harg2 arg3 harg3 arg4 harg4 arg5 harg5 arg6 harg6 arg7 harg7 x0 x1 x2) slab0 := by
  unfold kernelRun0_A.sl.v118
  rw [pb2_nil _ _ _ _ _ _ _ _ _ _ _ _ _ _ _ _ _ _ _ _ _ _ (trips2 t)]
  rfl

theorem A_v191 : kernelRun0_A.sl.v191 (F := Ideal) c (grid0.coords t) arg2 harg2 arg3 harg3 arg4 harg4 arg5 harg5 arg6 harg6 arg7 harg7 x0 x1 x2
    = arg6.view.readCov (L6 c t arg2 harg2 arg3 harg3 arg4 harg4 arg5 harg5 arg6 harg6 arg7 harg7 x0 x1 x2) slab1 := by
  unfold kernelRun0_A.sl.v191 kernelRun0_A.sl.HS0_1_1
  rw [View.readCov_skip _ _ _ _ _ (by decide)]
  rw [pb2_nil _ _ _ _ _ _ _ _ _ _ _ _ _ _ _ _ _ _ _ _ _ _ (trips2 t)]
  rfl

theorem A_v202 : kernelRun0_A.sl.v202 (F := Ideal) c (grid0.coords t) arg2 harg2 arg3 harg3 arg4 harg4 arg5 harg5 arg6 harg6 arg7 harg7 x0 x1 x2
    = arg7.view.readCov (L7 c t arg2 harg2 arg3 harg3 arg4 harg4 arg5 harg5 arg6 harg6 arg7 harg7 x0 x1 x2) slab1 := by
  unfold kernelRun0_A.sl.v202 kernelRun0_A.sl.HS1_1_1
  rw [View.readCov_skip _ _ _ _ _ (by decide)]
  rw [pb2_nil _ _ _ _ _ _ _ _ _ _ _ _ _ _ _ _ _ _ _ _ _ _ (trips2 t)]
  rfl

/-- The first head's sums as the last statements read them back. -/
theorem A_v217 : kernelRun0_A.sl.v217 (F := Ideal) c (grid0.coords t) arg2 harg2 arg3 harg3 arg4 harg4 arg5 harg5 arg6 harg6 arg7 harg7 x0 x1 x2
    = fin0 t arg2 harg2 arg3 harg3 arg4 harg4 x0 x1 x2 h11 (arg6.view.readCov (L6 c t arg2 harg2 arg3 harg3 arg4 harg4 arg5 harg5 arg6 harg6 arg7 harg7 x0 x1 x2) slab0) (arg7.view.readCov (L7 c t arg2 harg2 arg3 harg3 arg4 harg4 arg5 harg5 arg6 harg6 arg7 harg7 x0 x1 x2) slab0) := by
  unfold kernelRun0_A.sl.v217 kernelRun0_A.sl.HS1_2
  rw [View.readCov_skip _ _ _ _ _ (by decide)]
  unfold kernelRun0_A.sl.HS1_1_1
  rw [View.readCov_cons_toLoadRect, ← A_v107, ← A_v118]
  rfl

/-- The second head's. -/
theorem A_v219 : kernelRun0_A.sl.v219 (F := Ideal) c (grid0.coords t) arg2 harg2 arg3 harg3 arg4 harg4 arg5 harg5 arg6 harg6 arg7 harg7 x0 x1 x2
    = fin1 t arg2 harg2 arg3 harg3 arg4 harg4 x0 x1 x2 h12 (arg6.view.readCov (L6 c t arg2 harg2 arg3 harg3 arg4 harg4 arg5 harg5 arg6 harg6 arg7 harg7 x0 x1 x2) slab1) (arg7.view.readCov (L7 c t arg2 harg2 arg3 harg3 arg4 harg4 arg5 harg5 arg6 harg6 arg7 harg7 x0 x1 x2) slab1) := by
  unfold kernelRun0_A.sl.v219 kernelRun0_A.sl.HS1_2
  rw [View.readCov_cons_toLoadRect, ← A_v191, ← A_v202]
  rfl

/-- What an even query block's run stores. -/
theorem outA : out0_A_3 (F := Ideal) c (grid0.coords t) arg2 harg2 arg3 harg3 arg4 harg4 arg5 harg5 arg6 harg6 arg7 harg7 hc0 x0 x1 x2
    = k0_pay77 (kernelRun0_A.sl.v217 (F := Ideal) c (grid0.coords t) arg2 harg2 arg3 harg3 arg4 harg4 arg5 harg5 arg6 harg6 arg7 harg7 x0 x1 x2) (kernelRun0_A.sl.v219 (F := Ideal) c (grid0.coords t) arg2 harg2 arg3 harg3 arg4 harg4 arg5 harg5 arg6 harg6 arg7 harg7 x0 x1 x2) := by
  unfold out0_A_3
  rw [View.read_writes_junk_eq_canon]
  unfold kernelRun0_A
  dsimp only
  exact View.canon_cons_unit_zero (by funext a; fin_cases a <;> rfl) _ _ _
end

section
variable (hc0 : cond0_0 (grid0.coords t))
  (h9 : ∀ a, k0_off9 (grid0.coords t) a + S1024x128.size a ≤ S16384x256.size a) (h10 : ∀ a, k0_off10 (grid0.coords t) a + S1024x128.size a ≤ S16384x256.size a)

/-- The first head's scores of the odd tile. -/
abbrev odd0 := k0_pay1 (F := Ideal) (qry0 arg2 (harg2.unread x0)) (tileOf arg3 (harg3.unread x1) _ h9)
/-- The second head's scores of the odd tile. -/
abbrev odd1 := k0_pay1 (F := Ideal) (qry1 arg2 (harg2.unread x0)) (tileOf arg3 (harg3.unread x1) _ h10)

theorem B_v239 : kernelRun0_B.sl.v239 (F := Ideal) c (grid0.coords t) arg2 harg2 arg3 harg3 arg4 harg4 arg5 harg5 arg6 harg6 arg7 harg7 x0 x1 x2
    = arg6.view.readCov (L6 c t arg2 harg2 arg3 harg3 arg4 harg4 arg5 harg5 arg6 harg6 arg7 harg7 x0 x1 x2) slab0 := by
  unfold kernelRun0_B.sl.v239
  rw [pb2_nil _ _ _ _ _ _ _ _ _ _ _ _ _ _ _ _ _ _ _ _ _ _ (trips2 t)]
  rfl

theorem B_v250 : kernelRun0_B.sl.v250 (F := Ideal) c (grid0.coords t) arg2 harg2 arg3 harg3 arg4 harg4 arg5 harg5 arg6 harg6 arg7 harg7 x0 x1 x2
    = arg7.view.readCov (L7 c t arg2 harg2 arg3 harg3 arg4 harg4 arg5 harg5 arg6 harg6 arg7 harg7 x0 x1 x2) slab0 := by
  unfold kernelRun0_B.sl.v250
  rw [pb2_nil _ _ _ _ _ _ _ _ _ _ _ _ _ _ _ _ _ _ _ _ _ _ (trips2 t)]
  rfl

theorem B_v268 : kernelRun0_B.sl.v268 (F := Ideal) c (grid0.coords t) arg2 harg2 arg3 harg3 arg4 harg4 arg5 harg5 arg6 harg6 arg7 harg7 hc0 x0 x1 x2
    = arg6.view.readCov (L6 c t arg2 harg2 arg3 harg3 arg4 harg4 arg5 harg5 arg6 harg6 arg7 harg7 x0 x1 x2) slab1 := by
  unfold kernelRun0_B.sl.v268 kernelRun0_B.sl.HS0_1_1
  rw [View.readCov_skip _ _ _ _ _ (by decide)]
  rw [pb2_nil _ _ _ _ _ _ _ _ _ _ _ _ _ _ _ _ _ _ _ _ _ _ (trips2 t)]
  rfl

theorem B_v279 : kernelRun0_B.sl.v279 (F := Ideal) c (grid0.coords t) arg2 harg2 arg3 harg3 arg4 harg4 arg5 harg5 arg6 harg6 arg7 harg7 hc0 x0 x1 x2
    = arg7.view.readCov (L7 c t arg2 harg2 arg3 harg3 arg4 harg4 arg5 harg5 arg6 harg6 arg7 harg7 x0 x1 x2) slab1 := by
  unfold kernelRun0_B.sl.v279 kernelRun0_B.sl.HS1_1_1
  rw [View.readCov_skip _ _ _ _ _ (by decide)]
  rw [pb2_nil _ _ _ _ _ _ _ _ _ _ _ _ _ _ _ _ _ _ _ _ _ _ (trips2 t)]
  rfl

theorem B_v107 : kernelRun0_B.sl.v107 (F := Ideal) c (grid0.coords t) arg2 harg2 arg3 harg3 arg4 harg4 arg5 harg5 arg6 harg6 arg7 harg7 hc0 x0 x1 x2
    = nextM (odd0 t arg2 harg2 arg3 harg3 x0 x1 h9) (arg6.view.readCov (L6 c t arg2 harg2 arg3 harg3 arg4 harg4 arg5 harg5 arg6 harg6 arg7 harg7 x0 x1 x2) slab0) := by
  unfold kernelRun0_B.sl.v107 kernelRun0_B.sl.HS0_2
  rw [View.readCov_skip _ _ _ _ _ (by decide)]
  unfold kernelRun0_B.sl.HS0_1_1
  rw [View.readCov_cons_toLoadRect, ← B_v239]
  rfl

theorem B_v118 : kernelRun0_B.sl.v118 (F := Ideal) c (grid0.coords t) arg2 harg2 arg3 harg3 arg4 harg4 arg5 harg5 arg6 harg6 arg7 harg7 hc0 x0 x1 x2
    = smA (odd0 t arg2 harg2 arg3 harg3 x0 x1 h9) (arg6.view.readCov (L6 c t arg2 harg2 arg3 harg3 arg4 harg4 arg5 harg5 arg6 harg6 arg7 harg7 x0 x1 x2) slab0) (arg7.view.readCov (L7 c t arg2 harg2 arg3 harg3 arg4 harg4 arg5 harg5 arg6 harg6 arg7 harg7 x0 x1 x2) slab0) (tileOf arg4 (harg4.unread x2) _ h9) := by
  unfold kernelRun0_B.sl.v118 kernelRun0_B.sl.HS1_2
  rw [View.readCov_skip _ _ _ _ _ (by decide)]
  unfold kernelRun0_B.sl.HS1_1_1
  rw [View.readCov_cons_toLoadRect, ← B_v239, ← B_v250]
  rfl

theorem B_v191 : kernelRun0_B.sl.v191 (F := Ideal) c (grid0.coords t) arg2 harg2 arg3 harg3 arg4 harg4 arg5 harg5 arg6 harg6 arg7 harg7 hc0 x0 x1 x2
    = nextM (odd1 t arg2 harg2 arg3 harg3 x0 x1 h10) (arg6.view.readCov (L6 c t arg2 harg2 arg3 harg3 arg4 harg4 arg5 harg5 arg6 harg6 arg7 harg7 x0 x1 x2) slab1) := by
  unfold kernelRun0_B.sl.v191 kernelRun0_B.sl.HS0_3
  rw [View.readCov_skip _ _ _ _ _ (by decide)]
  unfold kernelRun0_B.sl.HS0_2
  rw [View.readCov_cons_toLoadRect, ← B_v268]
  rfl

theorem B_v202 : kernelRun0_B.sl.v202 (F := Ideal) c (grid0.coords t) arg2 harg2 arg3 harg3 arg4 harg4 arg5 harg5 arg6 harg6 arg7 harg7 hc0 x0 x1 x2
    = smA (odd1 t arg2 harg2 arg3 harg3 x0 x1 h10) (arg6.view.readCov (L6 c t arg2 harg2 arg3 harg3 arg4 harg4 arg5 harg5 arg6 harg6 arg7 harg7 x0 x1 x2) slab1) (arg7.view.readCov (L7 c t arg2 harg2 arg3 harg3 arg4 harg4 arg5 harg5 arg6 harg6 arg7 harg7 x0 x1 x2) slab1) (tileOf arg4 (harg4.unread x2) _ h10) := by
  unfold kernelRun0_B.sl.v202 kernelRun0_B.sl.HS1_3
  rw [View.readCov_skip _ _ _ _ _ (by decide)]
  unfold kernelRun0_B.sl.HS1_2
  rw [View.readCov_cons_toLoadRect, ← B_v268, ← B_v279]
  rfl

/-- The first head's sums as the last statements read them back. -/
theorem B_v217 : kernelRun0_B.sl.v217 (F := Ideal) c (grid0.coords t) arg2 harg2 arg3 harg3 arg4 harg4 arg5 harg5 arg6 harg6 arg7 harg7 hc0 x0 x1 x2
    = fin0 t arg2 harg2 arg3 harg3 arg4 harg4 x0 x1 x2 h11 (nextM (odd0 t arg2 harg2 arg3 harg3 x0 x1 h9) (arg6.view.readCov (L6 c t arg2 harg2 arg3 harg3 arg4 harg4 arg5 harg5 arg6 harg6 arg7 harg7 x0 x1 x2) slab0))
        (smA (odd0 t arg2 harg2 arg3 harg3 x0 x1 h9) (arg6.view.readCov (L6 c t arg2 harg2 arg3 harg3 arg4 harg4 arg5 harg5 arg6 harg6 arg7 harg7 x0 x1 x2) slab0) (arg7.view.readCov (L7 c t arg2 harg2 arg3 harg3 arg4 harg4 arg5 harg5 arg6 harg6 arg7 harg7 x0 x1 x2) slab0) (tileOf arg4 (harg4.unread x2) _ h9)) := by
  unfold kernelRun0_B.sl.v217 kernelRun0_B.sl.HS1_4
  rw [View.readCov_skip _ _ _ _ _ (by decide)]
  unfold kernelRun0_B.sl.HS1_3
  rw [View.readCov_cons_toLoadRect, ← B_v107 (hc0 := hc0), ← B_v118 (hc0 := hc0)]
  rfl

/-- The second head's. -/
theorem B_v219 : kernelRun0_B.sl.v219 (F := Ideal) c (grid0.coords t) arg2 harg2 arg3 harg3 arg4 harg4 arg5 harg5 arg6 harg6 arg7 harg7 hc0 x0 x1 x2
    = fin1 t arg2 harg2 arg3 harg3 arg4 harg4 x0 x1 x2 h12 (nextM (odd1 t arg2 harg2 arg3 harg3 x0 x1 h10) (arg6.view.readCov (L6 c t arg2 harg2 arg3 harg3 arg4 harg4 arg5 harg5 arg6 harg6 arg7 harg7 x0 x1 x2) slab1))
        (smA (odd1 t arg2 harg2 arg3 harg3 x0 x1 h10) (arg6.view.readCov (L6 c t arg2 harg2 arg3 harg3 arg4 harg4 arg5 harg5 arg6 harg6 arg7 harg7 x0 x1 x2) slab1) (arg7.view.readCov (L7 c t arg2 harg2 arg3 harg3 arg4 harg4 arg5 harg5 arg6 harg6 arg7 harg7 x0 x1 x2) slab1) (tileOf arg4 (harg4.unread x2) _ h10)) := by
  unfold kernelRun0_B.sl.v219 kernelRun0_B.sl.HS1_4
  rw [View.readCov_cons_toLoadRect, ← B_v191 (hc0 := hc0), ← B_v202 (hc0 := hc0)]
  rfl

/-- What an odd query block's run stores. -/
theorem outB : out0_B_3 (F := Ideal) c (grid0.coords t) arg2 harg2 arg3 harg3 arg4 harg4 arg5 harg5 arg6 harg6 arg7 harg7 hc0 x0 x1 x2
    = k0_pay77 (kernelRun0_B.sl.v217 (F := Ideal) c (grid0.coords t) arg2 harg2 arg3 harg3 arg4 harg4 arg5 harg5 arg6 harg6 arg7 harg7 hc0 x0 x1 x2) (kernelRun0_B.sl.v219 (F := Ideal) c (grid0.coords t) arg2 harg2 arg3 harg3 arg4 harg4 arg5 harg5 arg6 harg6 arg7 harg7 hc0 x0 x1 x2) := by
  unfold out0_B_3
  rw [View.read_writes_junk_eq_canon]
  unfold kernelRun0_B
  dsimp only
  exact View.canon_cons_unit_zero (by funext a; fin_cases a <;> rfl) _ _ _
end

end Cert.KernelIdeal.Hand

end
-- ==== Proof.Block.lean ====
/- What a grid point's run leaves, at an index: the softmax-weighted mean of the values. -/
module

public import proofs.«01_k».proof.Proof.Point

@[expose] public section

set_option maxRecDepth 16384

noncomputable section

namespace Cert.KernelIdeal.Hand

open Idealize.ShloMosaic Idealize.ShloMosaic.TcCoe Cert.KernelIdeal Cert.KernelIdeal.Gen Cert.Soft

/-- Signed comparison of a lane's word with 64. -/
theorem lane_lt : ∀ l : Fin 128, IntOp.cmpi CmpIPredicate.slt (BitVec.ofNat 32 l.val) 64#32 = BitVec.ofBool (decide (l.val < 64)) := by decide +kernel

/-- The stored block at an index: each head's sums over its own sum of weights. -/
theorem pay77_at (a0 a1 : FVec Ideal S1x1024x128 .f32) (r : Fin 1024) (l : Fin 128) :
    k0_pay77 (F := Ideal) a0 a1 (ix2 r l)
      = if l.val < 64 then Ideal.div (a0 (ix3 0 r l)) (a0 (ix3 0 r 64)) else Ideal.div (a1 (ix3 0 r l)) (a1 (ix3 0 r 0)) := by
  pointwise [k0_pay77]
  rw [lane_lt]
  by_cases h : l.val < 64
  · simp [h, Scalar.select]
  · simp [h, Scalar.select]

variable (c : Dev nD) (t : Fin cfg0.N) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1024x128 .bf16) (harg5 : arg5.IsWhole) (arg6 : Memref sig .tc .vmem S2x1024x128 .f32) (harg6 : arg6.IsWhole) (arg7 : Memref sig .tc .vmem S2x1024x128 .f32) (harg7 : arg7.IsWhole)
  (x0 : Vec Ideal S1024x256 .bf16) (x1 x2 : Vec Ideal S16384x256 .bf16)

/-- The values of a grid point's first head. -/
abbrev vl0 := val x2 0 (by omega)
/-- The values of a grid point's second head. -/
abbrev vl1 := val x2 128 (by omega)

/-- A query sees no key past its own block. -/
theorem sco_far (e : ℕ) (he : e + 128 ≤ 256) (i : ℕ) (r : Fin 1024) (j : Fin 16384) (h : (i + 1) * 1024 ≤ j.val) : sco x0 x1 i e he r j = ⊥ := by
  rw [sco, if_neg]
  have := r.isLt
  omega

/-- The stored block from two heads that have taken in every tile. -/
theorem stored_at (n : ℕ) (hn : n = t.val % 16 + 1) (a0 a1 m0 m1 : FVec Ideal S1x1024x128 .f32)
    (g0 : Good (sc0 t x0 x1) (vl0 x2) n m0 a0) (g1 : Good (sc1 t x0 x1) (vl1 x2) n m1 a1)
    (hs0 : ∀ r j, sc0 t x0 x1 r j ≠ ⊤) (hb0 : ∀ r, sc0 t x0 x1 r 0 ≠ ⊥) (hs1 : ∀ r j, sc1 t x0 x1 r j ≠ ⊤) (hb1 : ∀ r, sc1 t x0 x1 r 0 ≠ ⊥)
    (o0 : ∀ j, vl0 x2 64 j = 1) (o1 : ∀ j, vl1 x2 0 j = 1) (r : Fin 1024) (l : Fin 128) :
    k0_pay77 (F := Ideal) a0 a1 (ix2 r l)
      = if l.val < 64 then soft (sc0 t x0 x1 r) (vl0 x2 l) else soft (sc1 t x0 x1 r) (vl1 x2 l) := by
  subst hn
  rw [pay77_at, (g0 r l).2, (g0 r 64).2, (g1 r l).2, (g1 r 0).2,
    final _ _ (hs0 r) (hb0 r) _ (fun j hj => sco_far x0 x1 _ _ _ r j hj) _ o0,
    final _ _ (hs1 r) (hb1 r) _ (fun j hj => sco_far x0 x1 _ _ _ r j hj) _ o1]

include arg5 harg5 in
/-- An even query block's stored block at an index. -/
theorem outA_at (hc0 : ¬ cond0_0 (grid0.coords t)) (he : ¬ t.val % 2 = 1)
    (hs0 : ∀ r j, sc0 t x0 x1 r j ≠ ⊤) (hb0 : ∀ r, sc0 t x0 x1 r 0 ≠ ⊥) (hs1 : ∀ r j, sc1 t x0 x1 r j ≠ ⊤) (hb1 : ∀ r, sc1 t x0 x1 r 0 ≠ ⊥)
    (o0 : ∀ j, vl0 x2 64 j = 1) (o1 : ∀ j, vl1 x2 0 j = 1) (r : Fin 1024) (l : Fin 128) :
    out0_A_3 (F := Ideal) c (grid0.coords t) arg2 harg2 arg3 harg3 arg4 harg4 arg5 harg5 arg6 harg6 arg7 harg7 hc0 x0 x1 x2 (ix2 r l)
      = if l.val < 64 then soft (sc0 t x0 x1 r) (vl0 x2 l) else soft (sc1 t x0 x1 r) (vl1 x2 l) := by
  have hT := trips1 t
  have ht : t.val % 16 < 16 := Nat.mod_lt _ (by decide)
  have b11 := facts.k0_off11_inb (grid0.coords t)
  have b12 := facts.k0_off12_inb (grid0.coords t)
  obtain ⟨g0, g1⟩ := loop_good c t arg2 harg2 arg3 harg3 arg4 harg4 arg5 harg5 arg6 harg6 arg7 harg7 x0 x1 x2 hs0 hb0 hs1 hb1 _ le_rfl
  have en : 2 * (k0_t1_loop (grid0.coords t)).trips = t.val % 16 := by omega
  rw [en] at g0 g1
  rw [outA, A_v217 (h11 := b11), A_v219 (h12 := b12)]
  refine stored_at t x0 x1 x2 _ rfl _ _ _ _ (good_step g0 ht hs0 hb0 _ _ ?_ ?_) (good_step g1 ht hs1 hb1 _ _ ?_ ?_) hs0 hb0 hs1 hb1 o0 o1 r l
  · exact diag_at _ _ x0 x1 _ 0 _ _ (qry0_at arg2 harg2 x0) (tileOf_at arg3 harg3 x1 _ b11 _ 0 ht (by omega) (off11 t))
  · exact fun u d => tileOf_at arg4 harg4 x2 _ b11 _ 0 ht (by omega) (off11 t) u d
  · exact diag_at _ _ x0 x1 _ 128 _ _ (qry1_at arg2 harg2 x0) (tileOf_at arg3 harg3 x1 _ b12 _ 128 ht (by omega) (off12 t))
  · exact fun u d => tileOf_at arg4 harg4 x2 _ b12 _ 128 ht (by omega) (off12 t) u d

include arg5 harg5 in
/-- An odd query block's stored block at an index. -/
theorem outB_at (hc0 : cond0_0 (grid0.coords t)) (he : t.val % 2 = 1)
    (hs0 : ∀ r j, sc0 t x0 x1 r j ≠ ⊤) (hb0 : ∀ r, sc0 t x0 x1 r 0 ≠ ⊥) (hs1 : ∀ r j, sc1 t x0 x1 r j ≠ ⊤) (hb1 : ∀ r, sc1 t x0 x1 r 0 ≠ ⊥)
    (o0 : ∀ j, vl0 x2 64 j = 1) (o1 : ∀ j, vl1 x2 0 j = 1) (r : Fin 1024) (l : Fin 128) :
    out0_B_3 (F := Ideal) c (grid0.coords t) arg2 harg2 arg3 harg3 arg4 harg4 arg5 harg5 arg6 harg6 arg7 harg7 hc0 x0 x1 x2 (ix2 r l)
      = if l.val < 64 then soft (sc0 t x0 x1 r) (vl0 x2 l) else soft (sc1 t x0 x1 r) (vl1 x2 l) := by
  have hT := trips1 t
  have ht : t.val % 16 < 16 := Nat.mod_lt _ (by decide)
  have b11 := facts.k0_off11_inb (grid0.coords t)
  have b12 := facts.k0_off12_inb (grid0.coords t)
  have b9 := facts.k0_off9_inb (grid0.coords t) hc0
  have b10 := facts.k0_off10_inb (grid0.coords t) hc0
  obtain ⟨g0, g1⟩ := loop_good c t arg2 harg2 arg3 harg3 arg4 harg4 arg5 harg5 arg6 harg6 arg7 harg7 x0 x1 x2 hs0 hb0 hs1 hb1 _ le_rfl
  have en : 2 * (k0_t1_loop (grid0.coords t)).trips = t.val % 16 - 1 := by omega
  have e1 : t.val % 16 - 1 + 1 = t.val % 16 := by omega
  rw [en] at g0 g1
  have q0 := good_step g0 (by omega) hs0 hb0 (odd0 t arg2 harg2 arg3 harg3 x0 x1 b9) (tileOf arg4 (harg4.unread x2) _ b9)
    (scores_at _ _ x0 x1 _ _ 0 _ _ (by omega) (qry0_at arg2 harg2 x0) (tileOf_at arg3 harg3 x1 _ b9 _ 0 (by omega) (by omega) (off9 t he)))
    (fun u d => tileOf_at arg4 harg4 x2 _ b9 _ 0 (by omega) (by omega) (off9 t he) u d)
  have q1 := good_step g1 (by omega) hs1 hb1 (odd1 t arg2 harg2 arg3 harg3 x0 x1 b10) (tileOf arg4 (harg4.unread x2) _ b10)
    (scores_at _ _ x0 x1 _ _ 128 _ _ (by omega) (qry1_at arg2 harg2 x0) (tileOf_at arg3 harg3 x1 _ b10 _ 128 (by omega) (by omega) (off10 t he)))
    (fun u d => tileOf_at arg4 harg4 x2 _ b10 _ 128 (by omega) (by omega) (off10 t he) u d)
  rw [e1] at q0 q1
  rw [outB, B_v217 (h11 := b11) (h9 := b9), B_v219 (h12 := b12) (h10 := b10)]
  refine stored_at t x0 x1 x2 _ rfl _ _ _ _ (good_step q0 ht hs0 hb0 _ _ ?_ ?_) (good_step q1 ht hs1 hb1 _ _ ?_ ?_) hs0 hb0 hs1 hb1 o0 o1 r l
  · exact diag_at _ _ x0 x1 _ 0 _ _ (qry0_at arg2 harg2 x0) (tileOf_at arg3 harg3 x1 _ b11 _ 0 ht (by omega) (off11 t))
  · exact fun u d => tileOf_at arg4 harg4 x2 _ b11 _ 0 ht (by omega) (off11 t) u d
  · exact diag_at _ _ x0 x1 _ 128 _ _ (qry1_at arg2 harg2 x0) (tileOf_at arg3 harg3 x1 _ b12 _ 128 ht (by omega) (off12 t))
  · exact fun u d => tileOf_at arg4 harg4 x2 _ b12 _ 128 ht (by omega) (off12 t) u d

end Cert.KernelIdeal.Hand

end
-- ==== Proof.Final.lean ====
/- The kernel's result array: at every index the attention of the three argument arrays. -/
module

public import proofs.«01_k».proof.Proof.Gen.KernelIdeal.Value
public import proofs.«01_k».proof.Proof.Spec
public import proofs.«01_k».proof.Proof.Block
public import Idealize.ShloMosaic.Lib.Pipeline.ValueKit

@[expose] public section

set_option maxRecDepth 16384

noncomputable section

namespace Cert.KernelIdeal.Hand

open Idealize.ShloMosaic Idealize.ShloMosaic.TcCoe Cert.KernelIdeal Cert.KernelIdeal.Gen Cert.KernelIdeal.Value Cert.Soft
open Idealize.ShloMosaic.Pipeline (Dat)

variable (m : (ℓ : Loc nD τ sig) → Buf (Elt Ideal) ℓ) (c : Dev nD)

/-- The query array, by row and lane. -/
abbrev QQ : Fin 16384 → Fin 2048 → EReal := fun r l => m ((c : Thread nD τ).loc main_arg0) (ix2 r l)
/-- The key array, by row and lane. -/
abbrev KK : Fin 16384 → Fin 2048 → EReal := fun r l => m ((c : Thread nD τ).loc main_arg1) (ix2 r l)
/-- The value array, by row and lane. -/
abbrev VV : Fin 16384 → Fin 2048 → EReal := fun r l => m ((c : Thread nD τ).loc main_arg2) (ix2 r l)

/-- Which block each window stages at each grid point. -/
theorem idx : ∀ t : Fin cfg0.N, win0_0.index t = ![t.val % 16, t.val / 16] ∧ win0_1.index t = ![0, t.val / 16]
    ∧ win0_2.index t = ![0, t.val / 16] ∧ win0_3.index t = ![t.val % 16, t.val / 16] :=
  (by decide +kernel : ∀ t : Fin grid0.N, win0_0.index t = ![t.val % 16, t.val / 16] ∧ win0_1.index t = ![0, t.val / 16]
    ∧ win0_2.index t = ![0, t.val / 16] ∧ win0_3.index t = ![t.val % 16, t.val / 16])

theorem t_lt (t : Fin cfg0.N) : t.val < 128 := lt_of_lt_of_eq t.isLt (show cfg0.N = 128 from N_0)

/-- A query block at an index. -/
theorem q_at (t : Fin cfg0.N) (r : Fin 1024) (d : Fin 256) (R : Fin 16384) (L : Fin 2048)
    (hR : R.val = t.val % 16 * 1024 + r.val) (hL : L.val = t.val / 16 * 256 + d.val) :
    (iblk m c 0 t (ix2 r d) : EReal) = QQ m c R L := by
  have ht := t_lt t
  blk_ext [iblk, V, idx t]

/-- A key block at an index. -/
theorem k_at (t : Fin cfg0.N) (j : Fin 16384) (d : Fin 256) (L : Fin 2048) (hL : L.val = t.val / 16 * 256 + d.val) :
    (iblk m c 1 t (ix2 j d) : EReal) = KK m c j L := by
  have ht := t_lt t
  blk_ext [iblk, V, idx t]

/-- A value block at an index. -/
theorem v_at (t : Fin cfg0.N) (j : Fin 16384) (d : Fin 256) (L : Fin 2048) (hL : L.val = t.val / 16 * 256 + d.val) :
    (iblk m c 2 t (ix2 j d) : EReal) = VV m c j L := by
  have ht := t_lt t
  blk_ext [iblk, V, idx t]

/-- A grid point's scores are its head's global scores. -/
theorem sco_eq (t : Fin cfg0.N) (e : ℕ) (he : e + 128 ≤ 256) (h : ℕ) (hh : h < 16) (heh : h * 128 = t.val / 16 * 256 + e)
    (r : Fin 1024) (R : Fin 16384) (hR : R.val = t.val % 16 * 1024 + r.val) (j : Fin 16384) :
    sco (iblk m c 0 t) (iblk m c 1 t) (t.val % 16) e he r j = gsc (QQ m c) (KK m c) R h hh j := by
  unfold sco gsc qk
  rw [hR]
  split_ifs
  · refine Finset.sum_congr rfl fun d _ => congrArg₂ (· * ·) ?_ ?_
    · exact q_at m c t r _ R _ hR (by simp only; omega)
    · exact k_at m c t j _ _ (by simp only; omega)
  · rfl

/-- A grid point's values are its lane's global values. -/
theorem val_eq (t : Fin cfg0.N) (e : ℕ) (he : e + 128 ≤ 256) (l : Fin 128) (L : Fin 2048) (hL : L.val = t.val / 16 * 256 + e + l.val) (j : Fin 16384) :
    val (iblk m c 2 t) e he l j = VV m c j L :=
  v_at m c t j _ L (by simp only; omega)

/-- What the claim assumes of the three arrays: finite queries and keys, and ones in two lanes of every pair of heads. -/
structure Ok : Prop where
  q : ∀ r l, QQ m c r l ≠ ⊤ ∧ QQ m c r l ≠ ⊥
  k : ∀ r l, KK m c r l ≠ ⊤ ∧ KK m c r l ≠ ⊥
  o0 : ∀ j (p : Fin 8), VV m c j ⟨p.val * 256 + 64, by have := p.isLt; omega⟩ = 1
  o1 : ∀ j (p : Fin 8), VV m c j ⟨p.val * 256 + 128, by have := p.isLt; omega⟩ = 1

/-- A sum of products of finite numbers is finite. -/
theorem sum_fin (f g : Fin 128 → EReal) (hf : ∀ d, f d ≠ ⊤ ∧ f d ≠ ⊥) (hg : ∀ d, g d ≠ ⊤ ∧ g d ≠ ⊥) :
    (∑ d, f d * g d) ≠ ⊤ ∧ (∑ d, f d * g d) ≠ ⊥ := by
  have e : ∀ d, f d * g d = (((f d).toReal * (g d).toReal : ℝ) : EReal) := fun d => by
    rw [EReal.coe_mul, EReal.coe_toReal (hf d).1 (hf d).2, EReal.coe_toReal (hg d).1 (hg d).2]
  have e2 : (∑ d, f d * g d) = ((∑ d, (f d).toReal * (g d).toReal : ℝ) : EReal) := by
    rw [Finset.sum_congr rfl fun d _ => e d]
    exact (map_sum (⟨⟨Real.toEReal, EReal.coe_zero⟩, EReal.coe_add⟩ : ℝ →+ EReal) _ _).symm
  rw [e2]
  exact ⟨EReal.coe_ne_top _, EReal.coe_ne_bot _⟩

variable {m c}

/-- No score is +∞. -/
theorem Ok.top (H : Ok m c) (R : Fin 16384) (h : ℕ) (hh : h < 16) (j : Fin 16384) : gsc (QQ m c) (KK m c) R h hh j ≠ ⊤ := by
  unfold gsc
  split_ifs
  · exact (sum_fin _ _ (fun _ => H.q _ _) (fun _ => H.k _ _)).1
  · exact bot_ne_top

/-- The first key's score is not −∞: every query sees it. -/
theorem Ok.bot (H : Ok m c) (R : Fin 16384) (h : ℕ) (hh : h < 16) : gsc (QQ m c) (KK m c) R h hh 0 ≠ ⊥ := by
  unfold gsc
  rw [if_pos (by simp)]
  exact (sum_fin _ _ (fun _ => H.q _ _) (fun _ => H.k _ _)).2

/-- The block a grid point stores, read off its two heads, is the attention at the block's place in the result. -/
theorem point_eq (t : Fin cfg0.N) (r : Fin 1024) (l : Fin 128) (R : Fin 16384) (C : Fin 1024)
    (hR : R.val = t.val % 16 * 1024 + r.val) (hC : C.val = t.val / 16 * 128 + l.val) :
    (if l.val < 64 then soft (sc0 t (iblk m c 0 t) (iblk m c 1 t) r) (vl0 (iblk m c 2 t) l)
      else soft (sc1 t (iblk m c 0 t) (iblk m c 1 t) r) (vl1 (iblk m c 2 t) l)) = attn (QQ m c) (KK m c) (VV m c) R C := by
  have ht := t_lt t
  have hl := l.isLt
  unfold attn
  split_ifs with h
  · refine congrArg₂ soft (funext fun j => ?_) (funext fun j => ?_)
    · exact sco_eq m c t 0 _ _ _ (by omega) r R hR j
    · exact val_eq m c t 0 _ l _ (by simp only [vlane]; omega) j
  · refine congrArg₂ soft (funext fun j => ?_) (funext fun j => ?_)
    · exact sco_eq m c t 128 _ _ _ (by omega) r R hR j
    · exact val_eq m c t 128 _ l _ (by simp only [vlane]; omega) j

/-- What a grid point leaves in the output buffer, at an index. -/
theorem left_at (H : Ok m c) (t : Fin cfg0.N) (r : Fin 1024) (l : Fin 128) (R : Fin 16384) (C : Fin 1024)
    (hR : R.val = t.val % 16 * 1024 + r.val) (hC : C.val = t.val / 16 * 128 + l.val) :
    (outsAt0 m c t.val t.isLt (ix2 r l) : EReal) = attn (QQ m c) (KK m c) (VV m c) R C := by
  have ht := t_lt t
  have row : ∀ r : Fin 1024, t.val % 16 * 1024 + r.val < 16384 := fun r => by have := r.isLt; omega
  have e0 : ∀ r j, sc0 t (iblk m c 0 t) (iblk m c 1 t) r j = gsc (QQ m c) (KK m c) ⟨_, row r⟩ (t.val / 16 * 2) (by omega) j :=
    fun r j => sco_eq m c t 0 _ _ _ (by omega) r _ rfl j
  have e1 : ∀ r j, sc1 t (iblk m c 0 t) (iblk m c 1 t) r j = gsc (QQ m c) (KK m c) ⟨_, row r⟩ (t.val / 16 * 2 + 1) (by omega) j :=
    fun r j => sco_eq m c t 128 _ _ _ (by omega) r _ rfl j
  have o0 : ∀ j, vl0 (iblk m c 2 t) 64 j = 1 := fun j =>
    (val_eq m c t 0 _ 64 ⟨t.val / 16 * 256 + 64, by omega⟩ (by simp) j).trans (H.o0 j ⟨t.val / 16, by omega⟩)
  have o1 : ∀ j, vl1 (iblk m c 2 t) 0 j = 1 := fun j =>
    (val_eq m c t 128 _ 0 ⟨t.val / 16 * 256 + 128, by omega⟩ (by simp) j).trans (H.o1 j ⟨t.val / 16, by omega⟩)
  rw [← point_eq t r l R C hR hC]
  by_cases h : t.val % 2 = 1
  · rw [outsAt0_B m c t h]
    exact outB_at c t _ _ _ _ _ _ _ _ _ _ _ _ _ _ _ _ h (fun r j => by rw [e0]; exact H.top _ _ _ _) (fun r => by rw [e0]; exact H.bot _ _ _)
      (fun r j => by rw [e1]; exact H.top _ _ _ _) (fun r => by rw [e1]; exact H.bot _ _ _) o0 o1 r l
  · rw [outsAt0_A m c t h]
    exact outA_at c t _ _ _ _ _ _ _ _ _ _ _ _ _ _ _ _ h (fun r j => by rw [e0]; exact H.top _ _ _ _) (fun r => by rw [e0]; exact H.bot _ _ _)
      (fun r j => by rw [e1]; exact H.top _ _ _ _) (fun r => by rw [e1]; exact H.bot _ _ _) o0 o1 r l

/-- The result array after the run is the attention at every index. -/
theorem final (H : Ok m c) : (dats m 0 c).arrAt 3 cfg0.N
    = fun x : S16384x1024.Idx => (attn (QQ m c) (KK m c) (VV m c) (x 0) (x 1) : EReal) := by
  refine (dats m 0 c).arrAt_eq_of_covers 3 _ (by decide +kernel) fun t _ y => ?_
  blk_simp
  rw [after0_3]
  have e : y = ix2 (n0 := 1024) (n1 := 128) (y 0) (y 1) := Idealize.ShloMosaic.ValueIdx.eq_ix2 y
  conv_lhs => rw [e]
  refine left_at H t (y 0) (y 1) _ _ ?_ ?_
  · blk_simp [idx t]
  · blk_simp [idx t]

end Cert.KernelIdeal.Hand

end
-- ==== Proof.PreOk.lean ====
/- What the claim's precondition says of the arrays, element by element. -/
module

public import proofs.«01_k».proof.Proof.Final
public import proofs.«01_k».proof.Proof.Gen.Pre_finite_and_ones
public import proofs.«01_k».proof.Defs

@[expose] public section

set_option maxRecDepth 16384

noncomputable section

namespace Cert.KernelIdeal.Hand

open Idealize.ShloMosaic Idealize.ShloMosaic.TcCoe
open Cert.Pre_finite_and_ones (fn S16384x2048)

variable (q k v : FVec Ideal S16384x2048 .bf16)

/-- A number whose absolute value compares below +∞ is neither infinity. -/
theorem fin_of (x : EReal) (h : Ideal.cmp .olt (max x (-x)) ⊤ = 1#1) : x ≠ ⊤ ∧ x ≠ ⊥ := by
  constructor
  · rintro rfl
    simp [Ideal.cmp] at h
  · rintro rfl
    simp [Ideal.cmp] at h

/-- The word of +∞. -/
theorem ofBits_inf : Ideal.ofBits .f32 0x7F800000#32 = ⊤ := by
  simp [Ideal.ofBits, Ideal.ieee]

/-- The first mask: the query's absolute value compares below +∞. -/
theorem fn_q (i : S16384x2048.Idx) : (fn q k v).1 i = Ideal.cmp .olt (max (q i) (-(q i))) ⊤ := by
  rw [← ofBits_inf]; rfl

/-- The second mask: the key's absolute value compares below +∞. -/
theorem fn_k (i : S16384x2048.Idx) : (fn q k v).2.1 i = Ideal.cmp .olt (max (k i) (-(k i))) ⊤ := by
  rw [← ofBits_inf]; rfl

/-- The third mask: lane 64 of the first head of a pair holds one. -/
theorem fn_o0 (r : Fin 16384) (p : Fin 8) (h : (fn q k v).2.2.1 (ix2 r p) = 1#1) :
    (v (ix2 r ⟨p.val * 256 + 64, by have := p.isLt; omega⟩) : EReal) = 1 := by
  revert h
  unfold fn
  pointwise []
  intro h
  by_contra hn
  rw [decide_eq_false hn] at h
  exact absurd h (by decide)

/-- The fourth mask: lane 0 of the second head of a pair holds one. -/
theorem fn_o1 (r : Fin 16384) (p : Fin 8) (h : (fn q k v).2.2.2 (ix2 r p) = 1#1) :
    (v (ix2 r ⟨p.val * 256 + 128, by have := p.isLt; omega⟩) : EReal) = 1 := by
  revert h
  unfold fn
  pointwise []
  intro h
  by_contra hn
  rw [decide_eq_false hn] at h
  exact absurd h (by decide)

/-- The claim's precondition gives what the value proof assumes. -/
theorem ok_of_pre {m : (ℓ : Loc Cert.KernelIdeal.nD Cert.KernelIdeal.τ Cert.KernelIdeal.sig) → Buf (Elt Ideal) ℓ}
    (h : Cert.Pre_KernelIdeal_finite_and_ones m) (c : Dev Cert.KernelIdeal.nD) : Ok m c := by
  obtain ⟨h1, h2, h3, h4⟩ := h c
  refine ⟨fun r l => ?_, fun r l => ?_, fun j p => ?_, fun j p => ?_⟩
  · exact fin_of _ ((fn_q _ _ _ _).symm.trans (congrFun h1 (ix2 r l)))
  · exact fin_of _ ((fn_k _ _ _ _).symm.trans (congrFun h2 (ix2 r l)))
  · exact fn_o0 _ _ _ j p (congrFun h3 (ix2 j p))
  · exact fn_o1 _ _ _ j p (congrFun h4 (ix2 j p))

end Cert.KernelIdeal.Hand

end
-- ==== Proof.FfnPre.lean ====
/- What the second precondition says of the arrays, element by element, and the feed-forward claim. -/
module

public import proofs.«01_k».proof.Proof.FfnRows
public import proofs.«01_k».proof.Proof.FfnRefAt
public import proofs.«01_k».proof.Proof.PreOk
public import proofs.«01_k».proof.Proof.Gen.Pre_finite_gate
public import proofs.«01_k».proof.Defs

@[expose] public section

set_option maxRecDepth 16384

noncomputable section

namespace Cert.Kernel2Ideal.Chunk

open Idealize.ShloMosaic Idealize.ShloMosaic.TcCoe Idealize.SL.Sem
open Cert.Pre_finite_gate (fn)
open Cert.KernelIdeal.Hand (fin_of ofBits_inf)

section
variable (x : FVec Ideal S16384x1024 .f32) (w : FVec Ideal S1024x5632 .f32) (cw : FVec Ideal S3x5632 .f32) (cb : FVec Ideal S5632 .f32)
  (wd : FVec Ideal S2816x1024 .f32) (g b : FVec Ideal S1024 .f32)

theorem fn_x (r : Fin 16384) (k : Fin 1024) (h : (fn x w cw cb wd g b).1 = fun _ => 1#1) : Ffn.Fin' (x (ix2 r k)) := by
  have h := congrFun h (ix2 r k)
  revert h
  unfold fn
  pointwise []
  rw [ofBits_inf]
  exact fin_of _

theorem fn_w (k : Fin 1024) (l : Fin 2816) (h : (fn x w cw cb wd g b).2.1 = fun _ => 1#1) : Ffn.Fin' (w (ix2 k ⟨l.val, by omega⟩)) := by
  have h := congrFun h (ix2 k l)
  revert h
  unfold fn
  pointwise []
  rw [ofBits_inf]
  exact fin_of _

theorem fn_cw (k : Fin 3) (l : Fin 2816) (h : (fn x w cw cb wd g b).2.2.1 = fun _ => 1#1) : Ffn.Fin' (cw (ix2 k ⟨l.val, by omega⟩)) := by
  have h := congrFun h (ix2 k l)
  revert h
  unfold fn
  pointwise []
  rw [ofBits_inf]
  exact fin_of _

theorem fn_cb (l : Fin 2816) (h : (fn x w cw cb wd g b).2.2.2 = fun _ => 1#1) : Ffn.Fin' (cb (ix1 ⟨l.val, by omega⟩)) := by
  have h := congrFun h (ix1 l)
  revert h
  unfold fn
  pointwise []
  rw [ofBits_inf]
  exact fin_of _
end

/-- The claim's second precondition gives what the value proof assumes. -/
theorem ok_of_pre {m : (ℓ : Loc nD τ sig) → Buf (Elt Ideal) ℓ} (h : Cert.Pre_Kernel2Ideal_finite_gate m) (c : Dev nD) : Ok m c := by
  obtain ⟨h1, h2, h3, h4⟩ := h c
  exact ⟨fun r k => fn_x _ _ _ _ _ _ _ r k h1, fun k L hL => fn_w _ _ _ _ _ _ _ k ⟨L.val, hL⟩ h2,
    fun k L hL => fn_cw _ _ _ _ _ _ _ k ⟨L.val, hL⟩ h3, fun L hL => fn_cb _ _ _ _ _ _ _ ⟨L.val, hL⟩ h4⟩

/-- The reference terminates without fault, leaves its arguments as they were, and has no semaphore to leave nonzero. -/
theorem reference_frame : Cert.quiescent_Reference2Ideal := fun m g _ =>
  (θ_run Cert.Reference2Ideal.defs _ _).mono (fun r h => ⟨fun c => by
      have k := (h c).2
      exact ⟨k _ (by simp [Cert.Reference2Ideal.Hand.argRefs]), k _ (by simp [Cert.Reference2Ideal.Hand.argRefs]), k _ (by simp [Cert.Reference2Ideal.Hand.argRefs]),
        k _ (by simp [Cert.Reference2Ideal.Hand.argRefs]), k _ (by simp [Cert.Reference2Ideal.Hand.argRefs]), k _ (by simp [Cert.Reference2Ideal.Hand.argRefs]),
        k _ (by simp [Cert.Reference2Ideal.Hand.argRefs])⟩, sem_eq_zero_of_no_sems (by decide) r.2⟩)
    (Cert.Reference2Ideal.Hand.run m g)

/-- From memories that agree on the arguments and meet the precondition, kernel and reference both end with the feed-forward
    layer of the seven argument arrays in their result, and with their arguments unchanged. -/
theorem feed_forward : Cert.algebraic_Kernel2Ideal_Reference2Ideal_pre_finite_gate := by
  intro m g m' g' hpre hagree
  refine ⟨fun c => (dats m 0 c).arrAt 8 cfg0.N,
    (θ_run defs _ _).mono (fun r h c => ⟨h.1 c, h.2 c⟩) (θ_run_and (run_output m g) (unchanged m g)), ?_⟩
  refine (θ_run Cert.Reference2Ideal.defs _ _).mono (fun r h c => ⟨((h.1 c).1).trans ?_, h.2.1 c⟩)
    (θ_run_and (Cert.Reference2Ideal.Hand.run m' g') (reference_frame m' g' True.intro))
  refine Eq.trans ?_ (final (ok_of_pre hpre c)).symm
  obtain ⟨a0, a1, a2, a3, a4, a5, a6⟩ := hagree c
  rw [a0, a1, a2, a3, a4, a5, a6]
  funext x
  refine (congrArg _ (Idealize.ShloMosaic.ValueIdx.eq_ix2 (n0 := 16384) (n1 := 1024) x)).trans ?_
  exact Cert.Reference2Ideal.Hand.result_at_ix _ _ _ _ _ _ _ (x 0) (x 1)

end Cert.Kernel2Ideal.Chunk

end
-- ==== Proof.InBody.lean ====
/- The attention's input projection: what the kernel's body computes, at an index. -/
module

public import proofs.«01_k».proof.Proof.Gen.Kernel4Ideal.Value
public import proofs.«01_k».proof.Proof.FfnSpec

@[expose] public section

set_option maxRecDepth 16384

noncomputable section

namespace Cert.Kernel4Ideal.Hand

open Cert.Kernel4Ideal Cert.Kernel4Ideal.Gen Idealize.ShloMosaic Idealize.ShloMosaic.TcCoe Idealize.SL.Sem

/-- A vector over the root of its mean square, weighted. -/
def rms {n : Nat} (N : BitVec 32) (v g : Fin n → EReal) (k : Fin n) : EReal :=
  v k * Ideal.rsqrt (Ideal.div (∑ i, v i * v i) (Ideal.ofBits .f32 N) + Ideal.ofBits .f32 0x358637BD#32) * g k

variable (x0 : Vec Ideal S512x1024 .f32) (x1 : Vec Ideal S512x1 .f32) (x2 : Vec Ideal S1x128 .f32) (x3 : Vec Ideal S1024x768 .bf16) (x4 : Vec Ideal S1024x256 .bf16) (x5 : Vec Ideal S1024x128 .bf16) (x6 : Vec Ideal S1x768 .f32) (x7 : Vec Ideal S1x256 .f32) (x8 : Vec Ideal S768x2048 .bf16) (x9 : Vec Ideal S256x2048 .bf16) (x10 : Vec Ideal S256x2048 .bf16) (x11 : Vec Ideal S1x2048 .f32)

theorem pay36_at (r : Fin 512) (k : Fin 768) :
    (k0_pay36 x0 x1 x2 x3 x4 x5 x6 x7 x8 x9 x10 x11 (ix2 r k) : EReal)
      = rms 0x44400000#32 (fun k => ∑ j : Fin 1024, x0 (ix2 r j) * x3 (ix2 j k)) (fun k => x6 (ix2 0 k)) k := by
  unfold rms k0_pay36 k0_pay6 k0_pay4
  pointwise []

theorem pay37_at (r : Fin 512) (k : Fin 256) :
    (k0_pay37 x0 x1 x2 x3 x4 x5 x6 x7 x8 x9 x10 x11 (ix2 r k) : EReal)
      = rms 0x43800000#32 (fun k => ∑ j : Fin 1024, x0 (ix2 r j) * x4 (ix2 j k)) (fun k => x7 (ix2 0 k)) k := by
  unfold rms k0_pay37 k0_pay9 k0_pay8 k0_pay7 k0_pay4
  pointwise []

/-- The kernel's two lane tests, decided. -/
theorem test_hi : ∀ k : Fin 128, IntOp.andi (IntOp.cmpi .sge (BitVec.ofNat 32 k.val) 80#32) (IntOp.cmpi .slt (BitVec.ofNat 32 k.val) 96#32)
    = if 80 ≤ k.val ∧ k.val < 96 then 1#1 else 0#1 := by decide +kernel

theorem test_lo : ∀ k : Fin 128, IntOp.andi (IntOp.cmpi .sge (BitVec.ofNat 32 k.val) 64#32) (IntOp.cmpi .slt (BitVec.ofNat 32 k.val) 80#32)
    = if 64 ≤ k.val ∧ k.val < 80 then 1#1 else 0#1 := by decide +kernel

theorem pick {p : Prop} [Decidable p] (a b : EReal) : Scalar.select (if p then 1#1 else 0#1) a b = if p then a else b := by
  by_cases h : p <;> simp [h, Scalar.select]

/-- The cosine's, and the two sines', factor of a lane. -/
def cosAt (r : Fin 512) (k : Fin 128) : EReal := Ideal.cos (x1 (ix2 r 0) * x2 (ix2 0 k))
def hiAt (r : Fin 512) (k : Fin 128) : EReal := if 80 ≤ k.val ∧ k.val < 96 then Ideal.sin (x1 (ix2 r 0) * x2 (ix2 0 k)) else 0
def loAt (r : Fin 512) (k : Fin 128) : EReal := if 64 ≤ k.val ∧ k.val < 80 then 0 - Ideal.sin (x1 (ix2 r 0) * x2 (ix2 0 k)) else 0

theorem pay13_at (r : Fin 512) (k : Fin 128) : (k0_pay13 x1 x2 (ix2 r k) : EReal) = hiAt x1 x2 r k := by
  unfold k0_pay13 k0_pay12 k0_pay10 hiAt
  pointwise []
  rw [test_hi, pick]

theorem pay14_at (r : Fin 512) (k : Fin 128) : (k0_pay14 x1 x2 (ix2 r k) : EReal) = loAt x1 x2 r k := by
  unfold k0_pay14 k0_pay12 k0_pay10 loAt
  pointwise []
  rw [test_lo, pick]

theorem pay11_at (r : Fin 512) (k : Fin 128) : (k0_pay11 x1 x2 (ix2 r k) : EReal) = cosAt x1 x2 r k := by
  unfold k0_pay11 k0_pay10 cosAt
  pointwise []

/-- The rotated shared key's lanes. -/
theorem pay15_at (a : FVec Ideal S512x128 .f32) (r : Fin 512) (k : Fin 128) :
    (k0_pay15 a x1 x2 (ix2 r k) : EReal)
      = a (ix2 r k) * cosAt x1 x2 r k + a (ix2 r ⟨(k.val + 128 - 16) % 128, by omega⟩) * hiAt x1 x2 r k
        + a (ix2 r ⟨(k.val + 128 - 112) % 128, by omega⟩) * loAt x1 x2 r k := by
  unfold k0_pay15
  pointwise []
  rw [pay11_at, pay13_at, pay14_at]

theorem pay5_at (r : Fin 512) (k : Fin 128) :
    (k0_pay5 x0 x5 (ix2 r k) : EReal) = ∑ j : Fin 1024, x0 (ix2 r j) * x5 (ix2 j k) := by
  unfold k0_pay5 k0_pay4
  pointwise []

/-- The lane of a pair's column. -/
abbrev lane {n : Nat} (k : Fin n) : Fin 128 := ⟨k.val % 128, by omega⟩

theorem pay16_at (r : Fin 512) (k : Fin 256) :
    (k0_pay16 x1 x2 (ix2 r k) : EReal) = cosAt x1 x2 r (lane k) * Ideal.ofBits .f32 0x3E16C740#32 := by
  unfold k0_pay16
  pointwise []
  split
  all_goals
    rw [pay11_at]
    refine congrArg (fun i => cosAt x1 x2 r i * _) (Fin.ext ?_)
    show _ = k.val % 128
    simp only
    omega

theorem pay17_at (r : Fin 512) (k : Fin 256) :
    (k0_pay17 x1 x2 (ix2 r k) : EReal) = hiAt x1 x2 r (lane k) * Ideal.ofBits .f32 0x3E16C740#32 := by
  unfold k0_pay17
  pointwise []
  split
  all_goals
    rw [pay13_at]
    refine congrArg (fun i => hiAt x1 x2 r i * _) (Fin.ext ?_)
    show _ = k.val % 128
    simp only
    omega

theorem pay18_at (r : Fin 512) (k : Fin 256) :
    (k0_pay18 x1 x2 (ix2 r k) : EReal) = loAt x1 x2 r (lane k) * Ideal.ofBits .f32 0x3E16C740#32 := by
  unfold k0_pay18
  pointwise []
  split
  all_goals
    rw [pay14_at]
    refine congrArg (fun i => loAt x1 x2 r i * _) (Fin.ext ?_)
    show _ = k.val % 128
    simp only
    omega

theorem pay19_at (a : FVec Ideal S512x128 .f32) (r : Fin 512) (k : Fin 256) :
    (k0_pay19 a (ix2 r k) : EReal) = a (ix2 r (lane k)) := by
  unfold k0_pay19
  pointwise []
  split
  all_goals
    refine congrArg (fun i => a (ix2 r i)) (Fin.ext ?_)
    show _ = k.val % 128
    simp only
    omega

theorem pay20_at (a : FVec Ideal S512x768 .bf16) (b c d : FVec Ideal S512x256 .f32) (w : Vec Ideal S768x256 .bf16) (r : Fin 512) (k : Fin 256) :
    (k0_pay20 a b c d w (ix2 r k) : EReal)
      = (∑ x : Fin 768, a (ix2 r x) * w (ix2 x k)) * b (ix2 r k)
        + (∑ x : Fin 768, a (ix2 r x) * w (ix2 x ⟨(k.val + 256 - 16) % 256, by omega⟩)) * c (ix2 r k)
        + (∑ x : Fin 768, a (ix2 r x) * w (ix2 x ⟨(k.val + 256 - 240) % 256, by omega⟩)) * d (ix2 r k) := by
  unfold k0_pay20
  pointwise []

theorem pay21_at (a : FVec Ideal S512x256 .bf16) (b : FVec Ideal S512x128 .f32) (w : Vec Ideal S256x256 .bf16) (r : Fin 512) (k : Fin 256) :
    (k0_pay21 a b w (ix2 r k) : EReal) = (∑ x : Fin 256, a (ix2 r x) * w (ix2 x k)) + b (ix2 r (lane k)) := by
  unfold k0_pay21
  pointwise []
  rw [pay19_at]

theorem pay3_at (a : FVec Ideal S512x256 .bf16) (w : Vec Ideal S256x2048 .bf16) (o : Vec Ideal S1x2048 .f32) (r : Fin 512) (k : Fin 2048) :
    (k0_pay3 a w o (ix2 r k) : EReal) = (∑ x : Fin 256, a (ix2 r x) * w (ix2 x k)) + o (ix2 0 k) := by
  unfold k0_pay3
  pointwise []

/-- The value of a query column: its product, turned with the lane sixteen below or above, and scaled. -/
def qcol (S : Fin 2048 → EReal) (co hi lo : Fin 128 → EReal) (c : Fin 2048) : EReal :=
  S c * (co (lane c) * Ideal.ofBits .f32 0x3E16C740#32)
    + S ⟨(c.val + 2048 - 16) % 2048, by omega⟩ * (hi (lane c) * Ideal.ofBits .f32 0x3E16C740#32)
    + S ⟨(c.val + 16) % 2048, by omega⟩ * (lo (lane c) * Ideal.ofBits .f32 0x3E16C740#32)

theorem qcol_shift (S S' : Fin 2048 → EReal) (T : Fin 256 → EReal) (r : Fin 512) (k : Fin 256) (c : Fin 2048) (o : Nat) (ho : o % 256 = 0) (ho' : o + 256 ≤ 2048)
    (hc : c.val = o + k.val) (hT : ∀ (k : Fin 256) (c : Fin 2048), c.val = o + k.val → T k = S c) :
    T k * (cosAt x1 x2 r (lane k) * Ideal.ofBits .f32 0x3E16C740#32)
      + T ⟨(k.val + 256 - 16) % 256, by omega⟩ * (hiAt x1 x2 r (lane k) * Ideal.ofBits .f32 0x3E16C740#32)
      + T ⟨(k.val + 256 - 240) % 256, by omega⟩ * (loAt x1 x2 r (lane k) * Ideal.ofBits .f32 0x3E16C740#32)
      = qcol S (cosAt x1 x2 r) (hiAt x1 x2 r) (loAt x1 x2 r) c := by
  have hk := k.isLt
  have hl : lane k = lane c := Fin.ext (by show k.val % 128 = c.val % 128; omega)
  unfold qcol
  rw [hl, hT k c hc]
  congr 1
  · congr 1
    unfold hiAt
    by_cases h : 80 ≤ (lane c).val ∧ (lane c).val < 96
    · have h' : 80 ≤ c.val % 128 ∧ c.val % 128 < 96 := h
      rw [hT ⟨(k.val + 256 - 16) % 256, by omega⟩ ⟨(c.val + 2048 - 16) % 2048, by omega⟩ (show (c.val + 2048 - 16) % 2048 = o + (k.val + 256 - 16) % 256 by omega)]
    · simp only [if_neg h, zero_mul, mul_zero]
  · unfold loAt
    by_cases h : 64 ≤ (lane c).val ∧ (lane c).val < 80
    · have h' : 64 ≤ c.val % 128 ∧ c.val % 128 < 80 := h
      rw [hT ⟨(k.val + 256 - 240) % 256, by omega⟩ ⟨(c.val + 16) % 2048, by omega⟩ (show (c.val + 16) % 2048 = o + (k.val + 256 - 240) % 256 by omega)]
    · simp only [if_neg h, zero_mul, mul_zero]

/-- One pair's stored queries. -/
theorem q_piece (a : FVec Ideal S512x768 .bf16) (o : Nat) (ho : o % 256 = 0) (ho' : o + 256 ≤ 2048) (inb) (inb')
    (i : S512x256.Idx) :
    (k0_pay20 a (k0_pay16 x1 x2) (k0_pay17 x1 x2) (k0_pay18 x1 x2) (View.ld x8 (Rect.unit (s := S768x2048) ![0, o] S768x256.size inb)) i : EReal)
      = (fun y : S512x2048.Idx => qcol (fun c => ∑ x : Fin 768, a (ix2 (y 0) x) * x8 (ix2 x c)) (cosAt x1 x2 (y 0)) (hiAt x1 x2 (y 0)) (loAt x1 x2 (y 0)) (y 1))
        ((Rect.unit (s := S512x2048) ![0, o] S512x256.size inb').emb i) := by
  obtain ⟨r, k, rfl⟩ : ∃ (r : Fin 512) (k : Fin 256), i = ix2 r k := ⟨i 0, i 1, Idealize.ShloMosaic.ValueIdx.eq_ix2 i⟩
  rw [pay20_at, pay16_at, pay17_at, pay18_at]
  have hk := k.isLt
  have e0 : (Rect.unit (s := S512x2048) ![0, o] S512x256.size inb').emb (ix2 r k) 0 = r := Fin.ext (by rw [Rect.emb_apply]; show 0 + 1 * r.val = r.val; omega)
  have e1 : ((Rect.unit (s := S512x2048) ![0, o] S512x256.size inb').emb (ix2 r k) 1).val = o + k.val := by
    rw [Rect.emb_apply]; show o + 1 * k.val = o + k.val; omega
  show _ = qcol (fun c => ∑ x : Fin 768, a (ix2 ((Rect.unit (s := S512x2048) ![0, o] S512x256.size inb').emb (ix2 r k) 0) x) * x8 (ix2 x c)) (cosAt x1 x2 ((Rect.unit (s := S512x2048) ![0, o] S512x256.size inb').emb (ix2 r k) 0)) (hiAt x1 x2 ((Rect.unit (s := S512x2048) ![0, o] S512x256.size inb').emb (ix2 r k) 0)) (loAt x1 x2 ((Rect.unit (s := S512x2048) ![0, o] S512x256.size inb').emb (ix2 r k) 0)) ((Rect.unit (s := S512x2048) ![0, o] S512x256.size inb').emb (ix2 r k) 1)
  rw [e0]
  refine qcol_shift x1 x2 (fun c => ∑ x : Fin 768, a (ix2 r x) * x8 (ix2 x c)) (fun _ => 0) (fun k => ∑ x : Fin 768, a (ix2 r x) * View.ld x8 (Rect.unit (s := S768x2048) ![0, o] S768x256.size inb) (ix2 x k)) r k _ o ho ho' e1 ?_
  intro k c hc
  have hk' := k.isLt
  have e : c = (⟨o + k.val, by omega⟩ : Fin 2048) := Fin.ext hc
  rw [e]
  pointwise []

/-- One pair's stored keys. -/
theorem k_piece (a : FVec Ideal S512x256 .bf16) (b : FVec Ideal S512x128 .f32) (o : Nat) (ho : o % 256 = 0) (ho' : o + 256 ≤ 2048) (inb) (inb')
    (i : S512x256.Idx) :
    (k0_pay21 a b (View.ld x9 (Rect.unit (s := S256x2048) ![0, o] S256x256.size inb)) i : EReal)
      = (fun y : S512x2048.Idx => ((∑ x : Fin 256, a (ix2 (y 0) x) * x9 (ix2 x (y 1))) + b (ix2 (y 0) (lane (y 1))) : EReal))
        ((Rect.unit (s := S512x2048) ![0, o] S512x256.size inb').emb i) := by
  obtain ⟨r, k, rfl⟩ : ∃ (r : Fin 512) (k : Fin 256), i = ix2 r k := ⟨i 0, i 1, Idealize.ShloMosaic.ValueIdx.eq_ix2 i⟩
  rw [pay21_at]
  have hk := k.isLt
  have e0 : (Rect.unit (s := S512x2048) ![0, o] S512x256.size inb').emb (ix2 r k) 0 = r := Fin.ext (by rw [Rect.emb_apply]; show 0 + 1 * r.val = r.val; omega)
  have e1 : (Rect.unit (s := S512x2048) ![0, o] S512x256.size inb').emb (ix2 r k) 1 = (⟨o + k.val, by omega⟩ : Fin 2048) := Fin.ext (by
    rw [Rect.emb_apply]; show o + 1 * k.val = o + k.val; omega)
  refine Eq.trans ?_ (congrArg₂ (fun (r : Fin 512) (c : Fin 2048) => ((∑ x : Fin 256, a (ix2 r x) * x9 (ix2 x c)) + b (ix2 r (lane c)) : EReal)) e0 e1).symm
  have hl : lane k = lane (⟨o + k.val, by omega⟩ : Fin 2048) := Fin.ext (by show k.val % 128 = (o + k.val) % 128; omega)
  rw [hl]
  refine congrArg (· + _) ?_
  pointwise []

theorem ld1 : View.ld x1 r0_6 = x1 := View.ld_unit_zero (by decide) _ _

theorem ld2 : View.ld x2 r0_7 = x2 := View.ld_unit_zero (by decide) _ _

/-- The three blocks that the body leaves. -/
theorem q_at (r : Fin 512) (c : Fin 2048) :
    (out0_12 x0 x1 x2 x3 x4 x5 x6 x7 x8 x9 x10 x11 (ix2 r c) : EReal)
      = qcol (fun c => ∑ x : Fin 768, rms 0x44400000#32 (fun k => ∑ j : Fin 1024, x0 (ix2 r j) * x3 (ix2 j k)) (fun k => x6 (ix2 0 k)) x * x8 (ix2 x c))
          (cosAt x1 x2 r) (hiAt x1 x2 r) (loAt x1 x2 r) c := by
  unfold out0_12
  refine Eq.trans (View.canon_apply_of_pieces (Val := Elt Ideal) (S := S512x2048) (e := .bf16) (fun y : S512x2048.Idx => qcol (fun c => ∑ x : Fin 768, k0_pay36 x0 x1 x2 x3 x4 x5 x6 x7 x8 x9 x10 x11 (ix2 (y 0) x) * x8 (ix2 x c))
    (cosAt x1 x2 (y 0)) (hiAt x1 x2 (y 0)) (loAt x1 x2 (y 0)) (y 1)) _ ?_ (ix2 r c) (cover0_12 _ _ _ _ _ _ _ _ (ix2 r c))) ?_
  · have e39 : k0_pay39 x0 x1 x2 x3 x4 x5 x6 x7 x8 x9 x10 x11 = k0_pay16 x1 x2 := by unfold k0_pay39; rw [ld1, ld2]
    have e40 : k0_pay40 x0 x1 x2 x3 x4 x5 x6 x7 x8 x9 x10 x11 = k0_pay17 x1 x2 := by unfold k0_pay40; rw [ld1, ld2]
    have e41 : k0_pay41 x0 x1 x2 x3 x4 x5 x6 x7 x8 x9 x10 x11 = k0_pay18 x1 x2 := by unfold k0_pay41; rw [ld1, ld2]
    rw [e39, e40, e41]
    simp only [List.forall_mem_cons, List.not_mem_nil, false_implies, implies_true, and_true]
    refine ⟨q_piece _ _ _ _ 1792 rfl (by omega) _ _, q_piece _ _ _ _ 1536 rfl (by omega) _ _, q_piece _ _ _ _ 1280 rfl (by omega) _ _, q_piece _ _ _ _ 1024 rfl (by omega) _ _,
      q_piece _ _ _ _ 768 rfl (by omega) _ _, q_piece _ _ _ _ 512 rfl (by omega) _ _, q_piece _ _ _ _ 256 rfl (by omega) _ _, q_piece _ _ _ _ 0 rfl (by omega) _ _⟩
  · refine congrArg (fun S => qcol S (cosAt x1 x2 r) (hiAt x1 x2 r) (loAt x1 x2 r) c) (funext fun c => Finset.sum_congr rfl fun x _ => ?_)
    exact congrArg (· * _) (pay36_at x0 x1 x2 x3 x4 x5 x6 x7 x8 x9 x10 x11 r x)

theorem k_at (r : Fin 512) (c : Fin 2048) :
    (out0_13 x0 x1 x2 x3 x4 x5 x6 x7 x8 x9 x10 x11 (ix2 r c) : EReal)
      = (∑ x : Fin 256, rms 0x43800000#32 (fun k => ∑ j : Fin 1024, x0 (ix2 r j) * x4 (ix2 j k)) (fun k => x7 (ix2 0 k)) x * x9 (ix2 x c))
        + k0_pay38 x0 x1 x2 x3 x4 x5 x6 x7 x8 x9 x10 x11 (ix2 r (lane c)) := by
  unfold out0_13
  refine Eq.trans (View.canon_apply_of_pieces (Val := Elt Ideal) (S := S512x2048) (e := .bf16) (fun y : S512x2048.Idx => ((∑ x : Fin 256, k0_pay37 x0 x1 x2 x3 x4 x5 x6 x7 x8 x9 x10 x11 (ix2 (y 0) x) * x9 (ix2 x (y 1)))
    + k0_pay38 x0 x1 x2 x3 x4 x5 x6 x7 x8 x9 x10 x11 (ix2 (y 0) (lane (y 1))) : EReal)) _ ?_ (ix2 r c) (cover0_13 _ _ _ _ _ _ _ _ (ix2 r c))) ?_
  · simp only [List.forall_mem_cons, List.not_mem_nil, false_implies, implies_true, and_true]
    refine ⟨k_piece _ _ _ 1792 rfl (by omega) _ _, k_piece _ _ _ 1536 rfl (by omega) _ _, k_piece _ _ _ 1280 rfl (by omega) _ _, k_piece _ _ _ 1024 rfl (by omega) _ _,
      k_piece _ _ _ 768 rfl (by omega) _ _, k_piece _ _ _ 512 rfl (by omega) _ _, k_piece _ _ _ 256 rfl (by omega) _ _, k_piece _ _ _ 0 rfl (by omega) _ _⟩
  · refine congrArg (· + _) (Finset.sum_congr rfl fun x _ => ?_)
    exact congrArg (· * _) (pay37_at x0 x1 x2 x3 x4 x5 x6 x7 x8 x9 x10 x11 r x)

theorem v_at (r : Fin 512) (c : Fin 2048) :
    (out0_14 x0 x1 x2 x3 x4 x5 x6 x7 x8 x9 x10 x11 (ix2 r c) : EReal)
      = (∑ x : Fin 256, rms 0x43800000#32 (fun k => ∑ j : Fin 1024, x0 (ix2 r j) * x4 (ix2 j k)) (fun k => x7 (ix2 0 k)) x * x10 (ix2 x c))
        + x11 (ix2 0 c) := by
  frame_out
  rw [pay3_at]
  refine congrArg (· + _) (Finset.sum_congr rfl fun x _ => ?_)
  exact congrArg (· * _) (pay37_at x0 x1 x2 x3 x4 x5 x6 x7 x8 x9 x10 x11 r x)

/-- The shared key's lanes. -/
theorem pe_at (r : Fin 512) (k : Fin 128) :
    (k0_pay38 x0 x1 x2 x3 x4 x5 x6 x7 x8 x9 x10 x11 (ix2 r k) : EReal)
      = (∑ j : Fin 1024, x0 (ix2 r j) * x5 (ix2 j k)) * cosAt x1 x2 r k
        + (∑ j : Fin 1024, x0 (ix2 r j) * x5 (ix2 j ⟨(k.val + 128 - 16) % 128, by omega⟩)) * hiAt x1 x2 r k
        + (∑ j : Fin 1024, x0 (ix2 r j) * x5 (ix2 j ⟨(k.val + 128 - 112) % 128, by omega⟩)) * loAt x1 x2 r k := by
  unfold k0_pay38
  rw [ld1, ld2, pay15_at, pay5_at, pay5_at, pay5_at]
  pointwise []

end Cert.Kernel4Ideal.Hand

end
-- ==== Proof.InRead.lean ====
/- The attention's input projection: the blocks that the kernel's body gets, from the arguments. -/
module

public import proofs.«01_k».proof.Proof.InBody
public import Idealize.ShloMosaic.Lib.Claim

@[expose] public section

set_option maxRecDepth 16384

noncomputable section

namespace Cert.Kernel4Ideal.Hand

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The layer's seven arguments, by row and column. -/
abbrev XX : Fin 16384 → Fin 1024 → EReal := fun r k => m ((c : Thread nD τ).loc main_arg0) (ix2 r k)
abbrev PP : Fin 16384 → EReal := fun r => m ((c : Thread nD τ).loc main_arg1) (ix2 r 0)
abbrev WI : Fin 1024 → Fin 1056 → EReal := fun k l => m ((c : Thread nD τ).loc main_arg2) (ix2 k l)
abbrev QG : Fin 768 → EReal := fun l => m ((c : Thread nD τ).loc main_arg3) (ix1 l)
abbrev KG : Fin 256 → EReal := fun l => m ((c : Thread nD τ).loc main_arg4) (ix1 l)
abbrev UQ : Fin 768 → Fin 1536 → EReal := fun k l => m ((c : Thread nD τ).loc main_arg5) (ix2 k l)
abbrev UK : Fin 256 → Fin 2048 → EReal := fun k l => m ((c : Thread nD τ).loc main_arg6) (ix2 k l)

/-- Which block each window stages at each grid point. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![t.val, 0] ∧ win0_13.index t = ![t.val, 0]
    ∧ win0_14.index t = ![t.val, 0] :=
  (by decide +kernel : ∀ t : Fin grid0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![t.val, 0] ∧ win0_13.index t = ![t.val, 0]
    ∧ win0_14.index t = ![t.val, 0])

theorem t_lt (t : Fin cfg0.N) : t.val < 32 := lt_of_lt_of_eq t.isLt (show cfg0.N = 32 from N_0)

theorem x_at (t : Fin cfg0.N) (r : Fin 512) (k : Fin 1024) (R : Fin 16384) (hR : R.val = t.val * 512 + r.val) :
    (iblk m c 0 t (ix2 r k) : EReal) = XX m c R k := by
  have ht := t_lt t
  blk_ext [iblk, V, idx t]

theorem pos_at (t : Fin cfg0.N) (r : Fin 512) (R : Fin 16384) (hR : R.val = t.val * 512 + r.val) :
    (iblk m c 1 t (ix2 r 0) : EReal) = PP m c R := by
  have ht := t_lt t
  blk_ext [iblk, V, idx t]

/-- The padding's word is zero. -/
theorem pad_zero : (FloatOps.sitofp (F := Ideal) .f32 (0#32 : BitVec 32) : EReal) = 0 := by
  show (((0#32 : BitVec 32).toInt : ℝ) : EReal) = 0
  norm_num

theorem wq_at (t : Fin cfg0.N) (k : Fin 1024) (l : Fin 768) : (iblk m c 3 t (ix2 k l) : EReal) = WI m c k ⟨l.val, by omega⟩ := by
  have e : iblk m c 3 t (ix2 k l) = V m c main_v1 (ix2 k l) := by blk_ext [iblk, idx t]
  refine e.trans ?_
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary]
  after_results_simp
  pointwise []

theorem wkv_at (t : Fin cfg0.N) (k : Fin 1024) (l : Fin 256) : (iblk m c 4 t (ix2 k l) : EReal) = WI m c k ⟨768 + l.val, by omega⟩ := by
  have e : iblk m c 4 t (ix2 k l) = V m c main_v3 (ix2 k l) := by blk_ext [iblk, idx t]
  refine e.trans ?_
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary]
  after_results_simp
  pointwise []

theorem qg_at (t : Fin cfg0.N) (l : Fin 768) : (iblk m c 6 t (ix2 0 l) : EReal) = QG m c l := by
  have e : iblk m c 6 t (ix2 0 l) = V m c main_v55 (ix2 0 l) := by blk_ext [iblk, idx t]
  refine e.trans ?_
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary]
  after_results_simp
  pointwise []

theorem kg_at (t : Fin cfg0.N) (l : Fin 256) : (iblk m c 7 t (ix2 0 l) : EReal) = KG m c l := by
  have e : iblk m c 7 t (ix2 0 l) = V m c main_v56 (ix2 0 l) := by blk_ext [iblk, idx t]
  refine e.trans ?_
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary]
  after_results_simp
  pointwise []

end Cert.Kernel4Ideal.Hand

end
-- ==== Proof.InHost.lean ====
/- The attention's input projection: the weights, the angles' factors and the row of ones that the launch prepares. -/
module

public import proofs.«01_k».proof.Proof.InRead
public import Idealize.ShloMosaic.Lib.Claim

@[expose] public section

set_option maxRecDepth 16384

noncomputable section

namespace Cert.Kernel4Ideal.Hand

open Cert.Kernel4Ideal Cert.Kernel4Ideal.Gen Idealize.ShloMosaic Idealize.ShloMosaic.TcCoe Idealize.SL.Sem

variable (m : (ℓ : Loc nD τ sig) → Buf (Elt Ideal) ℓ) (c : Dev nD)

theorem wpe_at (t : Fin cfg0.N) (k : Fin 1024) (l : Fin 128) : (iblk m c 5 t (ix2 k l) : EReal) = if h : 64 ≤ l.val ∧ l.val < 96 then WI m c k ⟨1024 + (l.val - 64), by omega⟩ else 0 := by
  have e : iblk m c 5 t (ix2 k l) = V m c main_v6 (ix2 k l) := by blk_ext [iblk, idx t]
  refine e.trans ?_
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary]
  after_results_simp
  simp -implicitDefEqProofs only [StableHlo.TRef.toBuf, StableHlo.TRef.ofBuf, cast_cast, cast_eq]
  pointwise []
  by_cases h : 64 ≤ l.val ∧ l.val < 96
  · have h' : 64 ≤ l.val ∧ l.val - 64 < 32 := by omega
    rw [dif_pos h', dif_pos h]
  · have h' : ¬(64 ≤ l.val ∧ l.val - 64 < 32) := by omega
    rw [dif_neg h', dif_neg h]
    exact pad_zero

/-- The queries' weights, each head's 96 lanes in a slot of 128. -/
def slotsQ (x : FVec Ideal S768x1536 .f32) : FVec Ideal S768x2048 .bf16 :=
  truncf .bf16 (shapeCast S768x2048 (pad S768x16x128 ![0, 0, 0] ![0, 0, 32] ![0, 0, 0] (shapeCast S768x16x96 x shapeCasts_S768x1536_S768x16x96)
    (sitofp .f32 (constantI S_ 32 0#32)) pads_S768x16x96_S768x16x128_000_000_0320 h_S_) shapeCasts_S768x16x128_S768x2048) bitsLt_bf16_f32

theorem slotsQ_at (x : FVec Ideal S768x1536 .f32) (k : Fin 768) (l : Fin 2048) :
    slotsQ x (ix2 k l) = if h : l.val % 128 < 96 then x (ix2 k ⟨l.val / 128 * 96 + l.val % 128, by omega⟩) else (0 : EReal) := by
  unfold slotsQ
  pointwise []
  by_cases h : l.val % 128 < 96
  · have h' : l.val / 128 < 16 ∧ l.val % 128 < 96 := by omega
    rw [dif_pos h', dif_pos h]
  · have h' : ¬(l.val / 128 < 16 ∧ l.val % 128 < 96) := by omega
    rw [dif_neg h', dif_neg h]
    exact pad_zero

theorem V_v10 : V m c main_v10 = slotsQ (m ((c : Thread nD τ).loc main_arg5)) := by
  simp only [V, hostOps0, hostOps0_1, hostOps0_2, hostOps0_3, hostOps0_4, hostOps0_5, hostOps0_6, List.flatten_cons, List.flatten_nil, List.append_nil,
    List.cons_append, List.nil_append]
  after_results_simp
  rfl

/-- The keys' weights, each head's 64 lanes in a slot of 128. -/
def slotsK (x : FVec Ideal S256x2048 .f32) : FVec Ideal S256x2048 .bf16 :=
  truncf .bf16 (shapeCast S256x2048 (pad S256x16x128 ![0, 0, 0] ![0, 0, 64] ![0, 0, 0]
    (extractStridedSlice S256x16x64 ![0, 0, 0] (shapeCast S256x16x128 x shapeCasts_S256x2048_S256x16x128) slices_S256x16x128_S256x16x64_0_0_0)
    (sitofp .f32 (constantI S_ 32 0#32)) pads_S256x16x64_S256x16x128_000_000_0640 h_S_) shapeCasts_S256x16x128_S256x2048) bitsLt_bf16_f32

theorem slotsK_at (x : FVec Ideal S256x2048 .f32) (k : Fin 256) (l : Fin 2048) :
    slotsK x (ix2 k l) = if l.val % 128 < 64 then x (ix2 k l) else (0 : EReal) := by
  unfold slotsK
  pointwise []
  by_cases h : l.val % 128 < 64
  · have h' : l.val / 128 < 16 ∧ l.val % 128 < 64 := by omega
    rw [dif_pos h', if_pos h]
  · have h' : ¬(l.val / 128 < 16 ∧ l.val % 128 < 64) := by omega
    rw [dif_neg h', if_neg h]
    exact pad_zero

theorem V_v15 : V m c main_v15 = slotsK (m ((c : Thread nD τ).loc main_arg6)) := by
  simp only [V, hostOps0, hostOps0_1, hostOps0_2, hostOps0_3, hostOps0_4, hostOps0_5, hostOps0_6, List.flatten_cons, List.flatten_nil, List.append_nil,
    List.cons_append, List.nil_append]
  after_results_simp
  rfl

/-- The values' weights by head pair. -/
def valuesBy (x : FVec Ideal S256x2048 .f32) : FVec Ideal S256x8x2x64 .f32 :=
  shapeCast S256x8x2x64 (extractStridedSlice S256x16x64 ![0, 0, 64] (shapeCast S256x16x128 x shapeCasts_S256x2048_S256x16x128) slices_S256x16x128_S256x16x64_0_0_64)
    shapeCasts_S256x16x64_S256x8x2x64

/-- The values' weights, a pair of heads to 256 lanes: the even head's 64, 128 zeros, the odd head's. -/
def slotsV (x : FVec Ideal S256x2048 .f32) : FVec Ideal S256x2048 .bf16 :=
  let ev : FVec Ideal S256x8x64 .f32 := shapeCast S256x8x64 (extractStridedSlice S256x8x1x64 ![0, 0, 0, 0] (valuesBy x) slices_S256x8x2x64_S256x8x1x64_0_0_0_0) shapeCasts_S256x8x1x64_S256x8x64
  let od : FVec Ideal S256x8x64 .f32 := shapeCast S256x8x64 (extractStridedSlice S256x8x1x64 ![0, 0, 1, 0] (valuesBy x) slices_S256x8x2x64_S256x8x1x64_0_0_1_0) shapeCasts_S256x8x1x64_S256x8x64
  let z : FVec Ideal S256x8x64 .f32 := broadcastInDim S256x8x64 ![] bcast_S_S256x8x64 (constant S_ .f32 0x00000000#32)
  truncf .bf16 (shapeCast S256x2048 (concatenate S256x8x4x64 2
    [⟨S256x8x1x64, broadcastInDim S256x8x1x64 ![0, 1, 3] bcast_S256x8x64_S256x8x1x64_0_1_3 ev⟩, ⟨S256x8x1x64, broadcastInDim S256x8x1x64 ![0, 1, 3] bcast_S256x8x64_S256x8x1x64_0_1_3 z⟩,
     ⟨S256x8x1x64, broadcastInDim S256x8x1x64 ![0, 1, 3] bcast_S256x8x64_S256x8x1x64_0_1_3 z⟩, ⟨S256x8x1x64, broadcastInDim S256x8x1x64 ![0, 1, 3] bcast_S256x8x64_S256x8x1x64_0_1_3 od⟩]
    concatenates_S256x8x1x64_S256x8x1x64_S256x8x1x64_S256x8x1x64_S256x8x4x64_d2) shapeCasts_S256x8x4x64_S256x2048) bitsLt_bf16_f32

theorem V_v31 : V m c main_v31 = slotsV (m ((c : Thread nD τ).loc main_arg6)) := by
  simp only [V, hostOps0, hostOps0_1, hostOps0_2, hostOps0_3, hostOps0_4, hostOps0_5, hostOps0_6, List.flatten_cons, List.flatten_nil, List.append_nil,
    List.cons_append, List.nil_append]
  after_results_simp
  rfl

theorem slotsV_at (x : FVec Ideal S256x2048 .f32) (k : Fin 256) (l : Fin 2048) :
    slotsV x (ix2 k l) = if h : l.val % 256 < 64 then x (ix2 k ⟨l.val / 256 * 256 + 64 + l.val % 256, by omega⟩)
      else if 192 ≤ l.val % 256 then x (ix2 k l) else (0 : EReal) := by
  unfold slotsV valuesBy
  pointwise []
  by_cases h : l.val % 256 < 64
  · have h' : l.val / 64 % 4 < 1 := by omega
    rw [dif_pos h', dif_pos h]
    exact congrArg (fun j => x (ix2 k j)) (Fin.ext (by show l.val / 256 * 2 * 128 + (64 + l.val % 64) = l.val / 256 * 256 + 64 + l.val % 256; omega))
  · have h' : ¬(l.val / 64 % 4 < 1) := by omega
    rw [dif_neg h', dif_neg h]
    by_cases h1 : 192 ≤ l.val % 256
    · have h2 : ¬(l.val / 64 % 4 - 1 < 1) := by omega
      have h3 : ¬(l.val / 64 % 4 - 1 - 1 < 1) := by omega
      rw [dif_neg h2, dif_neg h3, if_pos h1]
      exact congrArg (fun j => x (ix2 k j)) (Fin.ext (by show (l.val / 256 * 2 + 1) * 128 + (64 + l.val % 64) = l.val; omega))
    · rw [if_neg h1]
      by_cases h2 : l.val / 64 % 4 - 1 < 1
      · rw [dif_pos h2]
      · have h3 : l.val / 64 % 4 - 1 - 1 < 1 := by omega
        rw [dif_neg h2, dif_pos h3]

/-- The row added to the values: ones in each pair's lanes 64 and 128. -/
def onesRow : FVec Ideal S256 .f32 :=
  Host.scatter scatter_S256_S1_S__n_0_0_0 (fun _ b => b)
    (Host.scatter scatter_S256_S1_S__n_0_0_0 (fun _ b => b) (broadcastInDim S256 ![] bcast_S_S256 (constant S_ .f32 0x00000000#32))
      (broadcastInDim S1 ![] bcast_S_S1 (constantI S_ 32 64#32)) (constant S_ .f32 0x3F800000#32))
    (broadcastInDim S1 ![] bcast_S_S1 (constantI S_ 32 128#32)) (constant S_ .f32 0x3F800000#32)

theorem V_v36 : V m c main_v36 = onesRow := by
  simp only [V, hostOps0, hostOps0_1, hostOps0_2, hostOps0_3, hostOps0_4, hostOps0_5, hostOps0_6, List.flatten_cons, List.flatten_nil, List.append_nil,
    List.cons_append, List.nil_append]
  after_results_simp
  rfl

theorem ones_at (t : Fin cfg0.N) (l : Fin 2048) : iblk m c 11 t (ix2 0 l) = onesRow (ix1 ⟨l.val % 256, by omega⟩) := by
  have e : iblk m c 11 t (ix2 0 l) = V m c main_v40 (ix2 0 l) := by blk_ext [iblk, idx t]
  refine e.trans ?_
  simp only [V, hostOps0, hostOps0_1, hostOps0_2, hostOps0_3, hostOps0_4, hostOps0_5, hostOps0_6, List.flatten_cons, List.flatten_nil, List.append_nil,
    List.cons_append, List.nil_append]
  after_results_simp
  pointwise [onesRow]

/-- The angles' factors. -/
def freqs : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
      (mulf (broadcastInDim S16 ![] bcast_S_S16 (constant S_ .f32 0x40000000#32)) (sitofp .f32 (iotaInDim S16 32 0)))))
      (broadcastInDim S16 ![] bcast_S_S16 (constant S_ .f32 0x42000000#32)))

/-- The angles' factors by lane of a slot: lanes 64 to 79, and again 80 to 95. -/
def slotsF (f : FVec Ideal S16 .f32) : FVec Ideal S1x128 .f32 :=
  shapeCast S1x128 (concatenate S128 0 [⟨S64, broadcastInDim S64 ![] bcast_S_S64 (constant S_ .f32 0x00000000#32)⟩, ⟨S16, f⟩, ⟨S16, f⟩,
    ⟨S32, broadcastInDim S32 ![] bcast_S_S32 (constant S_ .f32 0x00000000#32)⟩] concatenates_S64_S16_S16_S32_S128_d0) shapeCasts_S128_S1x128

theorem V_v54 : V m c main_v54 = slotsF freqs := by
  simp only [V, hostOps0, hostOps0_1, hostOps0_2, hostOps0_3, hostOps0_4, hostOps0_5, hostOps0_6, List.flatten_cons, List.flatten_nil, List.append_nil,
    List.cons_append, List.nil_append]
  after_results_simp
  rfl

theorem slotsF_at (f : FVec Ideal S16 .f32) (l : Fin 128) :
    slotsF f (ix2 0 l) = if h : 64 ≤ l.val ∧ l.val < 96 then f (ix1 ⟨(l.val - 64) % 16, by omega⟩) else (0 : EReal) := by
  unfold slotsF
  pointwise []
  by_cases h : 64 ≤ l.val ∧ l.val < 96
  · have h' : ¬(l.val < 64) := by omega
    rw [dif_pos h, dif_neg h']
    by_cases h1 : l.val - 64 < 16
    · rw [dif_pos h1]
      exact congrArg (fun j => f (ix1 j)) (Fin.ext (by show l.val - 64 = (l.val - 64) % 16; omega))
    · have h2 : l.val - 64 - 16 < 16 := by omega
      rw [dif_neg h1, dif_pos h2]
      exact congrArg (fun j => f (ix1 j)) (Fin.ext (by show l.val - 64 - 16 = (l.val - 64) % 16; omega))
  · rw [dif_neg h]
    by_cases h0 : l.val < 64
    · rw [dif_pos h0]
    · have h1 : ¬(l.val - 64 < 16) := by omega
      have h2 : ¬(l.val - 64 - 16 < 16) := by omega
      rw [dif_neg h0, dif_neg h1, dif_neg h2]

theorem uq_at (t : Fin cfg0.N) (k : Fin 768) (l : Fin 2048) : (iblk m c 8 t (ix2 k l) : EReal)
    = if h : l.val % 128 < 96 then UQ m c k ⟨l.val / 128 * 96 + l.val % 128, by omega⟩ else 0 := by
  have e : iblk m c 8 t (ix2 k l) = V m c main_v10 (ix2 k l) := by blk_ext [iblk, idx t]
  exact e.trans ((congrFun (V_v10 m c) _).trans (slotsQ_at _ k l))

theorem uk_at (t : Fin cfg0.N) (k : Fin 256) (l : Fin 2048) : (iblk m c 9 t (ix2 k l) : EReal)
    = if l.val % 128 < 64 then UK m c k l else 0 := by
  have e : iblk m c 9 t (ix2 k l) = V m c main_v15 (ix2 k l) := by blk_ext [iblk, idx t]
  exact e.trans ((congrFun (V_v15 m c) _).trans (slotsK_at _ k l))

theorem uv_at (t : Fin cfg0.N) (k : Fin 256) (l : Fin 2048) : (iblk m c 10 t (ix2 k l) : EReal)
    = if h : l.val % 256 < 64 then UK m c k ⟨l.val / 256 * 256 + 64 + l.val % 256, by omega⟩ else if 192 ≤ l.val % 256 then UK m c k l else 0 := by
  have e : iblk m c 10 t (ix2 k l) = V m c main_v31 (ix2 k l) := by blk_ext [iblk, idx t]
  exact e.trans ((congrFun (V_v31 m c) _).trans (slotsV_at _ k l))

theorem invf_at (t : Fin cfg0.N) (l : Fin 128) : (iblk m c 2 t (ix2 0 l) : EReal)
    = if h : 64 ≤ l.val ∧ l.val < 96 then freqs (ix1 ⟨(l.val - 64) % 16, by omega⟩) else (0 : EReal) := by
  have e : iblk m c 2 t (ix2 0 l) = V m c main_v54 (ix2 0 l) := by blk_ext [iblk, idx t]
  exact e.trans ((congrFun (V_v54 m c) _).trans (slotsF_at _ l))

end Cert.Kernel4Ideal.Hand

end
-- ==== Proof.InOnes.lean ====
/- The attention's input projection: the row of ones that the launch prepares, at an index. -/
module

public import proofs.«01_k».proof.Proof.InHost
public import Idealize.ShloMosaic.Lib.Routing.OpsSet
public import Idealize.ShloMosaic.Lib.Routing.OpsPair

@[expose] public section
set_option maxRecDepth 16384
noncomputable section
namespace Cert.Kernel4Ideal.Hand
open Cert.Kernel4Ideal Cert.Kernel4Ideal.Gen Idealize.ShloMosaic Idealize.ShloMosaic.TcCoe Idealize.SL.Sem

/-- Which entry the one update writes. -/
theorem lands (w : BitVec 32) (k : S_.Idx) (u : Fin 256) :
    scatter_S256_S1_S__n_0_0_0.resultIdx? k (broadcastInDim S1 ![] bcast_S_S1 (constantI S_ 32 w)) = some (ix1 u) ↔ w.toInt = u.val := by
  refine (Routing.resultIdx?_ix1 (N := 256) scatter_S256_S1_S__n_0_0_0 k _ u).trans ?_
  unfold ScatterDims.start ScatterDims.window
  rw [dif_pos (by decide), dif_neg (by decide)]
  show w.toInt + ((0 : Nat) : Int) = _ ↔ _
  simp

/-- One element of a row set. -/
theorem set_at (w : BitVec 32) (a : FVec Ideal S256 .f32) (v : FVec Ideal S_ .f32) (u : Fin 256) :
    Host.scatter scatter_S256_S1_S__n_0_0_0 (fun _ b => b) a (broadcastInDim S1 ![] bcast_S_S1 (constantI S_ 32 w)) v (ix1 u)
      = if w.toInt = u.val then v ix0 else a (ix1 u) := by
  by_cases h : w.toInt = u.val
  · rw [if_pos h]
    exact Routing.scatter_set_hit _ _ _ _ _ _ (fun k _ => congrArg v (Subsingleton.elim _ _)) ix0 ((lands w _ u).mpr h)
  · rw [if_neg h]
    exact Routing.scatter_set_miss _ _ _ _ _ (fun k e => h ((lands w k u).mp e))

theorem onesRow_at (u : Fin 256) : (onesRow (ix1 u) : EReal) = if u.val = 64 ∨ u.val = 128 then 1 else 0 := by
  have e1 : (constant S_ .f32 0x3F800000#32 : FVec Ideal S_ .f32) ix0 = (1 : EReal) := by
    show Ideal.ofBits .f32 0x3F800000#32 = 1
    simp [Ideal.ofBits, Ideal.ieee, -EReal.coe_mul]; norm_num
  have e0 : (broadcastInDim S256 ![] bcast_S_S256 (constant S_ .f32 0x00000000#32) : FVec Ideal S256 .f32) (ix1 u) = (0 : EReal) := by
    pointwise []
  have w0 : (64#32 : BitVec 32).toInt = 64 := by decide
  have w1 : (128#32 : BitVec 32).toInt = 128 := by decide
  unfold onesRow
  rw [set_at, set_at, e1, e0, w0, w1]
  by_cases a : u.val = 64
  · rw [if_pos (Or.inl a)]; simp [a]
  · by_cases b : u.val = 128
    · rw [if_pos (Or.inr b)]; simp [b]
    · rw [if_neg (by omega), if_neg (by omega), if_neg (by omega)]

end Cert.Kernel4Ideal.Hand
end
-- ==== Proof.InSpec.lean ====
/- The attention's input projection: the three results in plain terms, and the kernel's way of rotating brought to them. -/
module

public import proofs.«01_k».proof.Proof.InBody

@[expose] public section

set_option maxRecDepth 16384

noncomputable section

namespace Cert.Mla

open Cert.Kernel4Ideal Cert.Kernel4Ideal.Hand Idealize.ShloMosaic

/-- The queries' scale. -/
abbrev sc : EReal := Ideal.ofBits .f32 0x3E16C740#32

/-- A head's 96 query lanes in a slot of 128: 64 as they are, two times 16 rotated, the rest zero; all scaled. -/
def slotQ (q : Fin 1536 → EReal) (a : Fin 16 → EReal) (l : Fin 2048) : EReal :=
  if h0 : l.val % 128 < 64 then q ⟨l.val / 128 * 96 + l.val % 128, by omega⟩ * sc
  else if h1 : l.val % 128 < 80 then
    (q ⟨l.val / 128 * 96 + l.val % 128, by omega⟩ * Ideal.cos (a ⟨l.val % 128 - 64, by omega⟩)
      - q ⟨l.val / 128 * 96 + l.val % 128 + 16, by omega⟩ * Ideal.sin (a ⟨l.val % 128 - 64, by omega⟩)) * sc
  else if h2 : l.val % 128 < 96 then
    (q ⟨l.val / 128 * 96 + l.val % 128 - 16, by omega⟩ * Ideal.sin (a ⟨l.val % 128 - 80, by omega⟩)
      + q ⟨l.val / 128 * 96 + l.val % 128, by omega⟩ * Ideal.cos (a ⟨l.val % 128 - 80, by omega⟩)) * sc
  else 0

/-- A head's 64 key lanes and the shared 32 rotated ones in a slot of 128. -/
def slotK (k : Fin 2048 → EReal) (e : Fin 32 → EReal) (a : Fin 16 → EReal) (l : Fin 2048) : EReal :=
  if h0 : l.val % 128 < 64 then k l
  else if h1 : l.val % 128 < 80 then
    e ⟨l.val % 128 - 64, by omega⟩ * Ideal.cos (a ⟨l.val % 128 - 64, by omega⟩)
      - e ⟨l.val % 128 - 48, by omega⟩ * Ideal.sin (a ⟨l.val % 128 - 64, by omega⟩)
  else if h2 : l.val % 128 < 96 then
    e ⟨l.val % 128 - 80, by omega⟩ * Ideal.sin (a ⟨l.val % 128 - 80, by omega⟩)
      + e ⟨l.val % 128 - 64, by omega⟩ * Ideal.cos (a ⟨l.val % 128 - 80, by omega⟩)
  else 0

/-- Two heads' value lanes in a slot of 256, with a one for each head between them. -/
def slotV (k : Fin 2048 → EReal) (l : Fin 2048) : EReal :=
  if h : l.val % 256 < 64 then k ⟨l.val / 256 * 256 + 64 + l.val % 256, by omega⟩
  else if l.val % 256 = 64 ∨ l.val % 256 = 128 then 1
  else if 192 ≤ l.val % 256 then k l
  else 0

/-- The same three as the reference cuts and joins them. -/
def rawQ (q : Fin 1536 → EReal) (a : Fin 16 → EReal) (l : Fin 2048) : EReal :=
  if h : l.val / 128 < 16 ∧ l.val % 128 < 96 then
    (if h0 : l.val % 128 < 64 then q ⟨l.val / 128 * 96 + l.val % 128, by omega⟩
     else if h1 : l.val % 128 - 64 < 16 then
      q ⟨l.val / 128 * 96 + (64 + (l.val % 128 - 64)), by omega⟩ * Ideal.cos (a ⟨l.val % 128 - 64, by omega⟩)
        - q ⟨l.val / 128 * 96 + (64 + (16 + (l.val % 128 - 64))), by omega⟩ * Ideal.sin (a ⟨l.val % 128 - 64, by omega⟩)
     else q ⟨l.val / 128 * 96 + (64 + (l.val % 128 - 64 - 16)), by omega⟩ * Ideal.sin (a ⟨l.val % 128 - 64 - 16, by omega⟩)
        + q ⟨l.val / 128 * 96 + (64 + (16 + (l.val % 128 - 64 - 16))), by omega⟩ * Ideal.cos (a ⟨l.val % 128 - 64 - 16, by omega⟩)) * sc
  else FloatOps.sitofp (F := Ideal) .f32 (0#32 : BitVec 32)

def rawK (k : Fin 2048 → EReal) (s : Fin 1056 → EReal) (a : Fin 16 → EReal) (l : Fin 2048) : EReal :=
  if h : l.val / 128 < 16 ∧ l.val % 128 < 96 then
    (if h0 : l.val % 128 < 64 then k l
     else if h1 : l.val % 128 - 64 < 16 then
      s ⟨1024 + (l.val % 128 - 64), by omega⟩ * Ideal.cos (a ⟨l.val % 128 - 64, by omega⟩)
        - s ⟨1024 + (16 + (l.val % 128 - 64)), by omega⟩ * Ideal.sin (a ⟨l.val % 128 - 64, by omega⟩)
     else s ⟨1024 + (l.val % 128 - 64 - 16), by omega⟩ * Ideal.sin (a ⟨l.val % 128 - 64 - 16, by omega⟩)
        + s ⟨1024 + (16 + (l.val % 128 - 64 - 16)), by omega⟩ * Ideal.cos (a ⟨l.val % 128 - 64 - 16, by omega⟩))
  else FloatOps.sitofp (F := Ideal) .f32 (0#32 : BitVec 32)

def rawV (k : Fin 2048 → EReal) (l : Fin 2048) : EReal :=
  if h0 : l.val % 256 < 64 then k ⟨l.val / 256 * 2 * 128 + (64 + l.val % 256), by omega⟩
  else if h1 : l.val % 256 - 64 < 1 then 1
  else if h2 : l.val % 256 - 64 - 1 < 63 then 0
  else if h3 : l.val % 256 - 64 - 1 - 63 < 1 then 1
  else if h4 : l.val % 256 - 64 - 1 - 63 - 1 < 63 then 0
  else k ⟨(l.val / 256 * 2 + 1) * 128 + (64 + (l.val % 256 - 64 - 1 - 63 - 1 - 63)), by omega⟩

theorem pad_word : (FloatOps.sitofp (F := Ideal) .f32 (0#32 : BitVec 32) : EReal) = 0 := by
  show (((0#32 : BitVec 32).toInt : ℝ) : EReal) = 0
  norm_num

theorem at_eq {n : Nat} (v : Fin n → EReal) {i j : Fin n} (h : i.val = j.val) : v i = v j := congrArg v (Fin.ext h)

theorem rawQ_eq (q : Fin 1536 → EReal) (a : Fin 16 → EReal) (l : Fin 2048) : rawQ q a l = slotQ q a l := by
  unfold rawQ slotQ
  by_cases c2 : l.val % 128 < 96
  · have c : l.val / 128 < 16 ∧ l.val % 128 < 96 := by omega
    rw [dif_pos c]
    by_cases c0 : l.val % 128 < 64
    · rw [dif_pos c0, dif_pos c0]
    · rw [dif_neg c0, dif_neg c0]
      by_cases c1 : l.val % 128 < 80
      · have c' : l.val % 128 - 64 < 16 := by omega
        rw [dif_pos c', dif_pos c1]
        exact congrArg (· * sc) (congrArg₂ (· - ·) (congrArg (· * _) (at_eq q (by dsimp only; omega))) (congrArg (· * _) (at_eq q (by dsimp only; omega))))
      · have c' : ¬ l.val % 128 - 64 < 16 := by omega
        rw [dif_neg c', dif_neg c1, dif_pos c2]
        exact congrArg (· * sc) (congrArg₂ (· + ·) (congrArg₂ (· * ·) (at_eq q (by dsimp only; omega)) (congrArg Ideal.sin (at_eq a (by dsimp only; omega))))
          (congrArg₂ (· * ·) (at_eq q (by dsimp only; omega)) (congrArg Ideal.cos (at_eq a (by dsimp only; omega)))))
  · rw [dif_neg (by omega), dif_neg (by omega), dif_neg (by omega), dif_neg c2]
    exact pad_word

theorem rawK_eq (k : Fin 2048 → EReal) (s : Fin 1056 → EReal) (a : Fin 16 → EReal) (l : Fin 2048) :
    rawK k s a l = slotK k (fun j => s ⟨1024 + j.val, by omega⟩) a l := by
  unfold rawK slotK
  by_cases c2 : l.val % 128 < 96
  · have c : l.val / 128 < 16 ∧ l.val % 128 < 96 := by omega
    rw [dif_pos c]
    by_cases c0 : l.val % 128 < 64
    · rw [dif_pos c0, dif_pos c0]
    · rw [dif_neg c0, dif_neg c0]
      by_cases c1 : l.val % 128 < 80
      · have c' : l.val % 128 - 64 < 16 := by omega
        rw [dif_pos c', dif_pos c1]
        exact congrArg₂ (· - ·) (congrArg (· * _) (at_eq s (by dsimp only))) (congrArg (· * _) (at_eq s (by dsimp only; omega)))
      · have c' : ¬ l.val % 128 - 64 < 16 := by omega
        rw [dif_neg c', dif_neg c1, dif_pos c2]
        exact congrArg₂ (· + ·) (congrArg₂ (· * ·) (at_eq s (by dsimp only; omega)) (congrArg Ideal.sin (at_eq a (by dsimp only; omega))))
          (congrArg₂ (· * ·) (at_eq s (by dsimp only; omega)) (congrArg Ideal.cos (at_eq a (by dsimp only; omega))))
  · rw [dif_neg (by omega), dif_neg (by omega), dif_neg (by omega), dif_neg c2]
    exact pad_word

theorem rawV_eq (k : Fin 2048 → EReal) (l : Fin 2048) : rawV k l = slotV k l := by
  unfold rawV slotV
  by_cases c0 : l.val % 256 < 64
  · rw [dif_pos c0, dif_pos c0]
    exact at_eq k (by dsimp only; omega)
  · rw [dif_neg c0, dif_neg c0]
    by_cases c1 : l.val % 256 - 64 < 1
    · rw [dif_pos c1, if_pos (by omega)]
    · rw [dif_neg c1]
      by_cases c2 : l.val % 256 - 64 - 1 < 63
      · rw [dif_pos c2, if_neg (by omega), if_neg (by omega)]
      · rw [dif_neg c2]
        by_cases c3 : l.val % 256 - 64 - 1 - 63 < 1
        · rw [dif_pos c3, if_pos (by omega)]
        · rw [dif_neg c3]
          by_cases c4 : l.val % 256 - 64 - 1 - 63 - 1 < 63
          · rw [dif_pos c4, if_neg (by omega), if_neg (by omega)]
          · rw [dif_neg c4, if_neg (by omega), if_pos (by omega)]
            exact at_eq k (by dsimp only; omega)

theorem cos_zero : Ideal.cos 0 = 1 := by
  show ((Real.cos 0 : ℝ) : EReal) = 1
  rw [Real.cos_zero]; rfl

theorem sc_real : ∃ x : ℝ, 0 ≤ x ∧ sc = (x : EReal) :=
  ⟨9881408 / 67108864, by norm_num, by simp [sc, Ideal.ofBits, Ideal.ieee, -EReal.coe_mul]; norm_num⟩

theorem times_neg (a b : EReal) : a * -b = -(a * b) := by rw [mul_comm, EReal.neg_mul, mul_comm]

theorem add_mul_sc (a b : EReal) : (a + b) * sc = a * sc + b * sc := by
  obtain ⟨x, hx, e⟩ := sc_real
  rw [e]
  exact EReal.right_distrib_of_nonneg_of_ne_top (EReal.coe_nonneg.mpr hx) (EReal.coe_ne_top x) a b

/-- A weighted sum over rows that are there or zero. -/
theorem sum_if {n : Nat} (P : Prop) [Decidable P] (f : Fin n → EReal) (g : P → Fin n → EReal) :
    ∑ x, f x * (if h : P then g h x else 0) = if h : P then ∑ x, f x * g h x else 0 := by
  by_cases h : P <;> simp [h]

/-- The angles' factors by lane: twice the sixteen from lane 64 on, zero elsewhere. -/
def spread (f : Fin 16 → EReal) (l : Fin 128) : EReal := if h : 64 ≤ l.val ∧ l.val < 96 then f ⟨(l.val - 64) % 16, by omega⟩ else 0

section Rotation

variable {x1 : Vec Ideal S512x1 .f32} {x2 : Vec Ideal S1x128 .f32} {r : Fin 512} {p : EReal} {f : Fin 16 → EReal}
variable (h1 : (x1 (ix2 r 0) : EReal) = p)
  (h2 : ∀ l : Fin 128, (x2 (ix2 0 l) : EReal) = spread f l)
include h1 h2

theorem plain (k : Fin 128) (hk : k.val < 64 ∨ 96 ≤ k.val) : cosAt x1 x2 r k = 1 ∧ hiAt x1 x2 r k = 0 ∧ loAt x1 x2 r k = 0 := by
  unfold cosAt hiAt loAt
  rw [h1, h2 k, spread, dif_neg (by omega), if_neg (by omega), if_neg (by omega), mul_zero, cos_zero]
  exact ⟨rfl, rfl, rfl⟩

theorem first (k : Fin 128) (j : Fin 16) (hk : k.val = 64 + j.val) :
    cosAt x1 x2 r k = Ideal.cos (p * f j) ∧ hiAt x1 x2 r k = 0 ∧ loAt x1 x2 r k = 0 - Ideal.sin (p * f j) := by
  have e : (⟨(k.val - 64) % 16, by omega⟩ : Fin 16) = j := Fin.ext (by show (k.val - 64) % 16 = j.val; omega)
  unfold cosAt hiAt loAt
  rw [h1, h2 k, spread, dif_pos (by omega), if_neg (by omega), if_pos (by omega), e]
  exact ⟨rfl, rfl, rfl⟩

theorem second (k : Fin 128) (j : Fin 16) (hk : k.val = 80 + j.val) :
    cosAt x1 x2 r k = Ideal.cos (p * f j) ∧ hiAt x1 x2 r k = Ideal.sin (p * f j) ∧ loAt x1 x2 r k = 0 := by
  have e : (⟨(k.val - 64) % 16, by omega⟩ : Fin 16) = j := Fin.ext (by show (k.val - 64) % 16 = j.val; omega)
  unfold cosAt hiAt loAt
  rw [h1, h2 k, spread, dif_pos (by omega), if_pos (by omega), if_neg (by omega), e]
  exact ⟨rfl, rfl, rfl⟩

theorem qcol_eq (q : Fin 1536 → EReal) (S : Fin 2048 → EReal)
    (hS : ∀ c : Fin 2048, S c = if h : c.val % 128 < 96 then q ⟨c.val / 128 * 96 + c.val % 128, by omega⟩ else 0) (c : Fin 2048) :
    qcol S (cosAt x1 x2 r) (hiAt x1 x2 r) (loAt x1 x2 r) c = slotQ q (fun j => p * f j) c := by
  have hl : (lane c).val = c.val % 128 := rfl
  unfold qcol slotQ
  by_cases c0 : c.val % 128 < 64
  · obtain ⟨e0, e1, e2⟩ := plain h1 h2 (lane c) (by omega)
    rw [e0, e1, e2, hS c, dif_pos (by omega), dif_pos c0]
    simp
  · rw [dif_neg c0]
    by_cases c1 : c.val % 128 < 80
    · obtain ⟨e0, e1, e2⟩ := first h1 h2 (lane c) ⟨c.val % 128 - 64, by omega⟩ (by show (lane c).val = 64 + (c.val % 128 - 64); omega)
      have hn : (⟨(c.val + 16) % 2048, by omega⟩ : Fin 2048).val % 128 < 96 := by show (c.val + 16) % 2048 % 128 < 96; omega
      have en : (⟨(c.val + 16) % 2048 / 128 * 96 + (c.val + 16) % 2048 % 128, by omega⟩ : Fin 1536) = ⟨c.val / 128 * 96 + c.val % 128 + 16, by omega⟩ :=
        Fin.ext (by show (c.val + 16) % 2048 / 128 * 96 + (c.val + 16) % 2048 % 128 = c.val / 128 * 96 + c.val % 128 + 16; omega)
      rw [e0, e1, e2, hS c, dif_pos (by omega), dif_pos c1, hS ⟨(c.val + 16) % 2048, by omega⟩, dif_pos hn, en, zero_sub, sub_eq_add_neg, add_mul_sc, zero_mul, mul_zero, add_zero,
        EReal.neg_mul, EReal.neg_mul, times_neg, mul_assoc, mul_assoc]
    · rw [dif_neg c1]
      by_cases c2 : c.val % 128 < 96
      · obtain ⟨e0, e1, e2⟩ := second h1 h2 (lane c) ⟨c.val % 128 - 80, by omega⟩ (by show (lane c).val = 80 + (c.val % 128 - 80); omega)
        have hn : (⟨(c.val + 2048 - 16) % 2048, by omega⟩ : Fin 2048).val % 128 < 96 := by show (c.val + 2048 - 16) % 2048 % 128 < 96; omega
        have en : (⟨(c.val + 2048 - 16) % 2048 / 128 * 96 + (c.val + 2048 - 16) % 2048 % 128, by omega⟩ : Fin 1536) = ⟨c.val / 128 * 96 + c.val % 128 - 16, by omega⟩ :=
          Fin.ext (by show (c.val + 2048 - 16) % 2048 / 128 * 96 + (c.val + 2048 - 16) % 2048 % 128 = c.val / 128 * 96 + c.val % 128 - 16; omega)
        rw [e0, e1, e2, hS c, dif_pos (by omega), dif_pos c2, hS ⟨(c.val + 2048 - 16) % 2048, by omega⟩, dif_pos hn, en, add_mul_sc, zero_mul, mul_zero, add_zero,
          mul_assoc, mul_assoc, add_comm]
      · obtain ⟨e0, e1, e2⟩ := plain h1 h2 (lane c) (by omega)
        rw [e0, e1, e2, hS c, dif_neg c2, dif_neg c2]
        simp

theorem kcol_eq (k : Fin 2048 → EReal) (e : Fin 32 → EReal) (S : Fin 2048 → EReal) (E : Fin 128 → EReal)
    (hS : ∀ c : Fin 2048, S c = if c.val % 128 < 64 then k c else 0)
    (hE : ∀ l : Fin 128, E l = if h : 64 ≤ l.val ∧ l.val < 96 then e ⟨l.val - 64, by omega⟩ else 0) (c : Fin 2048) :
    S c + (E (lane c) * cosAt x1 x2 r (lane c) + E ⟨((lane c).val + 128 - 16) % 128, by omega⟩ * hiAt x1 x2 r (lane c)
      + E ⟨((lane c).val + 128 - 112) % 128, by omega⟩ * loAt x1 x2 r (lane c)) = slotK k e (fun j => p * f j) c := by
  have hl : (lane c).val = c.val % 128 := rfl
  unfold slotK
  by_cases c0 : c.val % 128 < 64
  · obtain ⟨e0, e1, e2⟩ := plain h1 h2 (lane c) (by omega)
    rw [e0, e1, e2, hS c, if_pos c0, hE (lane c), dif_neg (by omega), dif_pos c0]
    simp
  · rw [dif_neg c0, hS c, if_neg c0, zero_add]
    by_cases c1 : c.val % 128 < 80
    · obtain ⟨e0, e1, e2⟩ := first h1 h2 (lane c) ⟨c.val % 128 - 64, by omega⟩ (by show (lane c).val = 64 + (c.val % 128 - 64); omega)
      have hm : (⟨((lane c).val + 128 - 112) % 128, by omega⟩ : Fin 128) = ⟨c.val % 128 + 16, by omega⟩ :=
        Fin.ext (by show ((lane c).val + 128 - 112) % 128 = c.val % 128 + 16; omega)
      have ha : 64 ≤ c.val % 128 + 16 ∧ c.val % 128 + 16 < 96 := by omega
      have ea : (⟨c.val % 128 + 16 - 64, by omega⟩ : Fin 32) = ⟨c.val % 128 - 48, by omega⟩ := Fin.ext (by show c.val % 128 + 16 - 64 = c.val % 128 - 48; omega)
      rw [e0, e1, e2, dif_pos c1, hm, hE ⟨c.val % 128 + 16, by omega⟩, dif_pos ha, ea, hE (lane c), dif_pos (by omega), mul_zero, add_zero, zero_sub, times_neg, ← sub_eq_add_neg]
    · rw [dif_neg c1]
      by_cases c2 : c.val % 128 < 96
      · obtain ⟨e0, e1, e2⟩ := second h1 h2 (lane c) ⟨c.val % 128 - 80, by omega⟩ (by show (lane c).val = 80 + (c.val % 128 - 80); omega)
        have hm : (⟨((lane c).val + 128 - 16) % 128, by omega⟩ : Fin 128) = ⟨c.val % 128 - 16, by omega⟩ :=
          Fin.ext (by show ((lane c).val + 128 - 16) % 128 = c.val % 128 - 16; omega)
        have ha : 64 ≤ c.val % 128 - 16 ∧ c.val % 128 - 16 < 96 := by omega
        have ea : (⟨c.val % 128 - 16 - 64, by omega⟩ : Fin 32) = ⟨c.val % 128 - 80, by omega⟩ := Fin.ext (by show c.val % 128 - 16 - 64 = c.val % 128 - 80; omega)
        rw [e0, e1, e2, dif_pos c2, hm, hE ⟨c.val % 128 - 16, by omega⟩, dif_pos ha, ea, hE (lane c), dif_pos (by omega), mul_zero, add_zero, add_comm]
      · obtain ⟨e0, e1, e2⟩ := plain h1 h2 (lane c) (by omega)
        rw [e0, e1, e2, hE (lane c), dif_neg (by omega), dif_neg c2]
        simp

end Rotation

theorem vcol_eq (k : Fin 2048 → EReal) (S : EReal) (o : EReal) (c : Fin 2048)
    (hS : S = if h : c.val % 256 < 64 then k ⟨c.val / 256 * 256 + 64 + c.val % 256, by omega⟩ else if 192 ≤ c.val % 256 then k c else 0)
    (ho : o = if c.val % 256 = 64 ∨ c.val % 256 = 128 then 1 else 0) : S + o = slotV k c := by
  unfold slotV
  rw [hS, ho]
  by_cases c0 : c.val % 256 < 64
  · rw [dif_pos c0, dif_pos c0, if_neg (by omega), add_zero]
  · rw [dif_neg c0, dif_neg c0]
    by_cases c1 : c.val % 256 = 64 ∨ c.val % 256 = 128
    · rw [if_pos c1, if_pos c1, if_neg (by omega), zero_add]
    · rw [if_neg c1, if_neg c1, add_zero]

end Cert.Mla

end
-- ==== Proof.InRef.lean ====
/- The attention's input projection: the reference's results, read at an index. -/
module

public import proofs.«01_k».proof.Proof.InSpec
public import proofs.«01_k».proof.Proof.Gen.Reference4Ideal.Run

@[expose] public section

set_option maxRecDepth 16384

noncomputable section

namespace Cert.Reference4Ideal.Hand

open Cert.Reference4Ideal Cert.Reference4Ideal.Gen Cert.Reference4Ideal.Value Idealize.ShloMosaic Idealize.ShloMosaic.TcCoe Idealize.SL.Sem

/-- The angles' factors. -/
def factors : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
      (mulf (broadcastInDim S16 ![] bcast_S_S16 (constant S_ .f32 0x40000000#32)) (sitofp .f32 (iotaInDim S16 32 0)))))
      (broadcastInDim S16 ![] bcast_S_S16 (constant S_ .f32 0x42000000#32)))

/-- The angles of a position, one for each pair of lanes. -/
def angles (p : FVec Ideal S16384x1 .f32) (f : FVec Ideal S16 .f32) : FVec Ideal S16384x1x16 .f32 :=
  mulf (broadcastInDim S16384x1x16 ![0, 1, 2] bcast_S16384x1x1_S16384x1x16_0_1_2 (broadcastInDim S16384x1x1 ![0, 1] bcast_S16384x1_S16384x1x1_0_1 p))
    (broadcastInDim S16384x1x16 ![0, 1, 2] bcast_S1x1x16_S16384x1x16_0_1_2 (broadcastInDim S1x1x16 ![2] bcast_S16_S1x1x16_2 f))

theorem angles_at (p : FVec Ideal S16384x1 .f32) (f : FVec Ideal S16 .f32) (r : Fin 16384) (j : Fin 16) :
    (angles p f (ix3 r 0 j) : EReal) = p (ix2 r 0) * f (ix1 j) := by
  unfold angles
  pointwise []

/-- The first projection. -/
def lin (x : FVec Ideal S16384x1024 .f32) (w : FVec Ideal S1024x1056 .f32) : FVec Ideal S16384x1056 .f32 :=
  Host.dotGeneral dot_S16384x1024_S1024x1056_S16384x1056_1_0_0_1_n_n none x w

theorem lin_at (x : FVec Ideal S16384x1024 .f32) (w : FVec Ideal S1024x1056 .f32) (r : Fin 16384) (l : Fin 1056) :
    (lin x w (ix2 r l) : EReal) = ∑ k : Fin 1024, x (ix2 r k) * w (ix2 k l) := by
  unfold lin
  pointwise []

/-- The queries, before their rotation. -/
def queries (s : FVec Ideal S16384x1056 .f32) (g : FVec Ideal S768 .f32) (u : FVec Ideal S768x1536 .f32) : FVec Ideal S16384x1536 .f32 :=
  Host.dotGeneral dot_S16384x768_S768x1536_S16384x1536_1_0_0_1_n_n none
    (mulf (mulf (extractStridedSlice S16384x768 ![0, 0] s slices_S16384x1056_S16384x768_0_0)
      (broadcastInDim S16384x768 ![0, 1] bcast_S16384x1_S16384x768_0_1 (Host.rsqrt (addf (Host.divf (broadcastInDim S16384x1 ![0] bcast_S16384_S16384x1_0
        (Host.reduceAdd (mulf (extractStridedSlice S16384x768 ![0, 0] s slices_S16384x1056_S16384x768_0_0)
          (extractStridedSlice S16384x768 ![0, 0] s slices_S16384x1056_S16384x768_0_0)) (constant S_ .f32 0x00000000#32) reducesTo_S16384x768_S16384_d1 h_S_))
        (broadcastInDim S16384x1 ![] bcast_S_S16384x1 (constant S_ .f32 0x44400000#32))) (broadcastInDim S16384x1 ![] bcast_S_S16384x1 (constant S_ .f32 0x358637BD#32))))))
      (broadcastInDim S16384x768 ![0, 1] bcast_S1x768_S16384x768_0_1 (broadcastInDim S1x768 ![1] bcast_S768_S1x768_1 g))) u

theorem queries_at (s : FVec Ideal S16384x1056 .f32) (g : FVec Ideal S768 .f32) (u : FVec Ideal S768x1536 .f32) (r : Fin 16384) (l : Fin 1536) :
    (queries s g u (ix2 r l) : EReal) = ∑ x : Fin 768, Cert.Kernel4Ideal.Hand.rms 0x44400000#32 (fun k : Fin 768 => s (ix2 r ⟨k.val, by omega⟩)) (fun k => g (ix1 k)) x * u (ix2 x l) := by
  unfold queries Cert.Kernel4Ideal.Hand.rms
  pointwise []

/-- Each head's key lanes and value lanes, before the keys' rotated part. -/
def keyvals (s : FVec Ideal S16384x1056 .f32) (g : FVec Ideal S256 .f32) (u : FVec Ideal S256x2048 .f32) : FVec Ideal S16384x2048 .f32 :=
  Host.dotGeneral dot_S16384x256_S256x2048_S16384x2048_1_0_0_1_n_n none
    (mulf (mulf (extractStridedSlice S16384x256 ![0, 768] s slices_S16384x1056_S16384x256_0_768)
      (broadcastInDim S16384x256 ![0, 1] bcast_S16384x1_S16384x256_0_1 (Host.rsqrt (addf (Host.divf (broadcastInDim S16384x1 ![0] bcast_S16384_S16384x1_0
        (Host.reduceAdd (mulf (extractStridedSlice S16384x256 ![0, 768] s slices_S16384x1056_S16384x256_0_768)
          (extractStridedSlice S16384x256 ![0, 768] s slices_S16384x1056_S16384x256_0_768)) (constant S_ .f32 0x00000000#32) reducesTo_S16384x256_S16384_d1 h_S_))
        (broadcastInDim S16384x1 ![] bcast_S_S16384x1 (constant S_ .f32 0x43800000#32))) (broadcastInDim S16384x1 ![] bcast_S_S16384x1 (constant S_ .f32 0x358637BD#32))))))
      (broadcastInDim S16384x256 ![0, 1] bcast_S1x256_S16384x256_0_1 (broadcastInDim S1x256 ![1] bcast_S256_S1x256_1 g))) u

theorem keyvals_at (s : FVec Ideal S16384x1056 .f32) (g : FVec Ideal S256 .f32) (u : FVec Ideal S256x2048 .f32) (r : Fin 16384) (l : Fin 2048) :
    (keyvals s g u (ix2 r l) : EReal) = ∑ x : Fin 256, Cert.Kernel4Ideal.Hand.rms 0x43800000#32 (fun k : Fin 256 => s (ix2 r ⟨768 + k.val, by omega⟩)) (fun k => g (ix1 k)) x * u (ix2 x l) := by
  unfold keyvals Cert.Kernel4Ideal.Hand.rms
  pointwise []

/-- The queries' 16 lanes from lane `o` on of each head's last 32. -/
def lanesQ0 (q : FVec Ideal S16384x1536 .f32) : FVec Ideal S16384x16x16 .f32 :=
  extractStridedSlice S16384x16x16 ![0, 0, 0] (extractStridedSlice S16384x16x32 ![0, 0, 64] (shapeCast S16384x16x96 q shapeCasts_S16384x1536_S16384x16x96)
    slices_S16384x16x96_S16384x16x32_0_0_64) slices_S16384x16x32_S16384x16x16_0_0_0

def lanesQ1 (q : FVec Ideal S16384x1536 .f32) : FVec Ideal S16384x16x16 .f32 :=
  extractStridedSlice S16384x16x16 ![0, 0, 16] (extractStridedSlice S16384x16x32 ![0, 0, 64] (shapeCast S16384x16x96 q shapeCasts_S16384x1536_S16384x16x96)
    slices_S16384x16x96_S16384x16x32_0_0_64) slices_S16384x16x32_S16384x16x16_0_0_16

/-- The queries, rotated and scaled, in slots of 128 lanes. -/
def slotted (q : FVec Ideal S16384x1536 .f32) (a : FVec Ideal S16384x1x16 .f32) : FVec Ideal S16384x2048 .bf16 :=
  truncf .bf16 (shapeCast S16384x2048 (pad S16384x16x128 ![0, 0, 0] ![0, 0, 32] ![0, 0, 0]
    (mulf (concatenate S16384x16x96 2 [⟨S16384x16x64, extractStridedSlice S16384x16x64 ![0, 0, 0] (shapeCast S16384x16x96 q shapeCasts_S16384x1536_S16384x16x96) slices_S16384x16x96_S16384x16x64_0_0_0⟩,
      ⟨S16384x16x32, concatenate S16384x16x32 2
        [⟨S16384x16x16, subf (mulf (lanesQ0 q) (broadcastInDim S16384x16x16 ![0, 1, 2] bcast_S16384x1x16_S16384x16x16_0_1_2 (Host.cos a)))
          (mulf (lanesQ1 q) (broadcastInDim S16384x16x16 ![0, 1, 2] bcast_S16384x1x16_S16384x16x16_0_1_2 (Host.sin a)))⟩,
         ⟨S16384x16x16, addf (mulf (lanesQ0 q) (broadcastInDim S16384x16x16 ![0, 1, 2] bcast_S16384x1x16_S16384x16x16_0_1_2 (Host.sin a)))
          (mulf (lanesQ1 q) (broadcastInDim S16384x16x16 ![0, 1, 2] bcast_S16384x1x16_S16384x16x16_0_1_2 (Host.cos a)))⟩]
        concatenates_S16384x16x16_S16384x16x16_S16384x16x32_d2⟩] concatenates_S16384x16x64_S16384x16x32_S16384x16x96_d2)
      (broadcastInDim S16384x16x96 ![] bcast_S_S16384x16x96 (constant S_ .f32 0x3E16C740#32)))
    (sitofp .f32 (constantI S_ 32 0#32)) pads_S16384x16x96_S16384x16x128_000_000_0320 h_S_) shapeCasts_S16384x16x128_S16384x2048) bitsLt_bf16_f32

theorem slotted_at (q : FVec Ideal S16384x1536 .f32) (a : FVec Ideal S16384x1x16 .f32) (r : Fin 16384) (l : Fin 2048) : (slotted q a (ix2 r l) : EReal) = Mla.rawQ (fun l => q (ix2 r l)) (fun j => a (ix3 r 0 j)) l := by
  unfold slotted lanesQ0 lanesQ1 Mla.rawQ
  pointwise []

/-- The keys' rotated lanes, the same for every head. -/
def lanesK0 (s : FVec Ideal S16384x1056 .f32) : FVec Ideal S16384x1x16 .f32 :=
  extractStridedSlice S16384x1x16 ![0, 0, 0] (broadcastInDim S16384x1x32 ![0, 2] bcast_S16384x32_S16384x1x32_0_2
    (extractStridedSlice S16384x32 ![0, 1024] s slices_S16384x1056_S16384x32_0_1024)) slices_S16384x1x32_S16384x1x16_0_0_0

def lanesK1 (s : FVec Ideal S16384x1056 .f32) : FVec Ideal S16384x1x16 .f32 :=
  extractStridedSlice S16384x1x16 ![0, 0, 16] (broadcastInDim S16384x1x32 ![0, 2] bcast_S16384x32_S16384x1x32_0_2
    (extractStridedSlice S16384x32 ![0, 1024] s slices_S16384x1056_S16384x32_0_1024)) slices_S16384x1x32_S16384x1x16_0_0_16

/-- The keys, each head's 64 lanes and the 32 rotated ones, in slots of 128 lanes. -/
def keys (k : FVec Ideal S16384x2048 .f32) (s : FVec Ideal S16384x1056 .f32) (a : FVec Ideal S16384x1x16 .f32) : FVec Ideal S16384x2048 .bf16 :=
  truncf .bf16 (shapeCast S16384x2048 (pad S16384x16x128 ![0, 0, 0] ![0, 0, 32] ![0, 0, 0]
    (concatenate S16384x16x96 2 [⟨S16384x16x64, extractStridedSlice S16384x16x64 ![0, 0, 0] (shapeCast S16384x16x128 k shapeCasts_S16384x2048_S16384x16x128) slices_S16384x16x128_S16384x16x64_0_0_0⟩,
      ⟨S16384x16x32, broadcastInDim S16384x16x32 ![0, 1, 2] bcast_S16384x1x32_S16384x16x32_0_1_2 (concatenate S16384x1x32 2
        [⟨S16384x1x16, subf (mulf (lanesK0 s) (Host.cos a)) (mulf (lanesK1 s) (Host.sin a))⟩,
         ⟨S16384x1x16, addf (mulf (lanesK0 s) (Host.sin a)) (mulf (lanesK1 s) (Host.cos a))⟩]
        concatenates_S16384x1x16_S16384x1x16_S16384x1x32_d2)⟩] concatenates_S16384x16x64_S16384x16x32_S16384x16x96_d2)
    (sitofp .f32 (constantI S_ 32 0#32)) pads_S16384x16x96_S16384x16x128_000_000_0320 h_S_) shapeCasts_S16384x16x128_S16384x2048) bitsLt_bf16_f32

theorem keys_at (k : FVec Ideal S16384x2048 .f32) (s : FVec Ideal S16384x1056 .f32) (a : FVec Ideal S16384x1x16 .f32) (r : Fin 16384) (l : Fin 2048) : (keys k s a (ix2 r l) : EReal) = Mla.rawK (fun l => k (ix2 r l)) (fun l => s (ix2 r l)) (fun j => a (ix3 r 0 j)) l := by
  unfold keys lanesK0 lanesK1 Mla.rawK
  pointwise []

/-- The values' lanes by head pair. -/
def byPair (k : FVec Ideal S16384x2048 .f32) : FVec Ideal S16384x8x2x64 .f32 :=
  shapeCast S16384x8x2x64 (extractStridedSlice S16384x16x64 ![0, 0, 64] (shapeCast S16384x16x128 k shapeCasts_S16384x2048_S16384x16x128) slices_S16384x16x128_S16384x16x64_0_0_64)
    shapeCasts_S16384x16x64_S16384x8x2x64

/-- The values, a pair of heads to 256 lanes, with a one for each head. -/
def values (k : FVec Ideal S16384x2048 .f32) : FVec Ideal S16384x2048 .bf16 :=
  truncf .bf16 (shapeCast S16384x2048 (concatenate S16384x8x256 2
    [⟨S16384x8x64, shapeCast S16384x8x64 (extractStridedSlice S16384x8x1x64 ![0, 0, 0, 0] (byPair k) slices_S16384x8x2x64_S16384x8x1x64_0_0_0_0) shapeCasts_S16384x8x1x64_S16384x8x64⟩,
     ⟨S16384x8x1, broadcastInDim S16384x8x1 ![] bcast_S_S16384x8x1 (constant S_ .f32 0x3F800000#32)⟩,
     ⟨S16384x8x63, broadcastInDim S16384x8x63 ![] bcast_S_S16384x8x63 (constant S_ .f32 0x00000000#32)⟩,
     ⟨S16384x8x1, broadcastInDim S16384x8x1 ![] bcast_S_S16384x8x1 (constant S_ .f32 0x3F800000#32)⟩,
     ⟨S16384x8x63, broadcastInDim S16384x8x63 ![] bcast_S_S16384x8x63 (constant S_ .f32 0x00000000#32)⟩,
     ⟨S16384x8x64, shapeCast S16384x8x64 (extractStridedSlice S16384x8x1x64 ![0, 0, 1, 0] (byPair k) slices_S16384x8x2x64_S16384x8x1x64_0_0_1_0) shapeCasts_S16384x8x1x64_S16384x8x64⟩]
    concatenates_S16384x8x64_S16384x8x1_S16384x8x63_S16384x8x1_S16384x8x63_S16384x8x64_S16384x8x256_d2) shapeCasts_S16384x8x256_S16384x2048) bitsLt_bf16_f32

theorem values_at (k : FVec Ideal S16384x2048 .f32) (r : Fin 16384) (l : Fin 2048) : (values k (ix2 r l) : EReal) = Mla.rawV (fun l => k (ix2 r l)) l := by
  unfold values byPair Mla.rawV
  pointwise []

variable (m : (ℓ : Loc nD τ sig) → Buf (Elt Ideal) ℓ) (c : Dev nD)

abbrev proj : FVec Ideal S16384x1056 .f32 := lin (m ((c.tc : Thread nD τ).loc main_arg0)) (m ((c.tc : Thread nD τ).loc main_arg2))

theorem res_q : res_main_v112 m c = slotted (queries (proj m c) (m ((c.tc : Thread nD τ).loc main_arg3)) (m ((c.tc : Thread nD τ).loc main_arg5)))
    (angles (m ((c.tc : Thread nD τ).loc main_arg1)) factors) := rfl

theorem res_k : res_main_v115 m c = keys (keyvals (proj m c) (m ((c.tc : Thread nD τ).loc main_arg4)) (m ((c.tc : Thread nD τ).loc main_arg6))) (proj m c)
    (angles (m ((c.tc : Thread nD τ).loc main_arg1)) factors) := rfl

theorem res_v : res_main_v109 m c = values (keyvals (proj m c) (m ((c.tc : Thread nD τ).loc main_arg4)) (m ((c.tc : Thread nD τ).loc main_arg6))) := rfl

end Cert.Reference4Ideal.Hand

end
-- ==== Proof.InLn.lean ====
/- The attention's input projection: what the kernel leaves in its three results, and its agreement with the reference. -/
module

public import proofs.«01_k».proof.Proof.InOnes
public import proofs.«01_k».proof.Proof.InRef
public import proofs.«01_k».proof.Defs
public import Idealize.ShloMosaic.Adequacy
public import Idealize.ShloMosaic.Init
public import Idealize.ShloMosaic.Lib.Claim

@[expose] public section

set_option maxRecDepth 16384

noncomputable section

namespace Cert.Kernel4Ideal.Hand

open Cert Cert.Kernel4Ideal Cert.Kernel4Ideal.Gen Idealize.ShloMosaic Idealize.ShloMosaic.TcCoe Idealize.SL.Sem

/-- The first projection of a row. -/
def row (x : Fin 16384 → Fin 1024 → EReal) (w : Fin 1024 → Fin 1056 → EReal) (r : Fin 16384) (l : Fin 1056) : EReal := ∑ k, x r k * w k l

/-- The queries of a row, before their rotation. -/
def qs (x : Fin 16384 → Fin 1024 → EReal) (w : Fin 1024 → Fin 1056 → EReal) (g : Fin 768 → EReal) (u : Fin 768 → Fin 1536 → EReal) (r : Fin 16384) (l : Fin 1536) : EReal :=
  ∑ i : Fin 768, rms 0x44400000#32 (fun k : Fin 768 => row x w r ⟨k.val, by omega⟩) g i * u i l

/-- The keys' and values' lanes of a row. -/
def kvs (x : Fin 16384 → Fin 1024 → EReal) (w : Fin 1024 → Fin 1056 → EReal) (g : Fin 256 → EReal) (u : Fin 256 → Fin 2048 → EReal) (r : Fin 16384) (l : Fin 2048) : EReal :=
  ∑ i : Fin 256, rms 0x43800000#32 (fun k : Fin 256 => row x w r ⟨768 + k.val, by omega⟩) g i * u i l

variable {m : (ℓ : Loc nD τ sig) → Buf (Elt Ideal) ℓ} {c : Dev nD}

theorem rms_congr {n : Nat} (N : BitVec 32) {v v' g g' : Fin n → EReal} (hv : ∀ k, v k = v' k) (hg : ∀ k, g k = g' k) (k : Fin n) : rms N v g k = rms N v' g' k := by
  rw [show v = v' from funext hv, show g = g' from funext hg]

section Body

variable {x0 : Vec Ideal S512x1024 .f32} {x1 : Vec Ideal S512x1 .f32} {x2 : Vec Ideal S1x128 .f32} {x3 : Vec Ideal S1024x768 .bf16} {x4 : Vec Ideal S1024x256 .bf16} {x5 : Vec Ideal S1024x128 .bf16} {x6 : Vec Ideal S1x768 .f32} {x7 : Vec Ideal S1x256 .f32} {x8 : Vec Ideal S768x2048 .bf16} {x9 : Vec Ideal S256x2048 .bf16} {x10 : Vec Ideal S256x2048 .bf16} {x11 : Vec Ideal S1x2048 .f32}
variable {x : Fin 16384 → Fin 1024 → EReal} {p : EReal} {f : Fin 16 → EReal} {w : Fin 1024 → Fin 1056 → EReal} {qg : Fin 768 → EReal} {kg : Fin 256 → EReal}
  {uq : Fin 768 → Fin 1536 → EReal} {uk : Fin 256 → Fin 2048 → EReal} {r : Fin 512} {R : Fin 16384}
variable (h0 : ∀ k, (x0 (ix2 r k) : EReal) = x R k) (h1 : (x1 (ix2 r 0) : EReal) = p)
  (h2 : ∀ l : Fin 128, (x2 (ix2 0 l) : EReal) = Mla.spread f l)
include h0

include h1 h2 in
theorem body_q (h3 : ∀ k (l : Fin 768), (x3 (ix2 k l) : EReal) = w k ⟨l.val, by omega⟩) (h6 : ∀ l, (x6 (ix2 0 l) : EReal) = qg l)
    (h8 : ∀ k (l : Fin 2048), (x8 (ix2 k l) : EReal) = if h : l.val % 128 < 96 then uq k ⟨l.val / 128 * 96 + l.val % 128, by omega⟩ else 0) (l : Fin 2048) :
    (out0_12 x0 x1 x2 x3 x4 x5 x6 x7 x8 x9 x10 x11 (ix2 r l) : EReal) = Mla.slotQ (qs x w qg uq R) (fun j => p * f j) l := by
  refine (q_at _ _ _ _ _ _ _ _ _ _ _ _ r l).trans (Mla.qcol_eq h1 h2 _ _ (fun l => ?_) l)
  refine (Finset.sum_congr rfl fun i _ => congrArg₂ (· * ·) (rms_congr _ (fun k => Finset.sum_congr rfl fun j _ => congrArg₂ (· * ·) (h0 j) (h3 j k)) h6 i) (h8 i l)).trans ?_
  exact Mla.sum_if _ _ (fun h i => uq i ⟨l.val / 128 * 96 + l.val % 128, by omega⟩)

include h1 h2 in
theorem body_k (h4 : ∀ k (l : Fin 256), (x4 (ix2 k l) : EReal) = w k ⟨768 + l.val, by omega⟩) (h7 : ∀ l, (x7 (ix2 0 l) : EReal) = kg l)
    (h5 : ∀ k (l : Fin 128), (x5 (ix2 k l) : EReal) = if h : 64 ≤ l.val ∧ l.val < 96 then w k ⟨1024 + (l.val - 64), by omega⟩ else 0)
    (h9 : ∀ k (l : Fin 2048), (x9 (ix2 k l) : EReal) = if l.val % 128 < 64 then uk k l else 0) (l : Fin 2048) :
    (out0_13 x0 x1 x2 x3 x4 x5 x6 x7 x8 x9 x10 x11 (ix2 r l) : EReal)
      = Mla.slotK (kvs x w kg uk R) (fun j => row x w R ⟨1024 + j.val, by omega⟩) (fun j => p * f j) l := by
  refine (k_at _ _ _ _ _ _ _ _ _ _ _ _ r l).trans ((congrArg _ (pe_at _ _ _ _ _ _ _ _ _ _ _ _ r (lane l))).trans
    (Mla.kcol_eq h1 h2 _ _
      (fun l => ∑ i : Fin 256, rms 0x43800000#32 (fun k => ∑ j : Fin 1024, x0 (ix2 r j) * x4 (ix2 j k)) (fun k => x7 (ix2 0 k)) i * x9 (ix2 i l))
      (fun l => ∑ j : Fin 1024, x0 (ix2 r j) * x5 (ix2 j l)) (fun l => ?_) (fun l => ?_) l))
  · refine (Finset.sum_congr rfl fun i _ => congrArg₂ (· * ·) (rms_congr _ (fun k => Finset.sum_congr rfl fun j _ => congrArg₂ (· * ·) (h0 j) (h4 j k)) h7 i) (h9 i l)).trans ?_
    exact Mla.sum_if _ _ (fun _ i => uk i l)
  · refine (Finset.sum_congr rfl fun i _ => congrArg₂ (· * ·) (h0 i) (h5 i l)).trans ?_
    exact Mla.sum_if _ _ (fun h i => w i ⟨1024 + (l.val - 64), by omega⟩)

theorem body_v (h4 : ∀ k (l : Fin 256), (x4 (ix2 k l) : EReal) = w k ⟨768 + l.val, by omega⟩) (h7 : ∀ l, (x7 (ix2 0 l) : EReal) = kg l)
    (h10 : ∀ k (l : Fin 2048), (x10 (ix2 k l) : EReal) = if h : l.val % 256 < 64 then uk k ⟨l.val / 256 * 256 + 64 + l.val % 256, by omega⟩ else if 192 ≤ l.val % 256 then uk k l else 0)
    (h11 : ∀ l : Fin 2048, (x11 (ix2 0 l) : EReal) = if l.val % 256 = 64 ∨ l.val % 256 = 128 then 1 else 0) (l : Fin 2048) :
    (out0_14 x0 x1 x2 x3 x4 x5 x6 x7 x8 x9 x10 x11 (ix2 r l) : EReal) = Mla.slotV (kvs x w kg uk R) l := by
  refine (v_at _ _ _ _ _ _ _ _ _ _ _ _ r l).trans (Mla.vcol_eq _ _ _ l ?_ (h11 l))
  refine (Finset.sum_congr rfl fun i _ => congrArg₂ (· * ·) (rms_congr _ (fun k => Finset.sum_congr rfl fun j _ => congrArg₂ (· * ·) (h0 j) (h4 j k)) h7 i) (h10 i l)).trans ?_
  by_cases h : l.val % 256 < 64
  · simp only [dif_pos h]
    rfl
  · simp only [dif_neg h]
    exact Mla.sum_if _ _ (fun _ i => uk i l)

end Body

theorem left_q (t : Fin cfg0.N) (r : Fin 512) (l : Fin 2048) (R : Fin 16384) (L : Fin 2048) (hR : R.val = t.val * 512 + r.val) (hL : L.val = l.val) :
    (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
      (iblk m c 11 t) (ix2 r l) : EReal) = Mla.slotQ (qs (XX m c) (WI m c) (QG m c) (UQ m c) R) (fun j => PP m c R * freqs (ix1 j)) L := by
  obtain rfl := Fin.ext hL
  exact body_q (fun k => x_at m c t r k R hR) (pos_at m c t r R hR) (fun l => (invf_at m c t l).trans (show _ = Mla.spread (fun j => freqs (ix1 j)) l from rfl)) (wq_at m c t) (qg_at m c t) (uq_at m c t) L

theorem left_k (t : Fin cfg0.N) (r : Fin 512) (l : Fin 2048) (R : Fin 16384) (L : Fin 2048) (hR : R.val = t.val * 512 + r.val) (hL : L.val = l.val) :
    (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
      (iblk m c 11 t) (ix2 r l) : EReal)
      = Mla.slotK (kvs (XX m c) (WI m c) (KG m c) (UK m c) R) (fun j => row (XX m c) (WI m c) R ⟨1024 + j.val, by omega⟩) (fun j => PP m c R * freqs (ix1 j)) L := by
  obtain rfl := Fin.ext hL
  exact body_k (fun k => x_at m c t r k R hR) (pos_at m c t r R hR) (fun l => (invf_at m c t l).trans (show _ = Mla.spread (fun j => freqs (ix1 j)) l from rfl)) (wkv_at m c t) (kg_at m c t) (wpe_at m c t) (uk_at m c t) L

theorem left_v (t : Fin cfg0.N) (r : Fin 512) (l : Fin 2048) (R : Fin 16384) (L : Fin 2048) (hR : R.val = t.val * 512 + r.val) (hL : L.val = l.val) :
    (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)
      (iblk m c 11 t) (ix2 r l) : EReal) = Mla.slotV (kvs (XX m c) (WI m c) (KG m c) (UK m c) R) L := by
  obtain rfl := Fin.ext hL
  exact body_v (fun k => x_at m c t r k R hR) (wkv_at m c t) (kg_at m c t) (uv_at m c t) (fun l => (ones_at m c t l).trans (onesRow_at _)) L

/-- The result arrays after the run. -/
theorem final_q : (dats m 0 c).arrAt 12 cfg0.N = fun x : S16384x2048.Idx =>
    (Mla.slotQ (qs (XX m c) (WI m c) (QG m c) (UQ m c) (x 0)) (fun j => PP m c (x 0) * freqs (ix1 j)) (x 1) : EReal) := by
  refine (dats m 0 c).arrAt_eq_of_covers 12 _ (by decide +kernel) fun t _ y => ?_
  blk_simp
  rw [after0_12]
  have e : y = ix2 (n0 := 512) (n1 := 2048) (y 0) (y 1) := Idealize.ShloMosaic.ValueIdx.eq_ix2 y
  conv_lhs => rw [e]
  refine left_q t (y 0) (y 1) _ _ ?_ ?_
  · blk_simp [idx t]
  · blk_simp [idx t]

theorem final_k : (dats m 0 c).arrAt 13 cfg0.N = fun x : S16384x2048.Idx =>
    (Mla.slotK (kvs (XX m c) (WI m c) (KG m c) (UK m c) (x 0)) (fun j => row (XX m c) (WI m c) (x 0) ⟨1024 + j.val, by omega⟩) (fun j => PP m c (x 0) * freqs (ix1 j)) (x 1) : EReal) := by
  refine (dats m 0 c).arrAt_eq_of_covers 13 _ (by decide +kernel) fun t _ y => ?_
  blk_simp
  rw [after0_13]
  have e : y = ix2 (n0 := 512) (n1 := 2048) (y 0) (y 1) := Idealize.ShloMosaic.ValueIdx.eq_ix2 y
  conv_lhs => rw [e]
  refine left_k t (y 0) (y 1) _ _ ?_ ?_
  · blk_simp [idx t]
  · blk_simp [idx t]

theorem final_v : (dats m 0 c).arrAt 14 cfg0.N = fun x : S16384x2048.Idx => (Mla.slotV (kvs (XX m c) (WI m c) (KG m c) (UK m c) (x 0)) (x 1) : EReal) := by
  refine (dats m 0 c).arrAt_eq_of_covers 14 _ (by decide +kernel) fun t _ y => ?_
  blk_simp
  rw [after0_14]
  have e : y = ix2 (n0 := 512) (n1 := 2048) (y 0) (y 1) := Idealize.ShloMosaic.ValueIdx.eq_ix2 y
  conv_lhs => rw [e]
  refine left_v t (y 0) (y 1) _ _ ?_ ?_
  · blk_simp [idx t]
  · blk_simp [idx t]

end Cert.Kernel4Ideal.Hand

namespace Cert.Mla

open Idealize.ShloMosaic Idealize.ShloMosaic.TcCoe Idealize.SL.Sem

open Cert.Kernel4Ideal.Hand in
/-- The reference's three results, over the same rows. -/
theorem lines (x : FVec Ideal Cert.Reference4Ideal.S16384x1024 .f32) (w : FVec Ideal Cert.Reference4Ideal.S1024x1056 .f32) (r : Fin 16384) (l : Fin 1056) :
    (Cert.Reference4Ideal.Hand.lin x w (ix2 r l) : EReal) = row (fun r k => x (ix2 r k)) (fun k l => w (ix2 k l)) r l :=
  Cert.Reference4Ideal.Hand.lin_at x w r l

variable (x : FVec Ideal Cert.Reference4Ideal.S16384x1024 .f32) (p : FVec Ideal Cert.Reference4Ideal.S16384x1 .f32) (w : FVec Ideal Cert.Reference4Ideal.S1024x1056 .f32)
  (qg : FVec Ideal Cert.Reference4Ideal.S768 .f32) (kg : FVec Ideal Cert.Reference4Ideal.S256 .f32) (uq : FVec Ideal Cert.Reference4Ideal.S768x1536 .f32)
  (uk : FVec Ideal Cert.Reference4Ideal.S256x2048 .f32) (r : Fin 16384) (l : Fin 2048)

open Cert.Kernel4Ideal.Hand in
theorem ref_qs (l : Fin 1536) : (Cert.Reference4Ideal.Hand.queries (Cert.Reference4Ideal.Hand.lin x w) qg uq (ix2 r l) : EReal)
    = qs (fun r k => x (ix2 r k)) (fun k l => w (ix2 k l)) (fun l => qg (ix1 l)) (fun k l => uq (ix2 k l)) r l :=
  (Cert.Reference4Ideal.Hand.queries_at _ _ _ r l).trans (Finset.sum_congr rfl fun i _ => congrArg (· * _) (rms_congr _ (fun k => lines x w r _) (fun _ => rfl) i))

open Cert.Kernel4Ideal.Hand in
theorem ref_kvs (l : Fin 2048) : (Cert.Reference4Ideal.Hand.keyvals (Cert.Reference4Ideal.Hand.lin x w) kg uk (ix2 r l) : EReal)
    = kvs (fun r k => x (ix2 r k)) (fun k l => w (ix2 k l)) (fun l => kg (ix1 l)) (fun k l => uk (ix2 k l)) r l :=
  (Cert.Reference4Ideal.Hand.keyvals_at _ _ _ r l).trans (Finset.sum_congr rfl fun i _ => congrArg (· * _) (rms_congr _ (fun k => lines x w r _) (fun _ => rfl) i))

/-- Both programs' factors are the same. -/
theorem factors_eq : Cert.Reference4Ideal.Hand.factors = Cert.Kernel4Ideal.Hand.freqs := rfl

theorem ref_angles (j : Fin 16) : (Cert.Reference4Ideal.Hand.angles p Cert.Reference4Ideal.Hand.factors (ix3 r 0 j) : EReal)
    = p (ix2 r 0) * Cert.Kernel4Ideal.Hand.freqs (ix1 j) :=
  (Cert.Reference4Ideal.Hand.angles_at p _ r j).trans (congrArg (fun f => p (ix2 r 0) * f (ix1 j)) factors_eq)

open Cert.Kernel4Ideal.Hand in
theorem ref_q : (Cert.Reference4Ideal.Hand.slotted (Cert.Reference4Ideal.Hand.queries (Cert.Reference4Ideal.Hand.lin x w) qg uq)
      (Cert.Reference4Ideal.Hand.angles p Cert.Reference4Ideal.Hand.factors) (ix2 r l) : EReal)
    = slotQ (qs (fun r k => x (ix2 r k)) (fun k l => w (ix2 k l)) (fun l => qg (ix1 l)) (fun k l => uq (ix2 k l)) r) (fun j => p (ix2 r 0) * freqs (ix1 j)) l :=
  (Cert.Reference4Ideal.Hand.slotted_at _ _ r l).trans ((rawQ_eq _ _ l).trans
    (congrArg₂ (fun q a => slotQ q a l) (funext fun l => ref_qs x w qg uq r l) (funext fun j => ref_angles p r j)))

open Cert.Kernel4Ideal.Hand in
theorem ref_k : (Cert.Reference4Ideal.Hand.keys (Cert.Reference4Ideal.Hand.keyvals (Cert.Reference4Ideal.Hand.lin x w) kg uk) (Cert.Reference4Ideal.Hand.lin x w)
      (Cert.Reference4Ideal.Hand.angles p Cert.Reference4Ideal.Hand.factors) (ix2 r l) : EReal)
    = slotK (kvs (fun r k => x (ix2 r k)) (fun k l => w (ix2 k l)) (fun l => kg (ix1 l)) (fun k l => uk (ix2 k l)) r)
      (fun j => row (fun r k => x (ix2 r k)) (fun k l => w (ix2 k l)) r ⟨1024 + j.val, by omega⟩) (fun j => p (ix2 r 0) * freqs (ix1 j)) l := by
  refine (Cert.Reference4Ideal.Hand.keys_at _ _ _ r l).trans ((rawK_eq _ _ _ l).trans ?_)
  rw [show (fun l => Cert.Reference4Ideal.Hand.keyvals (Cert.Reference4Ideal.Hand.lin x w) kg uk (ix2 r l)) = _ from funext fun l => ref_kvs x w kg uk r l]
  exact congrArg₂ (fun e a => slotK _ e a l) (funext fun j => lines x w r _) (funext fun j => ref_angles p r j)

open Cert.Kernel4Ideal.Hand in
theorem ref_v : (Cert.Reference4Ideal.Hand.values (Cert.Reference4Ideal.Hand.keyvals (Cert.Reference4Ideal.Hand.lin x w) kg uk) (ix2 r l) : EReal)
    = slotV (kvs (fun r k => x (ix2 r k)) (fun k l => w (ix2 k l)) (fun l => kg (ix1 l)) (fun k l => uk (ix2 k l)) r) l :=
  (Cert.Reference4Ideal.Hand.values_at _ r l).trans ((rawV_eq _ l).trans (congrArg (fun k => slotV k l) (funext fun l => ref_kvs x w kg uk r l)))

open Cert.Kernel4Ideal.Hand in
/-- From memories that agree on the arguments, kernel and reference both end with the same queries, keys and values in
    their results, and with their arguments unchanged. -/
theorem projection : Cert.algebraic_Kernel4Ideal_Reference4Ideal := by
  intro m g m' g' _ hagree
  refine ⟨fun c => (Cert.Kernel4Ideal.Gen.dats m 0 c).arrAt 12 Cert.Kernel4Ideal.cfg0.N, fun c => (Cert.Kernel4Ideal.Gen.dats m 0 c).arrAt 13 Cert.Kernel4Ideal.cfg0.N,
    fun c => (Cert.Kernel4Ideal.Gen.dats m 0 c).arrAt 14 Cert.Kernel4Ideal.cfg0.N, Cert.Kernel4Ideal.Value.run_blocks m g, ?_⟩
  refine (θ_run Cert.Reference4Ideal.defs _ _).mono (fun r h c => ⟨(h c).1.trans ?_, (h c).2.1.trans ?_, (h c).2.2.1.trans ?_, (h c).2.2.2⟩) (Cert.Reference4Ideal.Value.run m' g')
  · refine Eq.trans ?_ Cert.Kernel4Ideal.Hand.final_q.symm
    funext i
    obtain ⟨r, l, rfl⟩ : ∃ (r : Fin 16384) (l : Fin 2048), i = ix2 r l := ⟨i 0, i 1, Idealize.ShloMosaic.ValueIdx.eq_ix2 i⟩
    obtain ⟨a0, a1, a2, a3, a4, a5, a6⟩ := hagree c
    refine ((congrFun (Cert.Reference4Ideal.Hand.res_q m' c) _).trans (ref_q _ _ _ _ _ r l)).trans ?_
    show _ = slotQ (qs (XX m c) (WI m c) (QG m c) (UQ m c) r) (fun j => PP m c r * freqs (ix1 j)) l
    rw [a0, a1, a2, a3, a5]
  · refine Eq.trans ?_ Cert.Kernel4Ideal.Hand.final_k.symm
    funext i
    obtain ⟨r, l, rfl⟩ : ∃ (r : Fin 16384) (l : Fin 2048), i = ix2 r l := ⟨i 0, i 1, Idealize.ShloMosaic.ValueIdx.eq_ix2 i⟩
    obtain ⟨a0, a1, a2, a3, a4, a5, a6⟩ := hagree c
    refine ((congrFun (Cert.Reference4Ideal.Hand.res_k m' c) _).trans (ref_k _ _ _ _ _ r l)).trans ?_
    show _ = slotK (kvs (XX m c) (WI m c) (KG m c) (UK m c) r) (fun j => row (XX m c) (WI m c) r ⟨1024 + j.val, by omega⟩) (fun j => PP m c r * freqs (ix1 j)) l
    rw [a0, a1, a2, a4, a6]
  · refine Eq.trans ?_ Cert.Kernel4Ideal.Hand.final_v.symm
    funext i
    obtain ⟨r, l, rfl⟩ : ∃ (r : Fin 16384) (l : Fin 2048), i = ix2 r l := ⟨i 0, i 1, Idealize.ShloMosaic.ValueIdx.eq_ix2 i⟩
    obtain ⟨a0, a1, a2, a3, a4, a5, a6⟩ := hagree c
    refine ((congrFun (Cert.Reference4Ideal.Hand.res_v m' c) _).trans (ref_v _ _ _ _ r l)).trans ?_
    show _ = slotV (kvs (XX m c) (WI m c) (KG m c) (UK m c) r) l
    rw [a0, a2, a4, a6]

/-- The reference terminates without fault, leaves its arguments as they were, and has no semaphore to leave nonzero. -/
theorem reference_frame : Cert.quiescent_Reference4Ideal := fun m g _ =>
  (θ_run Cert.Reference4Ideal.defs _ _).mono (fun r h => ⟨fun c => (h c).2.2.2, sem_eq_zero_of_no_sems (by decide) r.2⟩)
    (Cert.Reference4Ideal.Value.run m g)

end Cert.Mla

end
-- ==== Proof.OutLn.lean ====
/- The attention's output projection with its residual and norm: kernel and reference at an index. -/
module

public import proofs.«01_k».proof.Proof.Gen.Kernel3Ideal.Value
public import proofs.«01_k».proof.Proof.Gen.Reference3Ideal.Run
public import proofs.«01_k».proof.Proof.FfnSpec
public import proofs.«01_k».proof.Defs
public import Idealize.ShloMosaic.Adequacy
public import Idealize.ShloMosaic.Init
public import Idealize.ShloMosaic.Lib.Claim

@[expose] public section

set_option maxRecDepth 16384

noncomputable section

namespace Cert.Kernel3Ideal.Hand

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The layer's five arguments, by row and column. -/
abbrev XX : Fin 16384 → Fin 1024 → EReal := fun r k => m ((c : Thread nD τ).loc main_arg0) (ix2 r k)
abbrev YY : Fin 16384 → Fin 1024 → EReal := fun r k => m ((c : Thread nD τ).loc main_arg1) (ix2 r k)
abbrev WW : Fin 1024 → Fin 1024 → EReal := fun k l => m ((c : Thread nD τ).loc main_arg2) (ix2 k l)
abbrev LG : Fin 1024 → EReal := fun l => m ((c : Thread nD τ).loc main_arg3) (ix1 l)
abbrev LB : Fin 1024 → EReal := fun l => m ((c : Thread nD τ).loc main_arg4) (ix1 l)

/-- The projected rows with the weighted residual, normalised. -/
def out (x y : Fin 16384 → Fin 1024 → EReal) (w : Fin 1024 → Fin 1024 → EReal) (g b : Fin 1024 → EReal) (r : Fin 16384) (l : Fin 1024) : EReal :=
  Ffn.normed (fun l => Ideal.ofBits .f32 0x3FD744FD#32 * x r l + ∑ k, y r k * w k l) g b l

/-- Which block each window stages at each grid point. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] :=
  (by decide +kernel : ∀ t : Fin grid0.N, win0_0.index t = ![t.val, 0] ∧ win0_1.index t = ![t.val, 0] ∧ win0_2.index t = ![0, 0] ∧ win0_3.index t = ![0, 0]
    ∧ win0_4.index t = ![0, 0] ∧ win0_5.index t = ![t.val, 0])

theorem t_lt (t : Fin cfg0.N) : t.val < 16 := lt_of_lt_of_eq t.isLt (show cfg0.N = 16 from N_0)

theorem x_at (t : Fin cfg0.N) (r : Fin 1024) (k : Fin 1024) (R : Fin 16384) (hR : R.val = t.val * 1024 + r.val) :
    (iblk m c 0 t (ix2 r k) : EReal) = XX m c R k := by
  have ht := t_lt t
  blk_ext [iblk, V, idx t]

theorem y_at (t : Fin cfg0.N) (r : Fin 1024) (k : Fin 1024) (R : Fin 16384) (hR : R.val = t.val * 1024 + r.val) :
    (iblk m c 1 t (ix2 r k) : EReal) = YY m c R k := by
  have ht := t_lt t
  blk_ext [iblk, V, idx t]

theorem w_at (t : Fin cfg0.N) (k l : Fin 1024) : (iblk m c 2 t (ix2 k l) : EReal) = WW m c k l := by
  have e : iblk m c 2 t (ix2 k l) = V m c main_v0 (ix2 k l) := by blk_ext [iblk, idx t]
  refine e.trans ?_
  entry_read
  pointwise []

theorem g_at (t : Fin cfg0.N) (l : Fin 1024) : (iblk m c 3 t (ix2 0 l) : EReal) = LG m c l := by
  have e : iblk m c 3 t (ix2 0 l) = V m c main_v1 (ix2 0 l) := by blk_ext [iblk, idx t]
  refine e.trans ?_
  entry_read
  pointwise []

theorem b_at (t : Fin cfg0.N) (l : Fin 1024) : (iblk m c 4 t (ix2 0 l) : EReal) = LB m c l := by
  have e : iblk m c 4 t (ix2 0 l) = V m c main_v2 (ix2 0 l) := by blk_ext [iblk, idx t]
  refine e.trans ?_
  entry_read
  pointwise []

/-- What the kernel's body leaves in the output's block, at an index. -/
theorem body_at (x : Vec Ideal S1024x1024 .f32) (y w : Vec Ideal S1024x1024 .bf16) (g b : Vec Ideal S1x1024 .f32) (r l : Fin 1024) :
    (out0_5 x y w g b (ix2 r l) : EReal)
      = Ffn.normed (fun l => Ideal.ofBits .f32 0x3FD744FD#32 * x (ix2 r l) + ∑ k : Fin 1024, y (ix2 r k) * w (ix2 k l)) (fun k => g (ix2 0 k)) (fun k => b (ix2 0 k)) l := by
  unfold Ffn.normed Ffn.mean
  frame_out
  unfold k0_pay1
  pointwise []

variable {m c}

theorem left_at (t : Fin cfg0.N) (r l : Fin 1024) (R : Fin 16384) (L : Fin 1024) (hR : R.val = t.val * 1024 + r.val) (hL : L.val = l.val) :
    (out0_5 (iblk m c 0 t) (iblk m c 1 t) (iblk m c 2 t) (iblk m c 3 t) (iblk m c 4 t) (ix2 r l) : EReal) = out (XX m c) (YY m c) (WW m c) (LG m c) (LB m c) R L := by
  obtain rfl := Fin.ext hL
  refine (body_at _ _ _ _ _ r L).trans (Ffn.normed_congr (fun k => ?_) (fun k => g_at m c t k) (fun k => b_at m c t k) L)
  exact congrArg₂ (· + ·) (congrArg _ (x_at m c t r k R hR)) (Finset.sum_congr rfl fun k' _ => congrArg₂ (· * ·) (y_at m c t r k' R hR) (w_at m c t k' k))

/-- The result array after the run. -/
theorem final : (dats m 0 c).arrAt 5 cfg0.N = fun x : S16384x1024.Idx => (out (XX m c) (YY m c) (WW m c) (LG m c) (LB m c) (x 0) (x 1) : EReal) := by
  refine (dats m 0 c).arrAt_eq_of_covers 5 _ (by decide +kernel) fun t _ y => ?_
  blk_simp
  rw [after0_5]
  have e : y = ix2 (n0 := 1024) (n1 := 1024) (y 0) (y 1) := Idealize.ShloMosaic.ValueIdx.eq_ix2 y
  conv_lhs => rw [e]
  refine left_at t (y 0) (y 1) _ _ ?_ ?_
  · blk_simp [idx t]
  · blk_simp [idx t]

end Cert.Kernel3Ideal.Hand

namespace Cert.Proj

open Idealize.ShloMosaic Idealize.ShloMosaic.TcCoe Idealize.SL.Sem

/-- From memories that agree on the arguments, kernel and reference both end with the normalised projection in their
    result, and with their arguments unchanged. -/
theorem projection : Cert.algebraic_Kernel3Ideal_Reference3Ideal := by
  intro m g m' g' _ hagree
  refine ⟨fun c => (Cert.Kernel3Ideal.Gen.dats m 0 c).arrAt 5 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run m' g')
  refine Eq.trans ?_ Cert.Kernel3Ideal.Hand.final.symm
  funext i
  obtain ⟨r, l, rfl⟩ : ∃ (r : Fin 16384) (l : Fin 1024), i = ix2 r l := ⟨i 0, i 1, Idealize.ShloMosaic.ValueIdx.eq_ix2 i⟩
  rw [(hagree c).1, (hagree c).2.1, (hagree c).2.2.1, (hagree c).2.2.2.1, (hagree c).2.2.2.2]
  unfold Cert.Kernel3Ideal.Hand.out Ffn.normed Ffn.mean
  pointwise []

/-- The reference terminates without fault, leaves its arguments as they were, and has no semaphore to leave nonzero. -/
theorem reference_frame : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

end Cert.Proj

end
-- ==== Proof.RefMask.lean ====
/- The reference's integer mask and its powers of two, in closed form. -/
module

public import proofs.«01_k».proof.Proof.Gen.ReferenceIdeal.Run
public import proofs.«01_k».proof.Proof.Softmax
public import Idealize.ShloMosaic.Lib.Pipeline.ValueKit

@[expose] public section

set_option maxRecDepth 16384

noncomputable section

namespace Cert.ReferenceIdeal.Hand

open Idealize.ShloMosaic Idealize.ShloMosaic.TcCoe Cert.ReferenceIdeal Cert.ReferenceIdeal.Gen Cert.ReferenceIdeal.Value Cert.Soft

/-- Powers of two are what `exp2` is. -/
theorem pow_two (x : EReal) : Ideal.pow (Ideal.ofBits .f32 0x40000000#32) x = Ideal.exp2 x := by
  have e : Ideal.ofBits .f32 0x40000000#32 = ((2 : ℝ) : EReal) := by
    simp only [Ideal.ofBits, Ideal.ieee]
    simp
    rw [← EReal.coe_mul]
    norm_num
  rw [e]
  induction x with
  | bot =>
    rw [Ideal.exp2_bot]
    show (if (2 : ℝ) < 0 then (⊥ : EReal) else if (1 : ℝ) < 2 then 0 else if (2 : ℝ) = 1 then 1 else ⊤) = 0
    norm_num
  | top =>
    rw [Ideal.exp2_top]
    show (if (2 : ℝ) < 0 then (⊥ : EReal) else if (1 : ℝ) < 2 then ⊤ else if (2 : ℝ) = 1 then 1 else 0) = ⊤
    norm_num
  | coe x => rw [Ideal.exp2_coe, Ideal.pow_coe_coe]

/-- The pattern of −∞ denotes −∞. -/
theorem ofBits_negInf : Ideal.ofBits .f32 0xFF800000#32 = (⊥ : EReal) := by
  simp [Ideal.ofBits, Ideal.ieee]

/-- The pattern of zero denotes zero. -/
theorem ofBits_zero : Ideal.ofBits .f32 0x00000000#32 = (0 : EReal) := by
  simp [Ideal.ofBits, Ideal.ieee]

/-- The sign of a word. -/
def sgn (x : BitVec 32) : BitVec 32 := if x = 0 then 0 else if x.msb = true then -1 else 1

/-- A sign spelt out is the sign. -/
theorem sgn_fold (x : BitVec 32) {i1 : Decidable (x = 0)} {i2 : Decidable (x.msb = true)} :
    (@ite _ (x = 0) i1 (0 : BitVec 32) (@ite _ (x.msb = true) i2 (-1) 1)) = sgn x := by
  unfold sgn
  congr

/-- The sign of an integer array, at an index. -/
theorem signi_eq {s : Shape} (x : IVec s 32) : signi x = fun i => sgn (x i) := by
  funext i
  unfold signi
  exact sgn_fold _

/-- The host's floor division of a position by the chunk's 64. -/
def chunkH (x : BitVec 32) : BitVec 32 :=
  Scalar.select (IntOp.andi (IntOp.cmpi CmpIPredicate.ne (sgn x) (sgn 64#32)) (IntOp.cmpi CmpIPredicate.ne (IntOp.remsi ArithUnit.host x 64#32) 0#32))
    (IntOp.subi (IntOp.divsi ArithUnit.host x 64#32) 1#32) (IntOp.divsi ArithUnit.host x 64#32)

theorem chunkH_tab : ∀ a b : Fin 128, chunkH (BitVec.ofNat 32 (a.val * 128 + b.val)) = BitVec.ofNat 32 ((a.val * 128 + b.val) / 64) := by
  decide +kernel

/-- It is the quotient. -/
theorem chunkH_eq (j : Fin 16384) : chunkH (BitVec.ofNat 32 j.val) = BitVec.ofNat 32 (j.val / 64) := by
  have h := chunkH_tab ⟨j.val / 128, by have := j.isLt; omega⟩ ⟨j.val % 128, by omega⟩
  have e : j.val / 128 * 128 + j.val % 128 = j.val := by omega
  simpa only [e] using h

theorem chunk_le : ∀ a b : Fin 256, IntOp.cmpi CmpIPredicate.sle (BitVec.ofNat 32 a.val) (BitVec.ofNat 32 b.val)
    = BitVec.ofBool (decide (a.val ≤ b.val)) := by decide +kernel

/-- The chunk mask of two positions. -/
theorem mask_at (j R : Fin 16384) : IntOp.cmpi CmpIPredicate.sle (chunkH (BitVec.ofNat 32 j.val)) (chunkH (BitVec.ofNat 32 R.val))
    = BitVec.ofBool (decide (j.val / 64 ≤ R.val / 64)) := by
  rw [chunkH_eq, chunkH_eq]
  exact chunk_le ⟨j.val / 64, by have := j.isLt; omega⟩ ⟨R.val / 64, by have := R.isLt; omega⟩

/-- A selection by the mask. -/
theorem sel_at (j R : Fin 16384) (x y : EReal) :
    Scalar.select (IntOp.cmpi CmpIPredicate.sle (chunkH (BitVec.ofNat 32 j.val)) (chunkH (BitVec.ofNat 32 R.val))) x y
      = if j.val / 64 ≤ R.val / 64 then x else y := by
  rw [mask_at]
  by_cases h : j.val / 64 ≤ R.val / 64
  · simp [h, Scalar.select]
  · simp [h, Scalar.select]

end Cert.ReferenceIdeal.Hand

end
-- ==== Proof.Ref.lean ====
/- The reference's result at an index. -/
module

public import proofs.«01_k».proof.Proof.Gen.ReferenceIdeal.Run
public import proofs.«01_k».proof.Proof.Spec
public import proofs.«01_k».proof.Proof.RefMask
public import Idealize.ShloMosaic.Lib.Pipeline.ValueKit

@[expose] public section

set_option maxRecDepth 16384

noncomputable section

namespace Cert.ReferenceIdeal.Hand

open Idealize.ShloMosaic Idealize.ShloMosaic.TcCoe Cert.ReferenceIdeal Cert.ReferenceIdeal.Gen Cert.ReferenceIdeal.Value Cert.Soft

variable (m : (ℓ : Loc nD τ sig) → Buf (Elt Ideal) ℓ) (c : Dev nD)

/-- The reference's result at an index is the attention of its three arguments. -/
theorem ref_at (R : Fin 16384) (C : Fin 1024) :
    (res_main_v37 (F := Ideal) m c (ix2 R C) : EReal)
      = attn (fun r l => m (c.tc.loc main_arg0) (ix2 r l)) (fun r l => m (c.tc.loc main_arg1) (ix2 r l))
          (fun r l => m (c.tc.loc main_arg2) (ix2 r l)) R C := by
  have e64 : id (constantI S_ 32 64#32) ix0 = 64#32 := rfl
  have en : id (constant (F := Ideal) S_ .f32 0xFF800000#32) ix0 = (⊥ : EReal) := ofBits_negInf
  have hsel := sel_at
  unfold chunkH at hsel
  unfold res_main_v37
  simp only [signi_eq]
  pointwise []
  simp only [e64, en]
  simp only [hsel, pow_two, ofBits_negInf, ofBits_zero]
  unfold attn soft
  show @Eq EReal _ _
  refine Finset.sum_congr rfl fun x _ => ?_
  refine congrArg₂ (· * ·) ?_ rfl
  have hC := C.isLt
  split_ifs with h
  · refine congrArg (fun l => m (c.tc.loc main_arg2) (ix2 x l)) (Fin.ext ?_)
    simp only [vlane]
    omega
  · refine congrArg (fun l => m (c.tc.loc main_arg2) (ix2 x l)) (Fin.ext ?_)
    simp only [vlane]
    omega

end Cert.ReferenceIdeal.Hand

end
-- ==== Proof.lean ====
/- The certificate's claim: the frames of the four kernels, of their idealizations and of their references, and that kernel and
   reference compute the same attention, the same feed-forward layer, the same output projection and the same queries, keys and
   values over the extended reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_and_ones
public import proofs.«01_k».proof.Proof.Gen.KernelIdeal.Value
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_gate
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.FfnBits
public import proofs.«01_k».proof.Proof.FfnPre
public import proofs.«01_k».proof.Proof.InLn
public import proofs.«01_k».proof.Proof.OutLn
public import proofs.«01_k».proof.Proof.PreOk
public import proofs.«01_k».proof.Proof.Ref
public import Idealize.ShloMosaic.Adequacy
public import Idealize.ShloMosaic.Init

@[expose] public section

noncomputable section

namespace Cert.Proof

open Idealize.ShloMosaic Idealize.SL.Sem Cert.Kernel

/-- From memories that agree on the arguments and meet the precondition, kernel and reference both end with the attention
    of the three argument arrays in their result, and with their arguments unchanged. -/
theorem attention : Cert.algebraic_KernelIdeal_ReferenceIdeal_pre_finite_and_ones := by
  intro m g m' g' hpre hagree
  refine ⟨fun c => (Cert.KernelIdeal.Gen.dats m 0 c).arrAt 3 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  refine Eq.trans ?_ (Cert.KernelIdeal.Hand.final (Cert.KernelIdeal.Hand.ok_of_pre hpre c)).symm
  funext x
  refine (congrArg (Cert.ReferenceIdeal.Value.res_main_v37 m' c) (Idealize.ShloMosaic.ValueIdx.eq_ix2 (n0 := 16384) (n1 := 1024) x)).trans ?_
  refine (Cert.ReferenceIdeal.Hand.ref_at m' c (x 0) (x 1)).trans ?_
  rw [(hagree c).1, (hagree c).2.1, (hagree c).2.2]

/-- The reference terminates without fault, leaves its arguments as they were, and has no semaphore to leave nonzero. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The certificate's claim. -/
theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_and_ones.Gen.facts, Cert.Pre_finite_gate.Gen.facts,
  fun m ρ _ => Cert.Kernel.Gen.frame m ρ, fun m ρ _ => Cert.KernelIdeal.Gen.frame m ρ, fun m ρ _ => Cert.KernelIdeal.Gen.frame m ρ,
  reference_frame, fun m g _ => reference_frame m g True.intro,
  Cert.Bits2.frame, fun m ρ _ => Cert.Kernel2Ideal.Chunk.frame m ρ, fun m ρ _ => Cert.Kernel2Ideal.Chunk.frame m ρ,
  Cert.Kernel2Ideal.Chunk.reference_frame, fun m g _ => Cert.Kernel2Ideal.Chunk.reference_frame m g True.intro,
  fun m ρ _ => Cert.Kernel3.Gen.frame m ρ, fun m ρ _ => Cert.Kernel3Ideal.Gen.frame m ρ, Cert.Proj.reference_frame,
  fun m ρ _ => Cert.Kernel4.Gen.frame m ρ, fun m ρ _ => Cert.Kernel4Ideal.Gen.frame m ρ, Cert.Mla.reference_frame,
  trivial, attention, IdealRules.named_const.statement Cert.Kernel2Ideal.κ "cubic" .f32 0x3E922279#32 ((80338380498831 / 281474976710656 : ℝ) : EReal) rfl,
  Cert.Kernel2Ideal.Chunk.feed_forward, trivial, Cert.Proj.projection, trivial, Cert.Mla.projection⟩

end Cert.Proof

end
